-- ==== Defs.lean ====
def Pre_Ffn [hPre_routed : Cert.Pre_routed.Facts] (m : (ℓ : Loc Cert.Ffn.nD Cert.Ffn.τ Cert.Ffn.sig) → Buf (Elt Bits) ℓ) : Prop :=
  ∀ c : Dev Cert.Ffn.nD,
    (Cert.Pre_routed.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6))) = (fun _ => 1#1)

def Pre_FfnIdeal [hPre_routed : Cert.Pre_routed.Facts] (m : (ℓ : Loc Cert.FfnIdeal.nD Cert.FfnIdeal.τ Cert.FfnIdeal.sig) → Buf (Elt Ideal) ℓ) : Prop :=
  ∀ c : Dev Cert.FfnIdeal.nD,
    (Cert.Pre_routed.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_routed [hPre_routed : Cert.Pre_routed.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_routed.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_routable [hPre_routable : Cert.Pre_routable.Facts] (m : (ℓ : Loc Cert.MoeIdeal.nD Cert.MoeIdeal.τ Cert.MoeIdeal.sig) → Buf (Elt Ideal) ℓ) : Prop :=
  ∀ c : Dev Cert.MoeIdeal.nD,
    (Cert.Pre_routable.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9)) (m ((c.tc : Thread Cert.MoeIdeal.nD Cert.MoeIdeal.τ).loc Cert.MoeIdeal.main_arg10))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_routable [hPre_routable : Cert.Pre_routable.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_routable.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9)) (m ((c.tc : Thread Cert.MoeRefIdeal.nD Cert.MoeRefIdeal.τ).loc Cert.MoeRefIdeal.main_arg10))) = (fun _ => 1#1)

def quiescent_Ffn [hFfn : Cert.Ffn.Facts] [hPre_routed : Cert.Pre_routed.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] [hPre_routed : Cert.Pre_routed.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_routed [hFfnRefIdeal : Cert.FfnRefIdeal.Facts] [hPre_routed : Cert.Pre_routed.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_routed m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9)
      ∧ r.2.mem ((c.tc : Thread Cert.Lru.nD Cert.Lru.τ).loc Cert.Lru.main_arg10) = m ((c.tc : Thread Cert.Lru.nD Cert.Lru.τ).loc Cert.Lru.main_arg10)
      ∧ r.2.mem ((c.tc : Thread Cert.Lru.nD Cert.Lru.τ).loc Cert.Lru.main_arg11) = m ((c.tc : Thread Cert.Lru.nD Cert.Lru.τ).loc Cert.Lru.main_arg11)
      ∧ r.2.mem ((c.tc : Thread Cert.Lru.nD Cert.Lru.τ).loc Cert.Lru.main_arg12) = m ((c.tc : Thread Cert.Lru.nD Cert.Lru.τ).loc Cert.Lru.main_arg12)
      ∧ r.2.mem ((c.tc : Thread Cert.Lru.nD Cert.Lru.τ).loc Cert.Lru.main_arg13) = m ((c.tc : Thread Cert.Lru.nD Cert.Lru.τ).loc Cert.Lru.main_arg13)
      ∧ r.2.mem ((c.tc : Thread Cert.Lru.nD Cert.Lru.τ).loc Cert.Lru.main_arg14) = m ((c.tc : Thread Cert.Lru.nD Cert.Lru.τ).loc Cert.Lru.main_arg14))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
      ∧ r.2.mem ((c.tc : Thread Cert.LruIdeal.nD Cert.LruIdeal.τ).loc Cert.LruIdeal.main_arg10) = m ((c.tc : Thread Cert.LruIdeal.nD Cert.LruIdeal.τ).loc Cert.LruIdeal.main_arg10)
      ∧ r.2.mem ((c.tc : Thread Cert.LruIdeal.nD Cert.LruIdeal.τ).loc Cert.LruIdeal.main_arg11) = m ((c.tc : Thread Cert.LruIdeal.nD Cert.LruIdeal.τ).loc Cert.LruIdeal.main_arg11)
      ∧ r.2.mem ((c.tc : Thread Cert.LruIdeal.nD Cert.LruIdeal.τ).loc Cert.LruIdeal.main_arg12) = m ((c.tc : Thread Cert.LruIdeal.nD Cert.LruIdeal.τ).loc Cert.LruIdeal.main_arg12)
      ∧ r.2.mem ((c.tc : Thread Cert.LruIdeal.nD Cert.LruIdeal.τ).loc Cert.LruIdeal.main_arg13) = m ((c.tc : Thread Cert.LruIdeal.nD Cert.LruIdeal.τ).loc Cert.LruIdeal.main_arg13)
      ∧ r.2.mem ((c.tc : Thread Cert.LruIdeal.nD Cert.LruIdeal.τ).loc Cert.LruIdeal.main_arg14) = m ((c.tc : Thread Cert.LruIdeal.nD Cert.LruIdeal.τ).loc Cert.LruIdeal.main_arg14))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9)
      ∧ r.2.mem ((c.tc : Thread Cert.LruRefIdeal.nD Cert.LruRefIdeal.τ).loc Cert.LruRefIdeal.main_arg10) = m ((c.tc : Thread Cert.LruRefIdeal.nD Cert.LruRefIdeal.τ).loc Cert.LruRefIdeal.main_arg10)
      ∧ r.2.mem ((c.tc : Thread Cert.LruRefIdeal.nD Cert.LruRefIdeal.τ).loc Cert.LruRefIdeal.main_arg11) = m ((c.tc : Thread Cert.LruRefIdeal.nD Cert.LruRefIdeal.τ).loc Cert.LruRefIdeal.main_arg11)
      ∧ r.2.mem ((c.tc : Thread Cert.LruRefIdeal.nD Cert.LruRefIdeal.τ).loc Cert.LruRefIdeal.main_arg12) = m ((c.tc : Thread Cert.LruRefIdeal.nD Cert.LruRefIdeal.τ).loc Cert.LruRefIdeal.main_arg12)
      ∧ r.2.mem ((c.tc : Thread Cert.LruRefIdeal.nD Cert.LruRefIdeal.τ).loc Cert.LruRefIdeal.main_arg13) = m ((c.tc : Thread Cert.LruRefIdeal.nD Cert.LruRefIdeal.τ).loc Cert.LruRefIdeal.main_arg13)
      ∧ r.2.mem ((c.tc : Thread Cert.LruRefIdeal.nD Cert.LruRefIdeal.τ).loc Cert.LruRefIdeal.main_arg14) = m ((c.tc : Thread Cert.LruRefIdeal.nD Cert.LruRefIdeal.τ).loc Cert.LruRefIdeal.main_arg14))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9)
      ∧ r.2.mem ((c.tc : Thread Cert.Moe.nD Cert.Moe.τ).loc Cert.Moe.main_arg10) = m ((c.tc : Thread Cert.Moe.nD Cert.Moe.τ).loc Cert.Moe.main_arg10))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
      ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10))
      ∧ r.2.sem = fun _ => 0)

def quiescent_MoeIdeal_pre_routable [hMoeIdeal : Cert.MoeIdeal.Facts] [hPre_routable : Cert.Pre_routable.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_routable m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
      ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9)
      ∧ r.2.mem ((c.tc : Thread Cert.MoeRefIdeal.nD Cert.MoeRefIdeal.τ).loc Cert.MoeRefIdeal.main_arg10) = m ((c.tc : Thread Cert.MoeRefIdeal.nD Cert.MoeRefIdeal.τ).loc Cert.MoeRefIdeal.main_arg10))
      ∧ r.2.sem = fun _ => 0)

def quiescent_MoeRefIdeal_pre_routable [hMoeRefIdeal : Cert.MoeRefIdeal.Facts] [hPre_routable : Cert.Pre_routable.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_routable m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9)
      ∧ r.2.mem ((c.tc : Thread Cert.MoeRefIdeal.nD Cert.MoeRefIdeal.τ).loc Cert.MoeRefIdeal.main_arg10) = m ((c.tc : Thread Cert.MoeRefIdeal.nD Cert.MoeRefIdeal.τ).loc Cert.MoeRefIdeal.main_arg10))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] [hPre_routed : Cert.Pre_routed.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v43) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)
      ∧ m' ((c.tc : Thread Cert.LruRefIdeal.nD Cert.LruRefIdeal.τ).loc Cert.LruRefIdeal.main_arg10) = m ((c.tc : Thread Cert.LruIdeal.nD Cert.LruIdeal.τ).loc Cert.LruIdeal.main_arg10)
      ∧ m' ((c.tc : Thread Cert.LruRefIdeal.nD Cert.LruRefIdeal.τ).loc Cert.LruRefIdeal.main_arg11) = m ((c.tc : Thread Cert.LruIdeal.nD Cert.LruIdeal.τ).loc Cert.LruIdeal.main_arg11)
      ∧ m' ((c.tc : Thread Cert.LruRefIdeal.nD Cert.LruRefIdeal.τ).loc Cert.LruRefIdeal.main_arg12) = m ((c.tc : Thread Cert.LruIdeal.nD Cert.LruIdeal.τ).loc Cert.LruIdeal.main_arg12)
      ∧ m' ((c.tc : Thread Cert.LruRefIdeal.nD Cert.LruRefIdeal.τ).loc Cert.LruRefIdeal.main_arg13) = m ((c.tc : Thread Cert.LruIdeal.nD Cert.LruIdeal.τ).loc Cert.LruIdeal.main_arg13)
      ∧ m' ((c.tc : Thread Cert.LruRefIdeal.nD Cert.LruRefIdeal.τ).loc Cert.LruRefIdeal.main_arg14) = m ((c.tc : Thread Cert.LruIdeal.nD Cert.LruIdeal.τ).loc Cert.LruIdeal.main_arg14)) →
    ∃ (v0 : (c : Dev Cert.LruIdeal.nD) → Buf (Elt Ideal) ((c.tc : Thread Cert.LruIdeal.nD Cert.LruIdeal.τ).loc Cert.LruIdeal.main_v16_0)) (v1 : (c : Dev Cert.LruIdeal.nD) → Buf (Elt Ideal) ((c.tc : Thread Cert.LruIdeal.nD Cert.LruIdeal.τ).loc Cert.LruIdeal.main_v16_1)) (v2 : (c : Dev Cert.LruIdeal.nD) → Buf (Elt Ideal) ((c.tc : Thread Cert.LruIdeal.nD Cert.LruIdeal.τ).loc Cert.LruIdeal.main_v16_2)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v16_0) = v0 c
          ∧ r.2.mem ((c.tc : Thread Cert.LruIdeal.nD Cert.LruIdeal.τ).loc Cert.LruIdeal.main_v16_1) = v1 c
          ∧ r.2.mem ((c.tc : Thread Cert.LruIdeal.nD Cert.LruIdeal.τ).loc Cert.LruIdeal.main_v16_2) = v2 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
          ∧ r.2.mem ((c.tc : Thread Cert.LruIdeal.nD Cert.LruIdeal.τ).loc Cert.LruIdeal.main_arg10) = m ((c.tc : Thread Cert.LruIdeal.nD Cert.LruIdeal.τ).loc Cert.LruIdeal.main_arg10)
          ∧ r.2.mem ((c.tc : Thread Cert.LruIdeal.nD Cert.LruIdeal.τ).loc Cert.LruIdeal.main_arg11) = m ((c.tc : Thread Cert.LruIdeal.nD Cert.LruIdeal.τ).loc Cert.LruIdeal.main_arg11)
          ∧ r.2.mem ((c.tc : Thread Cert.LruIdeal.nD Cert.LruIdeal.τ).loc Cert.LruIdeal.main_arg12) = m ((c.tc : Thread Cert.LruIdeal.nD Cert.LruIdeal.τ).loc Cert.LruIdeal.main_arg12)
          ∧ r.2.mem ((c.tc : Thread Cert.LruIdeal.nD Cert.LruIdeal.τ).loc Cert.LruIdeal.main_arg13) = m ((c.tc : Thread Cert.LruIdeal.nD Cert.LruIdeal.τ).loc Cert.LruIdeal.main_arg13)
          ∧ r.2.mem ((c.tc : Thread Cert.LruIdeal.nD Cert.LruIdeal.τ).loc Cert.LruIdeal.main_arg14) = m ((c.tc : Thread Cert.LruIdeal.nD Cert.LruIdeal.τ).loc Cert.LruIdeal.main_arg14))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v209) = v0 c
          ∧ r.2.mem ((c.tc : Thread Cert.LruRefIdeal.nD Cert.LruRefIdeal.τ).loc Cert.LruRefIdeal.main_v211) = v1 c
          ∧ r.2.mem ((c.tc : Thread Cert.LruRefIdeal.nD Cert.LruRefIdeal.τ).loc Cert.LruRefIdeal.main_v214) = v2 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8)
          ∧ r.2.mem ((c.tc : Thread Cert.LruRefIdeal.nD Cert.LruRefIdeal.τ).loc Cert.LruRefIdeal.main_arg9) = m' ((c.tc : Thread Cert.LruRefIdeal.nD Cert.LruRefIdeal.τ).loc Cert.LruRefIdeal.main_arg9)
          ∧ r.2.mem ((c.tc : Thread Cert.LruRefIdeal.nD Cert.LruRefIdeal.τ).loc Cert.LruRefIdeal.main_arg10) = m' ((c.tc : Thread Cert.LruRefIdeal.nD Cert.LruRefIdeal.τ).loc Cert.LruRefIdeal.main_arg10)
          ∧ r.2.mem ((c.tc : Thread Cert.LruRefIdeal.nD Cert.LruRefIdeal.τ).loc Cert.LruRefIdeal.main_arg11) = m' ((c.tc : Thread Cert.LruRefIdeal.nD Cert.LruRefIdeal.τ).loc Cert.LruRefIdeal.main_arg11)
          ∧ r.2.mem ((c.tc : Thread Cert.LruRefIdeal.nD Cert.LruRefIdeal.τ).loc Cert.LruRefIdeal.main_arg12) = m' ((c.tc : Thread Cert.LruRefIdeal.nD Cert.LruRefIdeal.τ).loc Cert.LruRefIdeal.main_arg12)
          ∧ r.2.mem ((c.tc : Thread Cert.LruRefIdeal.nD Cert.LruRefIdeal.τ).loc Cert.LruRefIdeal.main_arg13) = m' ((c.tc : Thread Cert.LruRefIdeal.nD Cert.LruRefIdeal.τ).loc Cert.LruRefIdeal.main_arg13)
          ∧ r.2.mem ((c.tc : Thread Cert.LruRefIdeal.nD Cert.LruRefIdeal.τ).loc Cert.LruRefIdeal.main_arg14) = m' ((c.tc : Thread Cert.LruRefIdeal.nD Cert.LruRefIdeal.τ).loc Cert.LruRefIdeal.main_arg14))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v3_0)) (v1 : (c : Dev Cert.KvIdeal.nD) → Buf (Elt Ideal) ((c.tc : Thread Cert.KvIdeal.nD Cert.KvIdeal.τ).loc Cert.KvIdeal.main_v3_1)) (v2 : (c : Dev Cert.KvIdeal.nD) → Buf (Elt Ideal) ((c.tc : Thread Cert.KvIdeal.nD Cert.KvIdeal.τ).loc Cert.KvIdeal.main_v3_2)) (v3 : (c : Dev Cert.KvIdeal.nD) → Buf (Elt Ideal) ((c.tc : Thread Cert.KvIdeal.nD Cert.KvIdeal.τ).loc Cert.KvIdeal.main_v3_3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3_0) = v0 c
          ∧ r.2.mem ((c.tc : Thread Cert.KvIdeal.nD Cert.KvIdeal.τ).loc Cert.KvIdeal.main_v3_1) = v1 c
          ∧ r.2.mem ((c.tc : Thread Cert.KvIdeal.nD Cert.KvIdeal.τ).loc Cert.KvIdeal.main_v3_2) = v2 c
          ∧ r.2.mem ((c.tc : Thread Cert.KvIdeal.nD Cert.KvIdeal.τ).loc Cert.KvIdeal.main_v3_3) = v3 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v1) = v0 c
          ∧ r.2.mem ((c.tc : Thread Cert.KvRefIdeal.nD Cert.KvRefIdeal.τ).loc Cert.KvRefIdeal.main_v2) = v1 c
          ∧ r.2.mem ((c.tc : Thread Cert.KvRefIdeal.nD Cert.KvRefIdeal.τ).loc Cert.KvRefIdeal.main_v3) = v2 c
          ∧ r.2.mem ((c.tc : Thread Cert.KvRefIdeal.nD Cert.KvRefIdeal.τ).loc Cert.KvRefIdeal.main_v5) = v3 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v2_0)) (v1 : (c : Dev Cert.AdaIdeal.nD) → Buf (Elt Ideal) ((c.tc : Thread Cert.AdaIdeal.nD Cert.AdaIdeal.τ).loc Cert.AdaIdeal.main_v2_1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2_0) = v0 c
          ∧ r.2.mem ((c.tc : Thread Cert.AdaIdeal.nD Cert.AdaIdeal.τ).loc Cert.AdaIdeal.main_v2_1) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v13) = v0 c
          ∧ r.2.mem ((c.tc : Thread Cert.AdaRefIdeal.nD Cert.AdaRefIdeal.τ).loc Cert.AdaRefIdeal.main_v27) = v1 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Moe_MoeIdeal : Prop :=
  True

def algebraic_MoeIdeal_MoeRefIdeal_pre_routable [hMoeIdeal : Cert.MoeIdeal.Facts] [hMoeRefIdeal : Cert.MoeRefIdeal.Facts] [hPre_routable : Cert.Pre_routable.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_routable m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)
      ∧ m' ((c.tc : Thread Cert.MoeRefIdeal.nD Cert.MoeRefIdeal.τ).loc Cert.MoeRefIdeal.main_arg9) = m ((c.tc : Thread Cert.MoeIdeal.nD Cert.MoeIdeal.τ).loc Cert.MoeIdeal.main_arg9)
      ∧ m' ((c.tc : Thread Cert.MoeRefIdeal.nD Cert.MoeRefIdeal.τ).loc Cert.MoeRefIdeal.main_arg10) = m ((c.tc : Thread Cert.MoeIdeal.nD Cert.MoeIdeal.τ).loc Cert.MoeIdeal.main_arg10)) →
    ∃ (v0 : (c : Dev Cert.MoeIdeal.nD) → Buf (Elt Ideal) ((c.tc : Thread Cert.MoeIdeal.nD Cert.MoeIdeal.τ).loc Cert.MoeIdeal.main_v15_0)) (v1 : (c : Dev Cert.MoeIdeal.nD) → Buf (Elt Ideal) ((c.tc : Thread Cert.MoeIdeal.nD Cert.MoeIdeal.τ).loc Cert.MoeIdeal.main_v15_1)) (v2 : (c : Dev Cert.MoeIdeal.nD) → Buf (Elt Ideal) ((c.tc : Thread Cert.MoeIdeal.nD Cert.MoeIdeal.τ).loc Cert.MoeIdeal.main_v15_2)) (v3 : (c : Dev Cert.MoeIdeal.nD) → Buf (Elt Ideal) ((c.tc : Thread Cert.MoeIdeal.nD Cert.MoeIdeal.τ).loc Cert.MoeIdeal.main_v15_3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v15_0) = v0 c
          ∧ r.2.mem ((c.tc : Thread Cert.MoeIdeal.nD Cert.MoeIdeal.τ).loc Cert.MoeIdeal.main_v15_1) = v1 c
          ∧ r.2.mem ((c.tc : Thread Cert.MoeIdeal.nD Cert.MoeIdeal.τ).loc Cert.MoeIdeal.main_v15_2) = v2 c
          ∧ r.2.mem ((c.tc : Thread Cert.MoeIdeal.nD Cert.MoeIdeal.τ).loc Cert.MoeIdeal.main_v15_3) = v3 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
          ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v120) = v0 c
          ∧ r.2.mem ((c.tc : Thread Cert.MoeRefIdeal.nD Cert.MoeRefIdeal.τ).loc Cert.MoeRefIdeal.main_v121) = v1 c
          ∧ r.2.mem ((c.tc : Thread Cert.MoeRefIdeal.nD Cert.MoeRefIdeal.τ).loc Cert.MoeRefIdeal.main_v122) = v2 c
          ∧ r.2.mem ((c.tc : Thread Cert.MoeRefIdeal.nD Cert.MoeRefIdeal.τ).loc Cert.MoeRefIdeal.main_v123) = v3 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8)
          ∧ r.2.mem ((c.tc : Thread Cert.MoeRefIdeal.nD Cert.MoeRefIdeal.τ).loc Cert.MoeRefIdeal.main_arg9) = m' ((c.tc : Thread Cert.MoeRefIdeal.nD Cert.MoeRefIdeal.τ).loc Cert.MoeRefIdeal.main_arg9)
          ∧ r.2.mem ((c.tc : Thread Cert.MoeRefIdeal.nD Cert.MoeRefIdeal.τ).loc Cert.MoeRefIdeal.main_arg10) = m' ((c.tc : Thread Cert.MoeRefIdeal.nD Cert.MoeRefIdeal.τ).loc Cert.MoeRefIdeal.main_arg10))

def Claim : Prop :=
  ∃ (hFfn : Cert.Ffn.Facts) (hFfnIdeal : Cert.FfnIdeal.Facts) (hFfnRefIdeal : Cert.FfnRefIdeal.Facts) (hLru : Cert.Lru.Facts) (hLruIdeal : Cert.LruIdeal.Facts) (hLruRefIdeal : Cert.LruRefIdeal.Facts) (hKv : Cert.Kv.Facts) (hKvIdeal : Cert.KvIdeal.Facts) (hKvRefIdeal : Cert.KvRefIdeal.Facts) (hAda : Cert.Ada.Facts) (hAdaIdeal : Cert.AdaIdeal.Facts) (hAdaRefIdeal : Cert.AdaRefIdeal.Facts) (hMoe : Cert.Moe.Facts) (hMoeIdeal : Cert.MoeIdeal.Facts) (hMoeRefIdeal : Cert.MoeRefIdeal.Facts) (hPre_routed : Cert.Pre_routed.Facts) (hPre_routable : Cert.Pre_routable.Facts),
    quiescent_Ffn (hFfn := hFfn) (hPre_routed := hPre_routed)
    ∧ quiescent_FfnIdeal (hFfnIdeal := hFfnIdeal) (hPre_routed := hPre_routed)
    ∧ quiescent_FfnRefIdeal (hFfnRefIdeal := hFfnRefIdeal)
    ∧ quiescent_FfnRefIdeal_pre_routed (hFfnRefIdeal := hFfnRefIdeal) (hPre_routed := hPre_routed)
    ∧ quiescent_Lru (hLru := hLru)
    ∧ quiescent_LruIdeal (hLruIdeal := hLruIdeal)
    ∧ quiescent_LruRefIdeal (hLruRefIdeal := hLruRefIdeal)
    ∧ quiescent_Kv (hKv := hKv)
    ∧ quiescent_KvIdeal (hKvIdeal := hKvIdeal)
    ∧ quiescent_KvRefIdeal (hKvRefIdeal := hKvRefIdeal)
    ∧ quiescent_Ada (hAda := hAda)
    ∧ quiescent_AdaIdeal (hAdaIdeal := hAdaIdeal)
    ∧ quiescent_AdaRefIdeal (hAdaRefIdeal := hAdaRefIdeal)
    ∧ quiescent_Moe (hMoe := hMoe)
    ∧ quiescent_MoeIdeal (hMoeIdeal := hMoeIdeal)
    ∧ quiescent_MoeIdeal_pre_routable (hMoeIdeal := hMoeIdeal) (hPre_routable := hPre_routable)
    ∧ quiescent_MoeRefIdeal (hMoeRefIdeal := hMoeRefIdeal)
    ∧ quiescent_MoeRefIdeal_pre_routable (hMoeRefIdeal := hMoeRefIdeal) (hPre_routable := hPre_routable)
    ∧ preserves_Ffn_FfnIdeal
    ∧ algebraic_FfnIdeal_FfnRefIdeal (hFfnIdeal := hFfnIdeal) (hFfnRefIdeal := hFfnRefIdeal) (hPre_routed := hPre_routed)
    ∧ preserves_Lru_LruIdeal
    ∧ algebraic_LruIdeal_LruRefIdeal (hLruIdeal := hLruIdeal) (hLruRefIdeal := hLruRefIdeal)
    ∧ preserves_Kv_KvIdeal
    ∧ algebraic_KvIdeal_KvRefIdeal (hKvIdeal := hKvIdeal) (hKvRefIdeal := hKvRefIdeal)
    ∧ preserves_Ada_AdaIdeal
    ∧ algebraic_AdaIdeal_AdaRefIdeal (hAdaIdeal := hAdaIdeal) (hAdaRefIdeal := hAdaRefIdeal)
    ∧ preserves_Moe_MoeIdeal
    ∧ algebraic_MoeIdeal_MoeRefIdeal_pre_routable (hMoeIdeal := hMoeIdeal) (hMoeRefIdeal := hMoeRefIdeal) (hPre_routable := hPre_routable)
-- ==== Pre_routable.lean ====
abbrev S512x1024 : Shape := ⟨2, ![512, 1024]⟩
abbrev S8x128x3072 : Shape := ⟨3, ![8, 128, 3072]⟩
abbrev S4x1024x4 : Shape := ⟨3, ![4, 1024, 4]⟩
abbrev S4x4 : Shape := ⟨2, ![4, 4]⟩
abbrev S4x1024x4x4 : Shape := ⟨4, ![4, 1024, 4, 4]⟩
abbrev S4x4x4 : Shape := ⟨3, ![4, 4, 4]⟩
abbrev S4x16x1024x512 : Shape := ⟨4, ![4, 16, 1024, 512]⟩
abbrev S4x16x512x1024 : Shape := ⟨4, ![4, 16, 512, 1024]⟩
abbrev S4x2x1024 : Shape := ⟨3, ![4, 2, 1024]⟩
abbrev S1x128x3072 : Shape := ⟨3, ![1, 128, 3072]⟩
abbrev S128x3072 : Shape := ⟨2, ![128, 3072]⟩
abbrev S1x128x1024 : Shape := ⟨3, ![1, 128, 1024]⟩
abbrev S4x128x1024 : Shape := ⟨3, ![4, 128, 1024]⟩
abbrev S1x1024x4 : Shape := ⟨3, ![1, 1024, 4]⟩
abbrev S1024x4 : Shape := ⟨2, ![1024, 4]⟩
abbrev S512x4 : Shape := ⟨2, ![512, 4]⟩
abbrev S1x4 : Shape := ⟨2, ![1, 4]⟩
abbrev S4 : Shape := ⟨1, ![4]⟩
abbrev S1x1024x4x4 : Shape := ⟨4, ![1, 1024, 4, 4]⟩
abbrev S1024x4x4 : Shape := ⟨3, ![1024, 4, 4]⟩
abbrev S512x4x4 : Shape := ⟨3, ![512, 4, 4]⟩
abbrev S1x4x4 : Shape := ⟨3, ![1, 4, 4]⟩
abbrev S_ : Shape := ⟨0, ![]⟩

class Facts : Prop where
  slices_S8x128x3072_S1x128x3072_7_0_0 : S8x128x3072.Slices ![7, 0, 0] S1x128x3072
  shapeCasts_S1x128x3072_S128x3072 : S1x128x3072.ShapeCasts S128x3072
  bcast_S128x3072_S1x128x3072_1_2 : S128x3072.BroadcastsInDim S1x128x3072 (![1, 2] : Fin 2 → Fin S1x128x3072.rank)
  slices_S1x128x3072_S1x128x1024_0_0_0 : S1x128x3072.Slices ![0, 0, 0] S1x128x1024
  slices_S1x128x3072_S1x128x1024_0_0_1024 : S1x128x3072.Slices ![0, 0, 1024] S1x128x1024
  slices_S1x128x3072_S1x128x1024_0_0_2048 : S1x128x3072.Slices ![0, 0, 2048] S1x128x1024
  shapeCasts_S512x1024_S4x128x1024 : S512x1024.ShapeCasts S4x128x1024
  bcast_S1x128x1024_S4x128x1024_0_1_2 : S1x128x1024.BroadcastsInDim S4x128x1024 (![0, 1, 2] : Fin 3 → Fin S4x128x1024.rank)
  shapeCasts_S4x128x1024_S512x1024 : S4x128x1024.ShapeCasts S512x1024
  slices_S4x1024x4_S1x1024x4_3_0_0 : S4x1024x4.Slices ![3, 0, 0] S1x1024x4
  shapeCasts_S1x1024x4_S1024x4 : S1x1024x4.ShapeCasts S1024x4
  slices_S4x4_S1x4_3_0 : S4x4.Slices ![3, 0] S1x4
  shapeCasts_S1x4_S4 : S1x4.ShapeCasts S4
  bcast_S4_S1x4_1 : S4.BroadcastsInDim S1x4 (![1] : Fin 1 → Fin S1x4.rank)
  bcast_S1x4_S512x4_0_1 : S1x4.BroadcastsInDim S512x4 (![0, 1] : Fin 2 → Fin S512x4.rank)
  slices_S4x1024x4x4_S1x1024x4x4_3_0_0_0 : S4x1024x4x4.Slices ![3, 0, 0, 0] S1x1024x4x4
  shapeCasts_S1x1024x4x4_S1024x4x4 : S1x1024x4x4.ShapeCasts S1024x4x4
  slices_S4x4x4_S1x4x4_3_0_0 : S4x4x4.Slices ![3, 0, 0] S1x4x4
  shapeCasts_S1x4x4_S4x4 : S1x4x4.ShapeCasts S4x4
  bcast_S4x4_S1x4x4_1_2 : S4x4.BroadcastsInDim S1x4x4 (![1, 2] : Fin 2 → Fin S1x4x4.rank)
  bcast_S1x4x4_S512x4x4_0_1_2 : S1x4x4.BroadcastsInDim S512x4x4 (![0, 1, 2] : Fin 3 → Fin S512x4x4.rank)
  bcast_S_S512x4 : S_.BroadcastsInDim S512x4 (![] : Fin 0 → Fin S512x4.rank)
  reducesTo_S512x4_S_d0_1 : S512x4.ReducesTo [0, 1] S_
  h_S_ : 0 < S_.numel
  bcast_S_S512x4x4 : S_.BroadcastsInDim S512x4x4 (![] : Fin 0 → Fin S512x4x4.rank)
  reducesTo_S512x4x4_S_d0_1_2 : S512x4x4.ReducesTo [0, 1, 2] S_
  dot_S512x1024_S1024x4_S512x4_1_0_0_1_n_n_wf : DotDims.WF S512x1024 S1024x4 S512x4 [1] [0] [0] [1] [] []
  dot_S512x1024_S1024x4x4_S512x4x4_1_0_0_12_n_n_wf : DotDims.WF S512x1024 S1024x4x4 S512x4x4 [1] [0] [0] [1, 2] [] []

variable [Facts]

def dot_S512x1024_S1024x4_S512x4_1_0_0_1_n_n : DotDims S512x1024 S1024x4 S512x4 where
  lhsContracting := [1]
  rhsContracting := [0]
  lhsNonContracting := [0]
  rhsNonContracting := [1]
  lhsBatch := []
  rhsBatch := []
  wf := dot_S512x1024_S1024x4_S512x4_1_0_0_1_n_n_wf
def dot_S512x1024_S1024x4x4_S512x4x4_1_0_0_12_n_n : DotDims S512x1024 S1024x4x4 S512x4x4 where
  lhsContracting := [1]
  rhsContracting := [0]
  lhsNonContracting := [0]
  rhsNonContracting := [1, 2]
  lhsBatch := []
  rhsBatch := []
  wf := dot_S512x1024_S1024x4x4_S512x4x4_1_0_0_12_n_n_wf
def fn_part1 {F : FTy → Type} [FloatOps F] (main_v19 : FVec F S512x4 .f32) (main_v22 : FVec F S512x4x4 .f32) (main_v23 : FVec F S1x4x4 .f32) : IVec S_ 1 :=
  let main_v24 : FVec F S4x4 .f32 := shapeCast S4x4 main_v23 shapeCasts_S1x4x4_S4x4
  let main_v25 : FVec F S1x4x4 .f32 := broadcastInDim S1x4x4 ![1, 2] bcast_S4x4_S1x4x4_1_2 main_v24
  let main_v26 : FVec F S512x4x4 .f32 := broadcastInDim S512x4x4 ![0, 1, 2] bcast_S1x4x4_S512x4x4_0_1_2 main_v25
  let main_v27 : FVec F S512x4x4 .f32 := addf main_v22 main_v26
  let main_cst : FVec F S_ .f32 := constant S_ .f32 0xF149F2CA#32
  let main_v28 : FVec F S512x4 .f32 := broadcastInDim S512x4 ![] bcast_S_S512x4 main_cst
  let main_v29 : IVec S512x4 1 := cmpf .ogt main_v19 main_v28
  let main_cst_0 : FVec F S_ .f32 := constant S_ .f32 0x7F800000#32
  let main_v30 : FVec F S512x4 .f32 := broadcastInDim S512x4 ![] bcast_S_S512x4 main_cst_0
  let main_v31 : IVec S512x4 1 := cmpf .olt main_v19 main_v30
  let main_v32 : IVec S512x4 1 := andi main_v29 main_v31
  let main_c : IVec S_ 1 := constantI S_ 1 1#1
  let main_v33 : IVec S_ 1 := (fun x v => Host.reduce IntOp.andi x v reducesTo_S512x4_S_d0_1 h_S_) main_v32 main_c
  let main_cst_1 : FVec F S_ .f32 := constant S_ .f32 0xF149F2CA#32
  let main_v34 : FVec F S512x4x4 .f32 := broadcastInDim S512x4x4 ![] bcast_S_S512x4x4 main_cst_1
  let main_v35 : IVec S512x4x4 1 := cmpf .ogt main_v27 main_v34
  let main_cst_2 : FVec F S_ .f32 := constant S_ .f32 0x7F800000#32
  let main_v36 : FVec F S512x4x4 .f32 := broadcastInDim S512x4x4 ![] bcast_S_S512x4x4 main_cst_2
  let main_v37 : IVec S512x4x4 1 := cmpf .olt main_v27 main_v36
  let main_v38 : IVec S512x4x4 1 := andi main_v35 main_v37
  let main_c_3 : IVec S_ 1 := constantI S_ 1 1#1
  let main_v39 : IVec S_ 1 := (fun x v => Host.reduce IntOp.andi x v reducesTo_S512x4x4_S_d0_1_2 h_S_) main_v38 main_c_3
  let main_v40 : IVec S_ 1 := andi main_v33 main_v39
  main_v40

def fn {F : FTy → Type} [FloatOps F] (main_arg0 : FVec F S512x1024 .f32) (main_arg1 : FVec F S8x128x3072 .f32) (main_arg2 : FVec F S4x1024x4 .f32) (main_arg3 : FVec F S4x4 .f32) (main_arg4 : FVec F S4x1024x4x4 .f32) (main_arg5 : FVec F S4x4x4 .f32) (main_arg6 : FVec F S4x16x1024x512 .f32) (main_arg7 : FVec F S4x16x1024x512 .f32) (main_arg8 : FVec F S4x16x512x1024 .f32) (main_arg9 : FVec F S4x2x1024 .f32) (main_arg10 : FVec F S4x2x1024 .f32) : IVec S_ 1 :=
  let main_v0 : FVec F S1x128x3072 .f32 := (extractStridedSlice S1x128x3072 ![7, 0, 0] · slices_S8x128x3072_S1x128x3072_7_0_0) main_arg1
  let main_v1 : FVec F S128x3072 .f32 := shapeCast S128x3072 main_v0 shapeCasts_S1x128x3072_S128x3072
  let main_v2 : FVec F S1x128x3072 .f32 := broadcastInDim S1x128x3072 ![1, 2] bcast_S128x3072_S1x128x3072_1_2 main_v1
  let main_v3 : FVec F S1x128x1024 .f32 := (extractStridedSlice S1x128x1024 ![0, 0, 0] · slices_S1x128x3072_S1x128x1024_0_0_0) main_v2
  let main_v4 : FVec F S1x128x1024 .f32 := (extractStridedSlice S1x128x1024 ![0, 0, 1024] · slices_S1x128x3072_S1x128x1024_0_0_1024) main_v2
  let main_v5 : FVec F S1x128x1024 .f32 := (extractStridedSlice S1x128x1024 ![0, 0, 2048] · slices_S1x128x3072_S1x128x1024_0_0_2048) main_v2
  let main_v6 : FVec F S4x128x1024 .f32 := shapeCast S4x128x1024 main_arg0 shapeCasts_S512x1024_S4x128x1024
  let main_v7 : FVec F S4x128x1024 .f32 := broadcastInDim S4x128x1024 ![0, 1, 2] bcast_S1x128x1024_S4x128x1024_0_1_2 main_v4
  let main_v8 : FVec F S4x128x1024 .f32 := mulf main_v6 main_v7
  let main_v9 : FVec F S4x128x1024 .f32 := broadcastInDim S4x128x1024 ![0, 1, 2] bcast_S1x128x1024_S4x128x1024_0_1_2 main_v3
  let main_v10 : FVec F S4x128x1024 .f32 := addf main_v8 main_v9
  let main_v11 : FVec F S512x1024 .f32 := shapeCast S512x1024 main_v10 shapeCasts_S4x128x1024_S512x1024
  let main_v12 : FVec F S1x1024x4 .f32 := (extractStridedSlice S1x1024x4 ![3, 0, 0] · slices_S4x1024x4_S1x1024x4_3_0_0) main_arg2
  let main_v13 : FVec F S1024x4 .f32 := shapeCast S1024x4 main_v12 shapeCasts_S1x1024x4_S1024x4
  let main_v14 : FVec F S512x4 .f32 := (fun l r => Host.dotGeneral dot_S512x1024_S1024x4_S512x4_1_0_0_1_n_n none l r) main_v11 main_v13
  let main_v15 : FVec F S1x4 .f32 := (extractStridedSlice S1x4 ![3, 0] · slices_S4x4_S1x4_3_0) main_arg3
  let main_v16 : FVec F S4 .f32 := shapeCast S4 main_v15 shapeCasts_S1x4_S4
  let main_v17 : FVec F S1x4 .f32 := broadcastInDim S1x4 ![1] bcast_S4_S1x4_1 main_v16
  let main_v18 : FVec F S512x4 .f32 := broadcastInDim S512x4 ![0, 1] bcast_S1x4_S512x4_0_1 main_v17
  let main_v19 : FVec F S512x4 .f32 := addf main_v14 main_v18
  let main_v20 : FVec F S1x1024x4x4 .f32 := (extractStridedSlice S1x1024x4x4 ![3, 0, 0, 0] · slices_S4x1024x4x4_S1x1024x4x4_3_0_0_0) main_arg4
  let main_v21 : FVec F S1024x4x4 .f32 := shapeCast S1024x4x4 main_v20 shapeCasts_S1x1024x4x4_S1024x4x4
  let main_v22 : FVec F S512x4x4 .f32 := (fun l r => Host.dotGeneral dot_S512x1024_S1024x4x4_S512x4x4_1_0_0_12_n_n none l r) main_v11 main_v21
  let main_v23 : FVec F S1x4x4 .f32 := (extractStridedSlice S1x4x4 ![3, 0, 0] · slices_S4x4x4_S1x4x4_3_0_0) main_arg5
  fn_part1 (F := F) main_v19 main_v22 main_v23
-- ==== Pre_routed.lean ====
abbrev S88 : Shape := ⟨1, ![88]⟩
abbrev S1 : Shape := ⟨1, ![1]⟩
abbrev S22528x8x128 : Shape := ⟨3, ![22528, 8, 128]⟩
abbrev S16x1024x512 : Shape := ⟨3, ![16, 1024, 512]⟩
abbrev S16x512x1024 : Shape := ⟨3, ![16, 512, 1024]⟩
abbrev S_ : Shape := ⟨0, ![]⟩

class Facts : Prop where
  bcast_S_S88 : S_.BroadcastsInDim S88 (![] : Fin 0 → Fin S88.rank)
  reducesTo_S88_S_d0 : S88.ReducesTo [0] S_
  h_S_ : 0 < S_.numel

variable [Facts]

def fn {F : FTy → Type} [FloatOps F] (main_arg0 : IVec S88 32) (main_arg1 : IVec S88 32) (main_arg2 : IVec S1 32) (main_arg3 : IVec S22528x8x128 32) (main_arg4 : FVec F S16x1024x512 .bf16) (main_arg5 : FVec F S16x1024x512 .bf16) (main_arg6 : FVec F S16x512x1024 .bf16) : IVec S_ 1 :=
  let main_c : IVec S_ 32 := constantI S_ 32 0#32
  let main_v0 : IVec S88 32 := broadcastInDim S88 ![] bcast_S_S88 main_c
  let main_v1 : IVec S88 1 := cmpi .sge main_arg0 main_v0
  let main_c_0 : IVec S_ 32 := constantI S_ 32 16#32
  let main_v2 : IVec S88 32 := broadcastInDim S88 ![] bcast_S_S88 main_c_0
  let main_v3 : IVec S88 1 := cmpi .slt main_arg0 main_v2
  let main_v4 : IVec S88 1 := andi main_v1 main_v3
  let main_c_1 : IVec S_ 32 := constantI S_ 32 0#32
  let main_v5 : IVec S88 32 := broadcastInDim S88 ![] bcast_S_S88 main_c_1
  let main_v6 : IVec S88 1 := cmpi .sge main_arg1 main_v5
  let main_v7 : IVec S88 1 := andi main_v4 main_v6
  let main_c_2 : IVec S_ 32 := constantI S_ 32 16#32
  let main_v8 : IVec S88 32 := broadcastInDim S88 ![] bcast_S_S88 main_c_2
  let main_v9 : IVec S88 1 := cmpi .slt main_arg1 main_v8
  let main_v10 : IVec S88 1 := andi main_v7 main_v9
  let main_v11 : IVec S88 1 := cmpi .ne main_arg0 main_arg1
  let main_v12 : IVec S88 1 := andi main_v10 main_v11
  let main_c_3 : IVec S_ 1 := constantI S_ 1 1#1
  let main_v13 : IVec S_ 1 := (fun x v => Host.reduce IntOp.andi x v reducesTo_S88_S_d0 h_S_) main_v12 main_c_3
  main_v13
-- ==== Ffn.lean ====
abbrev S88 : Shape := ⟨1, ![88]⟩
abbrev S1 : Shape := ⟨1, ![1]⟩
abbrev S22528x8x128 : Shape := ⟨3, ![22528, 8, 128]⟩
abbrev S16x1024x512 : Shape := ⟨3, ![16, 1024, 512]⟩
abbrev S16x512x1024 : Shape := ⟨3, ![16, 512, 1024]⟩
abbrev S256x8x128 : Shape := ⟨3, ![256, 8, 128]⟩
abbrev S1x1024x512 : Shape := ⟨3, ![1, 1024, 512]⟩
abbrev S1x512x1024 : Shape := ⟨3, ![1, 512, 1024]⟩
abbrev S256x1024 : Shape := ⟨2, ![256, 1024]⟩
abbrev S256x512 : Shape := ⟨2, ![256, 512]⟩
abbrev S256x128 : Shape := ⟨2, ![256, 128]⟩
abbrev S1024x512 : Shape := ⟨2, ![1024, 512]⟩
abbrev S256x1 : Shape := ⟨2, ![256, 1]⟩
abbrev S512x1024 : Shape := ⟨2, ![512, 1024]⟩

abbrev nBuf : Space → Nat
  | .hbm => 5
  | .vmem => 16
  | .smem => 3
  | _ => 0

abbrev bufTy : (tb : Table) → Fin (tcTables nBuf tb) → BufTy
  | .hbm, ⟨0, _⟩ => ⟨S22528x8x128, .i32⟩
  | .hbm, ⟨1, _⟩ => ⟨S16x1024x512, .bf16⟩
  | .hbm, ⟨2, _⟩ => ⟨S16x1024x512, .bf16⟩
  | .hbm, ⟨3, _⟩ => ⟨S16x512x1024, .bf16⟩
  | .hbm, ⟨4, _⟩ => ⟨S22528x8x128, .f32⟩
  | .local _ .vmem, ⟨0, _⟩ => ⟨S256x8x128, .i32⟩
  | .local _ .vmem, ⟨1, _⟩ => ⟨S256x8x128, .i32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S256x8x128, .f32⟩
  | .local _ .vmem, ⟨15, _⟩ => ⟨S256x8x128, .f32⟩
  | .local _ .smem, ⟨0, _⟩ => ⟨S88, .i32⟩
  | .local _ .smem, ⟨1, _⟩ => ⟨S88, .i32⟩
  | .local _ .smem, ⟨2, _⟩ => ⟨S1, .i32⟩
  | _, _ => ⟨S22528x8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![88], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S88 : Shape := ⟨1, ![88]⟩
abbrev S1 : Shape := ⟨1, ![1]⟩
abbrev S22528x8x128 : Shape := ⟨3, ![22528, 8, 128]⟩
abbrev S16x1024x512 : Shape := ⟨3, ![16, 1024, 512]⟩
abbrev S16x512x1024 : Shape := ⟨3, ![16, 512, 1024]⟩
abbrev S22528x1024 : Shape := ⟨2, ![22528, 1024]⟩
abbrev S22528x512 : Shape := ⟨2, ![22528, 512]⟩
abbrev S_ : Shape := ⟨0, ![]⟩
abbrev S22528x2 : Shape := ⟨2, ![22528, 2]⟩
abbrev S88x1 : Shape := ⟨2, ![88, 1]⟩
abbrev S88x256 : Shape := ⟨2, ![88, 256]⟩
abbrev S22528 : Shape := ⟨1, ![22528]⟩
abbrev S22528x1 : Shape := ⟨2, ![22528, 1]⟩
abbrev S22528x2x1 : Shape := ⟨3, ![22528, 2, 1]⟩
abbrev S1x1x16 : Shape := ⟨3, ![1, 1, 16]⟩
abbrev S22528x2x16 : Shape := ⟨3, ![22528, 2, 16]⟩
abbrev S22528x16 : Shape := ⟨2, ![22528, 16]⟩
abbrev S22528x16x512 : Shape := ⟨3, ![22528, 16, 512]⟩
abbrev S22528x16x1 : Shape := ⟨3, ![22528, 16, 1]⟩

abbrev nBuf : Space → Nat
  | .hbm => 70
  | .vmem => 0
  | .smem => 0
  | _ => 0

abbrev bufTy : (tb : Table) → Fin (tcTables nBuf tb) → BufTy
  | .hbm, ⟨0, _⟩ => ⟨S88, .i32⟩
  | .hbm, ⟨1, _⟩ => ⟨S88, .i32⟩
  | .hbm, ⟨2, _⟩ => ⟨S1, .i32⟩
  | .hbm, ⟨3, _⟩ => ⟨S22528x8x128, .i32⟩
  | .hbm, ⟨4, _⟩ => ⟨S16x1024x512, .bf16⟩
  | .hbm, ⟨5, _⟩ => ⟨S16x1024x512, .bf16⟩
  | .hbm, ⟨6, _⟩ => ⟨S16x512x1024, .bf16⟩
  | .hbm, ⟨7, _⟩ => ⟨S22528x1024, .i32⟩
  | .hbm, ⟨8, _⟩ => ⟨S22528x512, .i32⟩
  | .hbm, ⟨9, _⟩ => ⟨S_, .i32⟩
  | .hbm, ⟨10, _⟩ => ⟨S22528x512, .i32⟩
  | .hbm, ⟨11, _⟩ => ⟨S22528x512, .i32⟩
  | .hbm, ⟨12, _⟩ => ⟨S22528x512, .f32⟩
  | .hbm, ⟨13, _⟩ => ⟨S22528x512, .i32⟩
  | .hbm, ⟨14, _⟩ => ⟨S_, .i32⟩
  | .hbm, ⟨15, _⟩ => ⟨S22528x512, .i32⟩
  | .hbm, ⟨16, _⟩ => ⟨S22528x512, .i32⟩
  | .hbm, ⟨17, _⟩ => ⟨S22528x512, .f32⟩
  | .hbm, ⟨18, _⟩ => ⟨S22528x1024, .f32⟩
  | .hbm, ⟨19, _⟩ => ⟨S22528x2, .i32⟩
  | .hbm, ⟨20, _⟩ => ⟨S22528x2, .f32⟩
  | .hbm, ⟨21, _⟩ => ⟨S88, .i32⟩
  | .hbm, ⟨22, _⟩ => ⟨S88x1, .i32⟩
  | .hbm, ⟨23, _⟩ => ⟨S88x256, .i32⟩
  | .hbm, ⟨24, _⟩ => ⟨S22528, .i32⟩
  | .hbm, ⟨25, _⟩ => ⟨S_, .i32⟩
  | .hbm, ⟨26, _⟩ => ⟨S22528, .i32⟩
  | .hbm, ⟨27, _⟩ => ⟨S22528, .i1⟩
  | .hbm, ⟨28, _⟩ => ⟨S88x1, .i32⟩
  | .hbm, ⟨29, _⟩ => ⟨S88x256, .i32⟩
  | .hbm, ⟨30, _⟩ => ⟨S22528, .i32⟩
  | .hbm, ⟨31, _⟩ => ⟨S88x1, .i32⟩
  | .hbm, ⟨32, _⟩ => ⟨S88x256, .i32⟩
  | .hbm, ⟨33, _⟩ => ⟨S22528, .i32⟩
  | .hbm, ⟨34, _⟩ => ⟨S22528x1, .i32⟩
  | .hbm, ⟨35, _⟩ => ⟨S22528x1, .i32⟩
  | .hbm, ⟨36, _⟩ => ⟨S22528x2, .i32⟩
  | .hbm, ⟨37, _⟩ => ⟨S22528x2x1, .i32⟩
  | .hbm, ⟨38, _⟩ => ⟨S1x1x16, .i32⟩
  | .hbm, ⟨39, _⟩ => ⟨S22528x2x16, .i32⟩
  | .hbm, ⟨40, _⟩ => ⟨S22528x2x16, .i32⟩
  | .hbm, ⟨41, _⟩ => ⟨S22528x2x16, .i1⟩
  | .hbm, ⟨42, _⟩ => ⟨S22528x2x16, .f32⟩
  | .hbm, ⟨43, _⟩ => ⟨S22528x16, .f32⟩
  | .hbm, ⟨44, _⟩ => ⟨S22528x1, .i1⟩
  | .hbm, ⟨45, _⟩ => ⟨S_, .f32⟩
  | .hbm, ⟨46, _⟩ => ⟨S_, .f32⟩
  | .hbm, ⟨47, _⟩ => ⟨S22528x16, .i1⟩
  | .hbm, ⟨48, _⟩ => ⟨S22528x16, .f32⟩
  | .hbm, ⟨49, _⟩ => ⟨S22528x16, .f32⟩
  | .hbm, ⟨50, _⟩ => ⟨S16x1024x512, .f32⟩
  | .hbm, ⟨51, _⟩ => ⟨S16x1024x512, .f32⟩
  | .hbm, ⟨52, _⟩ => ⟨S16x512x1024, .f32⟩
  | .hbm, ⟨53, _⟩ => ⟨S22528x16x512, .f32⟩
  | .hbm, ⟨54, _⟩ => ⟨S22528x16x512, .f32⟩
  | .hbm, ⟨55, _⟩ => ⟨S22528x16x512, .f32⟩
  | .hbm, ⟨56, _⟩ => ⟨S_, .f32⟩
  | .hbm, ⟨57, _⟩ => ⟨S22528x16x512, .f32⟩
  | .hbm, ⟨58, _⟩ => ⟨S22528x16x512, .f32⟩
  | .hbm, ⟨59, _⟩ => ⟨S_, .f32⟩
  | .hbm, ⟨60, _⟩ => ⟨S22528x16x512, .f32⟩
  | .hbm, ⟨61, _⟩ => ⟨S22528x16x512, .f32⟩
  | .hbm, ⟨62, _⟩ => ⟨S22528x16x512, .f32⟩
  | .hbm, ⟨63, _⟩ => ⟨S22528x16x512, .f32⟩
  | .hbm, ⟨64, _⟩ => ⟨S22528x16x512, .f32⟩
  | .hbm, ⟨65, _⟩ => ⟨S22528x16x1, .f32⟩
  | .hbm, ⟨66, _⟩ => ⟨S22528x16x512, .f32⟩
  | .hbm, ⟨67, _⟩ => ⟨S22528x16x512, .f32⟩
  | .hbm, ⟨68, _⟩ => ⟨S22528x1024, .f32⟩
  | .hbm, ⟨69, _⟩ => ⟨S22528x8x128, .f32⟩
  | _, _ => ⟨S88, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call2_v0 : Ref sig .tc := ⟨.hbm, 54, rfl⟩
abbrev main_call2_v1 : Ref sig .tc := ⟨.hbm, 55, rfl⟩
abbrev main_call2_cst : Ref sig .tc := ⟨.hbm, 56, rfl⟩
abbrev main_call2_v2 : Ref sig .tc := ⟨.hbm, 57, rfl⟩
abbrev main_call2_v3 : Ref sig .tc := ⟨.hbm, 58, rfl⟩
abbrev main_call2_cst_0 : Ref sig .tc := ⟨.hbm, 59, rfl⟩
abbrev main_call2_v4 : Ref sig .tc := ⟨.hbm, 60, rfl⟩
abbrev main_call2_v5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== Lru.lean ====
abbrev S128x4x1024 : Shape := ⟨3, ![128, 4, 1024]⟩
abbrev S8x128x3072 : Shape := ⟨3, ![8, 128, 3072]⟩
abbrev S2x128x1024 : Shape := ⟨3, ![2, 128, 1024]⟩
abbrev S2x128x3x1024 : Shape := ⟨4, ![2, 128, 3, 1024]⟩
abbrev S2x1024x2048 : Shape := ⟨3, ![2, 1024, 2048]⟩
abbrev S2x4x1024 : Shape := ⟨3, ![2, 4, 1024]⟩
abbrev S2x1024 : Shape := ⟨2, ![2, 1024]⟩
abbrev S2x4x256x256 : Shape := ⟨4, ![2, 4, 256, 256]⟩
abbrev S2x1024x1024 : Shape := ⟨3, ![2, 1024, 1024]⟩
abbrev S4x2x1024 : Shape := ⟨3, ![4, 2, 1024]⟩
abbrev S8x1x1024 : Shape := ⟨3, ![8, 1, 1024]⟩
abbrev S2x1x1024 : Shape := ⟨3, ![2, 1, 1024]⟩
abbrev S4x128x1024 : Shape := ⟨3, ![4, 128, 1024]⟩
abbrev S512x1024 : Shape := ⟨2, ![512, 1024]⟩
abbrev S2x3x128x1024 : Shape := ⟨4, ![2, 3, 128, 1024]⟩
abbrev S2x384x1024 : Shape := ⟨3, ![2, 384, 1024]⟩
abbrev S1x384x1024 : Shape := ⟨3, ![1, 384, 1024]⟩
abbrev S384x1024 : Shape := ⟨2, ![384, 1024]⟩
abbrev S128x1024 : Shape := ⟨2, ![128, 1024]⟩
abbrev S1x128x3072 : Shape := ⟨3, ![1, 128, 3072]⟩
abbrev S1x128x1024 : Shape := ⟨3, ![1, 128, 1024]⟩
abbrev S1x1024x2048 : Shape := ⟨3, ![1, 1024, 2048]⟩
abbrev S1x4x1024 : Shape := ⟨3, ![1, 4, 1024]⟩
abbrev S1x1x1024 : Shape := ⟨3, ![1, 1, 1024]⟩
abbrev S1x4x256x256 : Shape := ⟨4, ![1, 4, 256, 256]⟩
abbrev S1x1024x1024 : Shape := ⟨3, ![1, 1024, 1024]⟩
abbrev S128x3072 : Shape := ⟨2, ![128, 3072]⟩
abbrev S512x3072 : Shape := ⟨2, ![512, 3072]⟩
abbrev S1024x2048 : Shape := ⟨2, ![1024, 2048]⟩
abbrev S512x2048 : Shape := ⟨2, ![512, 2048]⟩
abbrev S896x1024 : Shape := ⟨2, ![896, 1024]⟩
abbrev S1x1x256 : Shape := ⟨3, ![1, 1, 256]⟩
abbrev S1x256 : Shape := ⟨2, ![1, 256]⟩
abbrev S512x256 : Shape := ⟨2, ![512, 256]⟩
abbrev S1x1x256x256 : Shape := ⟨4, ![1, 1, 256, 256]⟩
abbrev S256x256 : Shape := ⟨2, ![256, 256]⟩
abbrev S1x128x256 : Shape := ⟨3, ![1, 128, 256]⟩
abbrev S128x256 : Shape := ⟨2, ![128, 256]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩

abbrev nBuf : Space → Nat
  | .hbm => 34
  | .vmem => 19
  | .smem => 0
  | _ => 0

abbrev bufTy : (tb : Table) → Fin (tcTables nBuf tb) → BufTy
  | .hbm, ⟨0, _⟩ => ⟨S128x4x1024, .f32⟩
  | .hbm, ⟨1, _⟩ => ⟨S8x128x3072, .f32⟩
  | .hbm, ⟨2, _⟩ => ⟨S2x128x1024, .f32⟩
  | .hbm, ⟨3, _⟩ => ⟨S2x128x3x1024, .f32⟩
  | .hbm, ⟨4, _⟩ => ⟨S2x1024x2048, .f32⟩
  | .hbm, ⟨5, _⟩ => ⟨S2x4x1024, .f32⟩
  | .hbm, ⟨6, _⟩ => ⟨S2x1024, .f32⟩
  | .hbm, ⟨7, _⟩ => ⟨S2x4x256x256, .f32⟩
  | .hbm, ⟨8, _⟩ => ⟨S2x1024, .f32⟩
  | .hbm, ⟨9, _⟩ => ⟨S2x4x256x256, .f32⟩
  | .hbm, ⟨10, _⟩ => ⟨S2x1024, .f32⟩
  | .hbm, ⟨11, _⟩ => ⟨S2x1024, .f32⟩
  | .hbm, ⟨12, _⟩ => ⟨S2x1024x1024, .f32⟩
  | .hbm, ⟨13, _⟩ => ⟨S4x2x1024, .f32⟩
  | .hbm, ⟨14, _⟩ => ⟨S4x2x1024, .f32⟩
  | .hbm, ⟨15, _⟩ => ⟨S8x1x1024, .f32⟩
  | .hbm, ⟨16, _⟩ => ⟨S8x1x1024, .f32⟩
  | .hbm, ⟨17, _⟩ => ⟨S2x1024x2048, .bf16⟩
  | .hbm, ⟨18, _⟩ => ⟨S2x1x1024, .f32⟩
  | .hbm, ⟨19, _⟩ => ⟨S2x4x256x256, .bf16⟩
  | .hbm, ⟨20, _⟩ => ⟨S2x4x256x256, .bf16⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1024x1024, .bf16⟩
  | .hbm, ⟨25, _⟩ => ⟨S4x128x1024, .f32⟩
  | .hbm, ⟨26, _⟩ => ⟨S512x1024, .f32⟩
  | .hbm, ⟨27, _⟩ => ⟨S2x3x128x1024, .f32⟩
  | .hbm, ⟨28, _⟩ => ⟨S2x384x1024, .f32⟩
  | .hbm, ⟨29, _⟩ => ⟨S1x384x1024, .f32⟩
  | .hbm, ⟨30, _⟩ => ⟨S384x1024, .f32⟩
  | .hbm, ⟨31, _⟩ => ⟨S512x1024, .f32⟩
  | .hbm, ⟨32, _⟩ => ⟨S128x1024, .f32⟩
  | .hbm, ⟨33, _⟩ => ⟨S384x1024, .f32⟩
  | .local _ .vmem, ⟨0, _⟩ => ⟨S512x1024, .f32⟩
  | .local _ .vmem, ⟨1, _⟩ => ⟨S1x128x3072, .f32⟩
  | .local _ .vmem, ⟨2, _⟩ => ⟨S1x128x1024, .f32⟩
  | .local _ .vmem, ⟨3, _⟩ => ⟨S384x1024, .f32⟩
  | .local _ .vmem, ⟨4, _⟩ => ⟨S1x1024x2048, .bf16⟩
  | .local _ .vmem, ⟨5, _⟩ => ⟨S1x4x1024, .f32⟩
  | .local _ .vmem, ⟨6, _⟩ => ⟨S1x1x1024, .f32⟩
  | .local _ .vmem, ⟨7, _⟩ => ⟨S1x4x256x256, .bf16⟩
  | .local _ .vmem, ⟨8, _⟩ => ⟨S1x4x256x256, .bf16⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x1024, .bf16⟩
  | .local _ .vmem, ⟨13, _⟩ => ⟨S1x1x1024, .f32⟩
  | .local _ .vmem, ⟨14, _⟩ => ⟨S1x1x1024, .f32⟩
  | .local _ .vmem, ⟨15, _⟩ => ⟨S512x1024, .f32⟩
  | .local _ .vmem, ⟨16, _⟩ => ⟨S128x1024, .f32⟩
  | .local _ .vmem, ⟨17, _⟩ => ⟨S384x1024, .f32⟩
  | .local _ .vmem, ⟨18, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S384x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== LruRefIdeal.lean ====
abbrev S128x4x1024 : Shape := ⟨3, ![128, 4, 1024]⟩
abbrev S8x128x3072 : Shape := ⟨3, ![8, 128, 3072]⟩
abbrev S2x128x1024 : Shape := ⟨3, ![2, 128, 1024]⟩
abbrev S2x128x3x1024 : Shape := ⟨4, ![2, 128, 3, 1024]⟩
abbrev S2x1024x2048 : Shape := ⟨3, ![2, 1024, 2048]⟩
abbrev S2x4x1024 : Shape := ⟨3, ![2, 4, 1024]⟩
abbrev S2x1024 : Shape := ⟨2, ![2, 1024]⟩
abbrev S2x4x256x256 : Shape := ⟨4, ![2, 4, 256, 256]⟩
abbrev S2x1024x1024 : Shape := ⟨3, ![2, 1024, 1024]⟩
abbrev S4x2x1024 : Shape := ⟨3, ![4, 2, 1024]⟩
abbrev S1x128x3072 : Shape := ⟨3, ![1, 128, 3072]⟩
abbrev S128x3072 : Shape := ⟨2, ![128, 3072]⟩
abbrev S128x1x3072 : Shape := ⟨3, ![128, 1, 3072]⟩
abbrev S128x1x1024 : Shape := ⟨3, ![128, 1, 1024]⟩
abbrev S1x128x1024 : Shape := ⟨3, ![1, 128, 1024]⟩
abbrev S128x1024 : Shape := ⟨2, ![128, 1024]⟩
abbrev S1x128x3x1024 : Shape := ⟨4, ![1, 128, 3, 1024]⟩
abbrev S128x3x1024 : Shape := ⟨3, ![128, 3, 1024]⟩
abbrev S1x1024x2048 : Shape := ⟨3, ![1, 1024, 2048]⟩
abbrev S1024x2048 : Shape := ⟨2, ![1024, 2048]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S1x4x256x256 : Shape := ⟨4, ![1, 4, 256, 256]⟩
abbrev S4x256x256 : Shape := ⟨3, ![4, 256, 256]⟩
abbrev S1x1024x1024 : Shape := ⟨3, ![1, 1024, 1024]⟩
abbrev S1024x1024 : Shape := ⟨2, ![1024, 1024]⟩
abbrev S128x4x2048 : Shape := ⟨3, ![128, 4, 2048]⟩
abbrev S_ : Shape := ⟨0, ![]⟩
abbrev S128x7x1024 : Shape := ⟨3, ![128, 7, 1024]⟩
abbrev S1x1x1024 : Shape := ⟨3, ![1, 1, 1024]⟩
abbrev S128x4x4x256 : Shape := ⟨4, ![128, 4, 4, 256]⟩
abbrev S4x256x128x4 : Shape := ⟨4, ![4, 256, 128, 4]⟩
abbrev S128x2x1024 : Shape := ⟨3, ![128, 2, 1024]⟩
abbrev S128x0x1024 : Shape := ⟨3, ![128, 0, 1024]⟩
abbrev S128x4 : Shape := ⟨2, ![128, 4]⟩
abbrev S128x4x1 : Shape := ⟨3, ![128, 4, 1]⟩
abbrev S4x128x1024 : Shape := ⟨3, ![4, 128, 1024]⟩
abbrev S512x1024 : Shape := ⟨2, ![512, 1024]⟩
abbrev S3x128x1024 : Shape := ⟨3, ![3, 128, 1024]⟩
abbrev S384x1024 : Shape := ⟨2, ![384, 1024]⟩

abbrev nBuf : Space → Nat
  | .hbm => 267
  | .vmem => 0
  | .smem => 0
  | _ => 0

abbrev hbmTy0_0 (i : Nat) : BufTy := match i % 128 with
  | 0 => ⟨S128x4x1024, .f32⟩
  | 1 => ⟨S8x128x3072, .f32⟩
  | 2 => ⟨S2x128x1024, .f32⟩
  | 3 => ⟨S2x128x3x1024, .f32⟩
  | 4 => ⟨S2x1024x2048, .f32⟩
  | 5 => ⟨S2x4x1024, .f32⟩
  | 6 => ⟨S2x1024, .f32⟩
  | 7 => ⟨S2x4x256x256, .f32⟩
  | 8 => ⟨S2x1024, .f32⟩
  | 9 => ⟨S2x4x256x256, .f32⟩
  | 10 => ⟨S2x1024, .f32⟩
  | 11 => ⟨S2x1024, .f32⟩
  | 12 => ⟨S2x1024x1024, .f32⟩
  | 13 => ⟨S4x2x1024, .f32⟩
  | 14 => ⟨S4x2x1024, .f32⟩
  | 15 => ⟨S1x128x3072, .f32⟩
  | 16 => ⟨S128x3072, .f32⟩
  | 17 => ⟨S128x1x3072, .f32⟩
  | 18 => ⟨S128x1x1024, .f32⟩
  | 19 => ⟨S128x1x1024, .f32⟩
  | 20 => ⟨S128x1x1024, .f32⟩
  | 21 => ⟨S128x4x1024, .f32⟩
  | 22 => ⟨S128x4x1024, .f32⟩
  | 23 => ⟨S128x4x1024, .f32⟩
  | 24 => ⟨S128x4x1024, .f32⟩
  | 25 => ⟨S1x128x1024, .f32⟩
  | 26 => ⟨S128x1024, .f32⟩
  | 27 => ⟨S1x128x3x1024, .f32⟩
  | 28 => ⟨S128x3x1024, .f32⟩
  | 29 => ⟨S1x1024x2048, .f32⟩
  | 30 => ⟨S1024x2048, .f32⟩
  | 31 => ⟨S1x4x1024, .f32⟩
  | 32 => ⟨S4x1024, .f32⟩
  | 33 => ⟨S1x1024, .f32⟩
  | 34 => ⟨S1024, .f32⟩
  | 35 => ⟨S1x4x256x256, .f32⟩
  | 36 => ⟨S4x256x256, .f32⟩
  | 37 => ⟨S1x1024, .f32⟩
  | 38 => ⟨S1024, .f32⟩
  | 39 => ⟨S1x4x256x256, .f32⟩
  | 40 => ⟨S4x256x256, .f32⟩
  | 41 => ⟨S1x1024, .f32⟩
  | 42 => ⟨S1024, .f32⟩
  | 43 => ⟨S1x1024, .f32⟩
  | 44 => ⟨S1024, .f32⟩
  | 45 => ⟨S1x1024x1024, .f32⟩
  | 46 => ⟨S1024x1024, .f32⟩
  | 47 => ⟨S128x4x2048, .f32⟩
  | 48 => ⟨S128x4x1024, .f32⟩
  | 49 => ⟨S128x4x1024, .f32⟩
  | 50 => ⟨S128x4x1024, .f32⟩
  | 51 => ⟨S128x4x1024, .f32⟩
  | 52 => ⟨S_, .f32⟩
  | 53 => ⟨S128x4x1024, .f32⟩
  | 54 => ⟨S128x4x1024, .f32⟩
  | 55 => ⟨S128x4x1024, .f32⟩
  | 56 => ⟨S_, .f32⟩
  | 57 => ⟨S128x4x1024, .f32⟩
  | 58 => ⟨S128x4x1024, .f32⟩
  | 59 => ⟨S128x4x1024, .f32⟩
  | 60 => ⟨S_, .f32⟩
  | 61 => ⟨S128x4x1024, .f32⟩
  | 62 => ⟨S128x4x1024, .f32⟩
  | 63 => ⟨S_, .f32⟩
  | 64 => ⟨S128x4x1024, .f32⟩
  | 65 => ⟨S128x4x1024, .f32⟩
  | 66 => ⟨S128x4x1024, .f32⟩
  | 67 => ⟨S128x7x1024, .f32⟩
  | 68 => ⟨S128x4x1024, .f32⟩
  | 69 => ⟨S1x1024, .f32⟩
  | 70 => ⟨S1024, .f32⟩
  | 71 => ⟨S1x1x1024, .f32⟩
  | 72 => ⟨S128x4x1024, .f32⟩
  | 73 => ⟨S128x4x1024, .f32⟩
  | 74 => ⟨S1x1x1024, .f32⟩
  | 75 => ⟨S128x4x1024, .f32⟩
  | 76 => ⟨S128x4x1024, .f32⟩
  | 77 => ⟨S128x4x1024, .f32⟩
  | 78 => ⟨S1x1024, .f32⟩
  | 79 => ⟨S1024, .f32⟩
  | 80 => ⟨S1x1x1024, .f32⟩
  | 81 => ⟨S128x4x1024, .f32⟩
  | 82 => ⟨S128x4x1024, .f32⟩
  | 83 => ⟨S128x4x1024, .f32⟩
  | 84 => ⟨S128x4x1024, .f32⟩
  | 85 => ⟨S1x1024, .f32⟩
  | 86 => ⟨S1024, .f32⟩
  | 87 => ⟨S1x1x1024, .f32⟩
  | 88 => ⟨S128x4x1024, .f32⟩
  | 89 => ⟨S128x4x1024, .f32⟩
  | 90 => ⟨S128x4x1024, .f32⟩
  | 91 => ⟨S128x4x1024, .f32⟩
  | 92 => ⟨S1x1024, .f32⟩
  | 93 => ⟨S1024, .f32⟩
  | 94 => ⟨S1x1x1024, .f32⟩
  | 95 => ⟨S128x4x1024, .f32⟩
  | 96 => ⟨S128x4x1024, .f32⟩
  | 97 => ⟨S128x4x1024, .f32⟩
  | 98 => ⟨S128x4x4x256, .f32⟩
  | 99 => ⟨S4x256x128x4, .f32⟩
  | 100 => ⟨S128x4x4x256, .f32⟩
  | 101 => ⟨S128x4x1024, .f32⟩
  | 102 => ⟨S1x1x1024, .f32⟩
  | 103 => ⟨S128x4x1024, .f32⟩
  | 104 => ⟨S128x4x1024, .f32⟩
  | 105 => ⟨S128x4x1024, .f32⟩
  | 106 => ⟨S128x4x1024, .f32⟩
  | 107 => ⟨S_, .f32⟩
  | 108 => ⟨S128x4x1024, .f32⟩
  | 109 => ⟨S128x4x1024, .f32⟩
  | 110 => ⟨S_, .f32⟩
  | 111 => ⟨S128x4x1024, .f32⟩
  | 112 => ⟨S128x4x1024, .f32⟩
  | 113 => ⟨S4x256x128x4, .f32⟩
  | 114 => ⟨S128x4x4x256, .f32⟩
  | 115 => ⟨S128x4x1024, .f32⟩
  | 116 => ⟨S1x1x1024, .f32⟩
  | 117 => ⟨S128x4x1024, .f32⟩
  | 118 => ⟨S128x4x1024, .f32⟩
  | 119 => ⟨S128x4x1024, .f32⟩
  | 120 => ⟨S128x4x1024, .f32⟩
  | 121 => ⟨S_, .f32⟩
  | 122 => ⟨S128x4x1024, .f32⟩
  | 123 => ⟨S128x4x1024, .f32⟩
  | 124 => ⟨S_, .f32⟩
  | 125 => ⟨S128x4x1024, .f32⟩
  | 126 => ⟨S128x4x1024, .f32⟩
  | 127 => ⟨S_, .f32⟩
  | _ => ⟨S128x4x1024, .f32⟩

abbrev hbmTy0_1 (i : Nat) : BufTy := match i % 128 with
  | 0 => ⟨S128x4x1024, .f32⟩
  | 1 => ⟨S128x4x1024, .f32⟩
  | 2 => ⟨S1024, .f32⟩
  | 3 => ⟨S_, .f32⟩
  | 4 => ⟨S1024, .f32⟩
  | 5 => ⟨S1024, .f32⟩
  | 6 => ⟨S1024, .f32⟩
  | 7 => ⟨S1024, .f32⟩
  | 8 => ⟨S1024, .i1⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1x1x1024, .f32⟩
  | 18 => ⟨S128x4x1024, .f32⟩
  | 19 => ⟨S128x4x1024, .f32⟩
  | 20 => ⟨S128x4x1024, .f32⟩
  | 21 => ⟨S_, .f32⟩
  | 22 => ⟨S128x4x1024, .f32⟩
  | 23 => ⟨S128x4x1024, .f32⟩
  | 24 => ⟨S128x4x1024, .f32⟩
  | 25 => ⟨S128x4x1024, .f32⟩
  | 26 => ⟨S128x4x1024, .f32⟩
  | 27 => ⟨S128x4x1024, .f32⟩
  | 28 => ⟨S128x4x1024, .f32⟩
  | 29 => ⟨S128x1x1024, .f32⟩
  | 30 => ⟨S128x1x1024, .f32⟩
  | 31 => ⟨S128x1024, .f32⟩
  | 32 => ⟨S128x1024, .f32⟩
  | 33 => ⟨S128x1x1024, .f32⟩
  | 34 => ⟨S128x1x1024, .f32⟩
  | 35 => ⟨S128x3x1024, .f32⟩
  | 36 => ⟨S128x4x1024, .f32⟩
  | 37 => ⟨S128x2x1024, .f32⟩
  | 38 => ⟨S128x2x1024, .f32⟩
  | 39 => ⟨S128x2x1024, .f32⟩
  | 40 => ⟨S128x2x1024, .f32⟩
  | 41 => ⟨S128x2x1024, .f32⟩
  | 42 => ⟨S128x2x1024, .f32⟩
  | 43 => ⟨S128x2x1024, .f32⟩
  | 44 => ⟨S128x1x1024, .f32⟩
  | 45 => ⟨S128x1x1024, .f32⟩
  | 46 => ⟨S128x1x1024, .f32⟩
  | 47 => ⟨S128x1x1024, .f32⟩
  | 48 => ⟨S128x1x1024, .f32⟩
  | 49 => ⟨S128x1x1024, .f32⟩
  | 50 => ⟨S128x1x1024, .f32⟩
  | 51 => ⟨S128x0x1024, .f32⟩
  | 52 => ⟨S128x0x1024, .f32⟩
  | 53 => ⟨S128x0x1024, .f32⟩
  | 54 => ⟨S128x0x1024, .f32⟩
  | 55 => ⟨S128x0x1024, .f32⟩
  | 56 => ⟨S128x0x1024, .f32⟩
  | 57 => ⟨S128x0x1024, .f32⟩
  | 58 => ⟨S128x1x1024, .f32⟩
  | 59 => ⟨S128x1x1024, .f32⟩
  | 60 => ⟨S128x1x1024, .f32⟩
  | 61 => ⟨S128x1x1024, .f32⟩
  | 62 => ⟨S_, .f32⟩
  | 63 => ⟨S128x2x1024, .f32⟩
  | 64 => ⟨S_, .f32⟩
  | 65 => ⟨S128x2x1024, .f32⟩
  | 66 => ⟨S128x2x1024, .f32⟩
  | 67 => ⟨S_, .f32⟩
  | 68 => ⟨S128x2x1024, .f32⟩
  | 69 => ⟨S_, .f32⟩
  | 70 => ⟨S128x2x1024, .f32⟩
  | 71 => ⟨S128x2x1024, .f32⟩
  | 72 => ⟨S128x1x1024, .f32⟩
  | 73 => ⟨S128x1x1024, .f32⟩
  | 74 => ⟨S128x1x1024, .f32⟩
  | 75 => ⟨S128x1x1024, .f32⟩
  | 76 => ⟨S128x1x1024, .f32⟩
  | 77 => ⟨S128x1x1024, .f32⟩
  | 78 => ⟨S128x1x1024, .f32⟩
  | 79 => ⟨S128x1x1024, .f32⟩
  | 80 => ⟨S128x2x1024, .f32⟩
  | 81 => ⟨S128x1x1024, .f32⟩
  | 82 => ⟨S128x2x1024, .f32⟩
  | 83 => ⟨S_, .f32⟩
  | 84 => ⟨S128x4x1024, .f32⟩
  | 85 => ⟨S_, .f32⟩
  | 86 => ⟨S128x4x1024, .f32⟩
  | 87 => ⟨S128x4x1024, .f32⟩
  | 88 => ⟨S_, .f32⟩
  | 89 => ⟨S128x4x1024, .f32⟩
  | 90 => ⟨S_, .f32⟩
  | 91 => ⟨S128x4x1024, .f32⟩
  | 92 => ⟨S128x4x1024, .f32⟩
  | 93 => ⟨S128x4x1024, .f32⟩
  | 94 => ⟨S128x4x1024, .f32⟩
  | 95 => ⟨S_, .f32⟩
  | 96 => ⟨S128x4x1024, .f32⟩
  | 97 => ⟨S128x4x1024, .f32⟩
  | 98 => ⟨S128x4x1024, .f32⟩
  | 99 => ⟨S128x4x1024, .f32⟩
  | 100 => ⟨S128x4x1024, .f32⟩
  | 101 => ⟨S_, .f32⟩
  | 102 => ⟨S128x4, .f32⟩
  | 103 => ⟨S128x4x1, .f32⟩
  | 104 => ⟨S_, .f32⟩
  | 105 => ⟨S128x4x1, .f32⟩
  | 106 => ⟨S128x4x1, .f32⟩
  | 107 => ⟨S128x4x1024, .f32⟩
  | 108 => ⟨S128x4x1024, .f32⟩
  | 109 => ⟨S128x4x1024, .f32⟩
  | 110 => ⟨S_, .f32⟩
  | 111 => ⟨S128x4, .f32⟩
  | 112 => ⟨S128x4x1, .f32⟩
  | 113 => ⟨S_, .f32⟩
  | 114 => ⟨S128x4x1, .f32⟩
  | 115 => ⟨S128x4x1, .f32⟩
  | 116 => ⟨S_, .f32⟩
  | 117 => ⟨S128x4x1, .f32⟩
  | 118 => ⟨S128x4x1, .f32⟩
  | 119 => ⟨S128x4x1, .f32⟩
  | 120 => ⟨S128x4x1024, .f32⟩
  | 121 => ⟨S128x4x1024, .f32⟩
  | 122 => ⟨S1x1x1024, .f32⟩
  | 123 => ⟨S1024, .f32⟩
  | 124 => ⟨S1x1x1024, .f32⟩
  | 125 => ⟨S128x4x1024, .f32⟩
  | 126 => ⟨S128x4x1024, .f32⟩
  | 127 => ⟨S1x1x1024, .f32⟩
  | _ => ⟨S128x4x1024, .f32⟩

abbrev hbmTy0_2 (i : Nat) : BufTy := match i % 128 with
  | 0 => ⟨S1024, .f32⟩
  | 1 => ⟨S1x1x1024, .f32⟩
  | 2 => ⟨S128x4x1024, .f32⟩
  | 3 => ⟨S128x4x1024, .f32⟩
  | 4 => ⟨S4x128x1024, .f32⟩
  | 5 => ⟨S512x1024, .f32⟩
  | 6 => ⟨S128x1x1024, .f32⟩
  | 7 => ⟨S128x1024, .f32⟩
  | 8 => ⟨S128x3x1024, .f32⟩
  | 9 => ⟨S3x128x1024, .f32⟩
  | 10 => ⟨S384x1024, .f32⟩
  | _ => ⟨S128x4x1024, .f32⟩

abbrev hbmTy (i : Nat) : BufTy := match i / 128 with
  | 0 => hbmTy0_0 i
  | 1 => hbmTy0_1 i
  | 2 => hbmTy0_2 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_1 : Ref sig .tc := ⟨.hbm, 60, rfl⟩
abbrev main_v43 : Ref sig .tc := ⟨.hbm, 61, rfl⟩
abbrev main_v44 : Ref sig .tc := ⟨.hbm, 62, rfl⟩
abbrev main_cst_2 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_3 : Ref sig .tc := ⟨.hbm, 107, rfl⟩
abbrev main_v88 : Ref sig .tc := ⟨.hbm, 108, rfl⟩
abbrev main_v89 : Ref sig .tc := ⟨.hbm, 109, rfl⟩
abbrev main_cst_4 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_5 : Ref sig .tc := ⟨.hbm, 121, rfl⟩
abbrev main_v100 : Ref sig .tc := ⟨.hbm, 122, rfl⟩
abbrev main_v101 : Ref sig .tc := ⟨.hbm, 123, rfl⟩
abbrev main_cst_6 : Ref sig .tc := ⟨.hbm, 124, rfl⟩
abbrev main_v102 : Ref sig .tc := ⟨.hbm, 125, rfl⟩
abbrev main_v103 : Ref sig .tc := ⟨.hbm, 126, rfl⟩
abbrev main_cst_7 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_call0_cst : Ref sig .tc := ⟨.hbm, 131, rfl⟩
abbrev main_call0_v0 : Ref sig .tc := ⟨.hbm, 132, rfl⟩
abbrev main_call0_v1 : Ref sig .tc := ⟨.hbm, 133, rfl⟩
abbrev main_call0_v2 : Ref sig .tc := ⟨.hbm, 134, rfl⟩
abbrev main_call0_v3 : Ref sig .tc := ⟨.hbm, 135, rfl⟩
abbrev main_call0_v4 : Ref sig .tc := ⟨.hbm, 136, rfl⟩
abbrev main_call0_v5 : Ref sig .tc := ⟨.hbm, 137, rfl⟩
abbrev main_call0_v6 : Ref sig .tc := ⟨.hbm, 138, rfl⟩
abbrev main_call0_v7 : Ref sig .tc := ⟨.hbm, 139, rfl⟩
abbrev main_call0_v8 : Ref sig .tc := ⟨.hbm, 140, rfl⟩
abbrev main_call0_v9 : Ref sig .tc := ⟨.hbm, 141, rfl⟩
abbrev main_call0_v10 : Ref sig .tc := ⟨.hbm, 142, rfl⟩
abbrev main_call0_v11 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_8 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_9 : Ref sig .tc := ⟨.hbm, 190, rfl⟩
abbrev main_v152 : Ref sig .tc := ⟨.hbm, 191, rfl⟩
abbrev main_cst_10 : Ref sig .tc := ⟨.hbm, 192, rfl⟩
abbrev main_v153 : Ref sig .tc := ⟨.hbm, 193, rfl⟩
abbrev main_v154 : Ref sig .tc := ⟨.hbm, 194, rfl⟩
abbrev main_cst_11 : Ref sig .tc := ⟨.hbm, 195, rfl⟩
abbrev main_v155 : Ref sig .tc := ⟨.hbm, 196, rfl⟩
abbrev main_cst_12 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_13 : Ref sig .tc := ⟨.hbm, 211, rfl⟩
abbrev main_v169 : Ref sig .tc := ⟨.hbm, 212, rfl⟩
abbrev main_cst_14 : Ref sig .tc := ⟨.hbm, 213, rfl⟩
abbrev main_v170 : Ref sig .tc := ⟨.hbm, 214, rfl⟩
abbrev main_v171 : Ref sig .tc := ⟨.hbm, 215, rfl⟩
abbrev main_cst_15 : Ref sig .tc := ⟨.hbm, 216, rfl⟩
abbrev main_v172 : Ref sig .tc := ⟨.hbm, 217, rfl⟩
abbrev main_cst_16 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_cst_17 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_cst_18 : Ref sig .tc := ⟨.hbm, 229, rfl⟩
abbrev main_v182 : Ref sig .tc := ⟨.hbm, 230, rfl⟩
abbrev main_v183 : Ref sig .tc := ⟨.hbm, 231, rfl⟩
abbrev main_cst_19 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_cst_20 : Ref sig .tc := ⟨.hbm, 238, rfl⟩
abbrev main_v189 : Ref sig .tc := ⟨.hbm, 239, rfl⟩
abbrev main_v190 : Ref sig .tc := ⟨.hbm, 240, rfl⟩
abbrev main_cst_21 : Ref sig .tc := ⟨.hbm, 241, rfl⟩
abbrev main_v191 : Ref sig .tc := ⟨.hbm, 242, rfl⟩
abbrev main_v192 : Ref sig .tc := ⟨.hbm, 243, rfl⟩
abbrev main_cst_22 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩

abbrev nD : Nat := 1
abbrev τ : Topo := Topo.v7x

variable {F : FTy → Type} [FloatOps F]
-- ==== Kv.lean ====
abbrev S512x1024 : Shape := ⟨2, ![512, 1024]⟩
abbrev S1024x512 : Shape := ⟨2, ![1024, 512]⟩
abbrev S1024x256 : Shape := ⟨2, ![1024, 256]⟩
abbrev S256x1024 : Shape := ⟨2, ![256, 1024]⟩
abbrev S512x256 : Shape := ⟨2, ![512, 256]⟩
abbrev S256x512 : Shape := ⟨2, ![256, 512]⟩
abbrev S512x512 : Shape := ⟨2, ![512, 512]⟩

abbrev nBuf : Space → Nat
  | .hbm => 9
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | .hbm, ⟨2, _⟩ => ⟨S1024x512, .bf16⟩
  | .hbm, ⟨3, _⟩ => ⟨S1024x256, .bf16⟩
  | .hbm, ⟨4, _⟩ => ⟨S256x1024, .bf16⟩
  | .hbm, ⟨5, _⟩ => ⟨S512x256, .f32⟩
  | .hbm, ⟨6, _⟩ => ⟨S512x256, .f32⟩
  | .hbm, ⟨7, _⟩ => ⟨S512x256, .bf16⟩
  | .hbm, ⟨8, _⟩ => ⟨S256x512, .bf16⟩
  | .local _ .vmem, ⟨0, _⟩ => ⟨S512x1024, .f32⟩
  | .local _ .vmem, ⟨1, _⟩ => ⟨S1024x512, .bf16⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | .local _ .vmem, ⟨5, _⟩ => ⟨S512x256, .bf16⟩
  | .local _ .vmem, ⟨6, _⟩ => ⟨S256x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KvRefIdeal.lean ====
abbrev S512x1024 : Shape := ⟨2, ![512, 1024]⟩
abbrev S1024x512 : Shape := ⟨2, ![1024, 512]⟩
abbrev S512x512 : Shape := ⟨2, ![512, 512]⟩
abbrev S512x256 : Shape := ⟨2, ![512, 256]⟩
abbrev S256x512 : Shape := ⟨2, ![256, 512]⟩

abbrev nBuf : Space → Nat
  | .hbm => 8
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | .hbm, ⟨2, _⟩ => ⟨S512x512, .f32⟩
  | .hbm, ⟨3, _⟩ => ⟨S512x256, .f32⟩
  | .hbm, ⟨4, _⟩ => ⟨S512x256, .f32⟩
  | .hbm, ⟨5, _⟩ => ⟨S512x256, .bf16⟩
  | .hbm, ⟨6, _⟩ => ⟨S256x512, .f32⟩
  | .hbm, ⟨7, _⟩ => ⟨S256x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Ada.lean ====
abbrev S8x1024 : Shape := ⟨2, ![8, 1024]⟩
abbrev S128x1024 : Shape := ⟨2, ![128, 1024]⟩
abbrev S4x2x1024x3072 : Shape := ⟨4, ![4, 2, 1024, 3072]⟩
abbrev S4x2x3072 : Shape := ⟨3, ![4, 2, 3072]⟩
abbrev S8x1024x3072 : Shape := ⟨3, ![8, 1024, 3072]⟩
abbrev S8x1x3072 : Shape := ⟨3, ![8, 1, 3072]⟩
abbrev S8x8x3072 : Shape := ⟨3, ![8, 8, 3072]⟩
abbrev S8x128x3072 : Shape := ⟨3, ![8, 128, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1x128x1024 : Shape := ⟨3, ![1, 128, 1024]⟩
abbrev S1024x1024 : Shape := ⟨2, ![1024, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S4x2x1024x3072, .f32⟩
  | .hbm, ⟨3, _⟩ => ⟨S4x2x3072, .f32⟩
  | .hbm, ⟨4, _⟩ => ⟨S8x1024x3072, .f32⟩
  | .hbm, ⟨5, _⟩ => ⟨S8x1x3072, .f32⟩
  | .hbm, ⟨6, _⟩ => ⟨S8x8x3072, .f32⟩
  | .hbm, ⟨7, _⟩ => ⟨S8x128x3072, .f32⟩
  | .local _ .vmem, ⟨0, _⟩ => ⟨S8x1024, .f32⟩
  | .local _ .vmem, ⟨1, _⟩ => ⟨S128x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x128x1024, .f32⟩
  | .local _ .vmem, ⟨9, _⟩ => ⟨S1x128x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AdaRefIdeal.lean ====
abbrev S8x1024 : Shape := ⟨2, ![8, 1024]⟩
abbrev S128x1024 : Shape := ⟨2, ![128, 1024]⟩
abbrev S4x2x1024x3072 : Shape := ⟨4, ![4, 2, 1024, 3072]⟩
abbrev S4x2x3072 : Shape := ⟨3, ![4, 2, 3072]⟩
abbrev S4x2x3072x8 : Shape := ⟨4, ![4, 2, 3072, 8]⟩
abbrev S4x2x8x3072 : Shape := ⟨4, ![4, 2, 8, 3072]⟩
abbrev S4x2x1x3072 : Shape := ⟨4, ![4, 2, 1, 3072]⟩
abbrev S4x2x8x1024 : Shape := ⟨4, ![4, 2, 8, 1024]⟩
abbrev S_ : Shape := ⟨0, ![]⟩
abbrev S8x8x3072 : Shape := ⟨3, ![8, 8, 3072]⟩
abbrev S4x2x3072x128 : Shape := ⟨4, ![4, 2, 3072, 128]⟩
abbrev S4x2x128x3072 : Shape := ⟨4, ![4, 2, 128, 3072]⟩
abbrev S4x2x128x1024 : Shape := ⟨4, ![4, 2, 128, 1024]⟩
abbrev S8x128x3072 : Shape := ⟨3, ![8, 128, 3072]⟩

abbrev nBuf : Space → Nat
  | .hbm => 36
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S4x2x1024x3072, .f32⟩
  | .hbm, ⟨3, _⟩ => ⟨S4x2x3072, .f32⟩
  | .hbm, ⟨4, _⟩ => ⟨S4x2x3072x8, .f32⟩
  | .hbm, ⟨5, _⟩ => ⟨S4x2x8x3072, .f32⟩
  | .hbm, ⟨6, _⟩ => ⟨S4x2x1x3072, .f32⟩
  | .hbm, ⟨7, _⟩ => ⟨S4x2x8x3072, .f32⟩
  | .hbm, ⟨8, _⟩ => ⟨S4x2x8x3072, .f32⟩
  | .hbm, ⟨9, _⟩ => ⟨S4x2x8x1024, .f32⟩
  | .hbm, ⟨10, _⟩ => ⟨S4x2x8x1024, .f32⟩
  | .hbm, ⟨11, _⟩ => ⟨S4x2x8x1024, .f32⟩
  | .hbm, ⟨12, _⟩ => ⟨S_, .f32⟩
  | .hbm, ⟨13, _⟩ => ⟨S4x2x8x1024, .f32⟩
  | .hbm, ⟨14, _⟩ => ⟨S4x2x8x1024, .f32⟩
  | .hbm, ⟨15, _⟩ => ⟨S_, .f32⟩
  | .hbm, ⟨16, _⟩ => ⟨S4x2x8x1024, .f32⟩
  | .hbm, ⟨17, _⟩ => ⟨S4x2x8x1024, .f32⟩
  | .hbm, ⟨18, _⟩ => ⟨S4x2x8x3072, .f32⟩
  | .hbm, ⟨19, _⟩ => ⟨S8x8x3072, .f32⟩
  | .hbm, ⟨20, _⟩ => ⟨S4x2x3072x128, .f32⟩
  | .hbm, ⟨21, _⟩ => ⟨S4x2x128x3072, .f32⟩
  | .hbm, ⟨22, _⟩ => ⟨S4x2x1x3072, .f32⟩
  | .hbm, ⟨23, _⟩ => ⟨S4x2x128x3072, .f32⟩
  | .hbm, ⟨24, _⟩ => ⟨S4x2x128x3072, .f32⟩
  | .hbm, ⟨25, _⟩ => ⟨S4x2x128x1024, .f32⟩
  | .hbm, ⟨26, _⟩ => ⟨S4x2x128x1024, .f32⟩
  | .hbm, ⟨27, _⟩ => ⟨S4x2x128x1024, .f32⟩
  | .hbm, ⟨28, _⟩ => ⟨S_, .f32⟩
  | .hbm, ⟨29, _⟩ => ⟨S4x2x128x1024, .f32⟩
  | .hbm, ⟨30, _⟩ => ⟨S4x2x128x1024, .f32⟩
  | .hbm, ⟨31, _⟩ => ⟨S_, .f32⟩
  | .hbm, ⟨32, _⟩ => ⟨S4x2x128x1024, .f32⟩
  | .hbm, ⟨33, _⟩ => ⟨S4x2x128x1024, .f32⟩
  | .hbm, ⟨34, _⟩ => ⟨S4x2x128x3072, .f32⟩
  | .hbm, ⟨35, _⟩ => ⟨S8x128x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Moe.lean ====
abbrev S512x1024 : Shape := ⟨2, ![512, 1024]⟩
abbrev S8x128x3072 : Shape := ⟨3, ![8, 128, 3072]⟩
abbrev S4x1024x4 : Shape := ⟨3, ![4, 1024, 4]⟩
abbrev S4x4 : Shape := ⟨2, ![4, 4]⟩
abbrev S4x1024x4x4 : Shape := ⟨4, ![4, 1024, 4, 4]⟩
abbrev S4x4x4 : Shape := ⟨3, ![4, 4, 4]⟩
abbrev S4x16x1024x512 : Shape := ⟨4, ![4, 16, 1024, 512]⟩
abbrev S4x16x512x1024 : Shape := ⟨4, ![4, 16, 512, 1024]⟩
abbrev S4x2x1024 : Shape := ⟨3, ![4, 2, 1024]⟩
abbrev S8x1x1024 : Shape := ⟨3, ![8, 1, 1024]⟩
abbrev S4x4x1024 : Shape := ⟨3, ![4, 4, 1024]⟩
abbrev S_ : Shape := ⟨0, ![]⟩
abbrev S4x1024x16 : Shape := ⟨3, ![4, 1024, 16]⟩
abbrev S4x16x1024 : Shape := ⟨3, ![4, 16, 1024]⟩
abbrev S4x8x1024 : Shape := ⟨3, ![4, 8, 1024]⟩
abbrev S4x32x1024 : Shape := ⟨3, ![4, 32, 1024]⟩
abbrev S4x16 : Shape := ⟨2, ![4, 16]⟩
abbrev S4x8 : Shape := ⟨2, ![4, 8]⟩
abbrev S4x32 : Shape := ⟨2, ![4, 32]⟩
abbrev S4x32x1 : Shape := ⟨3, ![4, 32, 1]⟩
abbrev S4x32x128 : Shape := ⟨3, ![4, 32, 128]⟩
abbrev S16x1024x512 : Shape := ⟨3, ![16, 1024, 512]⟩
abbrev S16x512x1024 : Shape := ⟨3, ![16, 512, 1024]⟩
abbrev S1x128x3072 : Shape := ⟨3, ![1, 128, 3072]⟩
abbrev S1x32x1024 : Shape := ⟨3, ![1, 32, 1024]⟩
abbrev S1x32x128 : Shape := ⟨3, ![1, 32, 128]⟩
abbrev S1x1x1024x512 : Shape := ⟨4, ![1, 1, 1024, 512]⟩
abbrev S1x1x512x1024 : Shape := ⟨4, ![1, 1, 512, 1024]⟩
abbrev S1x1x1024 : Shape := ⟨3, ![1, 1, 1024]⟩
abbrev S1x1024x512 : Shape := ⟨3, ![1, 1024, 512]⟩
abbrev S1x512x1024 : Shape := ⟨3, ![1, 512, 1024]⟩
abbrev S512x128 : Shape := ⟨2, ![512, 128]⟩
abbrev S1024x512 : Shape := ⟨2, ![1024, 512]⟩
abbrev S128x3072 : Shape := ⟨2, ![128, 3072]⟩
abbrev S512x3072 : Shape := ⟨2, ![512, 3072]⟩
abbrev S32x1024 : Shape := ⟨2, ![32, 1024]⟩
abbrev S32x512 : Shape := ⟨2, ![32, 512]⟩
abbrev S1x32x1 : Shape := ⟨3, ![1, 32, 1]⟩
abbrev S32x1 : Shape := ⟨2, ![32, 1]⟩
abbrev S8x512 : Shape := ⟨2, ![8, 512]⟩
abbrev S512 : Shape := ⟨1, ![512]⟩
abbrev S1x512 : Shape := ⟨2, ![1, 512]⟩
abbrev S16x512 : Shape := ⟨2, ![16, 512]⟩
abbrev S112x512 : Shape := ⟨2, ![112, 512]⟩
abbrev S128x512 : Shape := ⟨2, ![128, 512]⟩
abbrev S512x1 : Shape := ⟨2, ![512, 1]⟩
abbrev S512x512 : Shape := ⟨2, ![512, 512]⟩
abbrev S1x1024 : Shape := ⟨2, ![1, 1024]⟩

abbrev nBuf : Space → Nat
  | .hbm => 34
  | .vmem => 22
  | .smem => 0
  | _ => 0

abbrev bufTy : (tb : Table) → Fin (tcTables nBuf tb) → BufTy
  | .hbm, ⟨0, _⟩ => ⟨S512x1024, .f32⟩
  | .hbm, ⟨1, _⟩ => ⟨S8x128x3072, .f32⟩
  | .hbm, ⟨2, _⟩ => ⟨S4x1024x4, .f32⟩
  | .hbm, ⟨3, _⟩ => ⟨S4x4, .f32⟩
  | .hbm, ⟨4, _⟩ => ⟨S4x1024x4x4, .f32⟩
  | .hbm, ⟨5, _⟩ => ⟨S4x4x4, .f32⟩
  | .hbm, ⟨6, _⟩ => ⟨S4x16x1024x512, .f32⟩
  | .hbm, ⟨7, _⟩ => ⟨S4x16x1024x512, .f32⟩
  | .hbm, ⟨8, _⟩ => ⟨S4x16x512x1024, .f32⟩
  | .hbm, ⟨9, _⟩ => ⟨S4x2x1024, .f32⟩
  | .hbm, ⟨10, _⟩ => ⟨S4x2x1024, .f32⟩
  | .hbm, ⟨11, _⟩ => ⟨S8x1x1024, .f32⟩
  | .hbm, ⟨12, _⟩ => ⟨S8x1x1024, .f32⟩
  | .hbm, ⟨13, _⟩ => ⟨S4x4x1024, .f32⟩
  | .hbm, ⟨14, _⟩ => ⟨S_, .f32⟩
  | .hbm, ⟨15, _⟩ => ⟨S4x4x1024, .f32⟩
  | .hbm, ⟨16, _⟩ => ⟨S4x1024x16, .f32⟩
  | .hbm, ⟨17, _⟩ => ⟨S4x16x1024, .f32⟩
  | .hbm, ⟨18, _⟩ => ⟨S_, .f32⟩
  | .hbm, ⟨19, _⟩ => ⟨S4x8x1024, .f32⟩
  | .hbm, ⟨20, _⟩ => ⟨S4x32x1024, .f32⟩
  | .hbm, ⟨21, _⟩ => ⟨S4x32x1024, .bf16⟩
  | .hbm, ⟨22, _⟩ => ⟨S_, .f32⟩
  | .hbm, ⟨23, _⟩ => ⟨S4x4, .f32⟩
  | .hbm, ⟨24, _⟩ => ⟨S4x16, .f32⟩
  | .hbm, ⟨25, _⟩ => ⟨S_, .f32⟩
  | .hbm, ⟨26, _⟩ => ⟨S4x8, .f32⟩
  | .hbm, ⟨27, _⟩ => ⟨S4x32, .f32⟩
  | .hbm, ⟨28, _⟩ => ⟨S4x32x1, .f32⟩
  | .hbm, ⟨29, _⟩ => ⟨S4x32x128, .f32⟩
  | .hbm, ⟨30, _⟩ => ⟨S512x1024, .f32⟩
  | .hbm, ⟨31, _⟩ => ⟨S16x1024x512, .bf16⟩
  | .hbm, ⟨32, _⟩ => ⟨S16x1024x512, .bf16⟩
  | .hbm, ⟨33, _⟩ => ⟨S16x512x1024, .bf16⟩
  | .local _ .vmem, ⟨0, _⟩ => ⟨S512x1024, .f32⟩
  | .local _ .vmem, ⟨1, _⟩ => ⟨S1x128x3072, .f32⟩
  | .local _ .vmem, ⟨2, _⟩ => ⟨S1x32x1024, .bf16⟩
  | .local _ .vmem, ⟨3, _⟩ => ⟨S1x32x128, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x1024x512, .f32⟩
  | .local _ .vmem, ⟨7, _⟩ => ⟨S1x1x1024x512, .f32⟩
  | .local _ .vmem, ⟨8, _⟩ => ⟨S1x1x512x1024, .f32⟩
  | .local _ .vmem, ⟨9, _⟩ => ⟨S1x1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x512x1024, .bf16⟩
  | .local _ .vmem, ⟨18, _⟩ => ⟨S1x512x1024, .bf16⟩
  | .local _ .vmem, ⟨19, _⟩ => ⟨S512x1024, .bf16⟩
  | .local _ .vmem, ⟨20, _⟩ => ⟨S512x128, .f32⟩
  | .local _ .vmem, ⟨21, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_v15_3 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v50 : BitVec 1 := Scalar.cmpi .eq arg1 c15_i32
  let v51 : BitVec 32 := Scalar.extui v50
  let c0_i32_42 : BitVec 32 := 0#32
  let v52 : BitVec 1 := Scalar.cmpi .ne v51 c0_i32_42
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]
-- ==== MoeRefIdeal.lean ====
abbrev S512x1024 : Shape := ⟨2, ![512, 1024]⟩
abbrev S8x128x3072 : Shape := ⟨3, ![8, 128, 3072]⟩
abbrev S4x1024x4 : Shape := ⟨3, ![4, 1024, 4]⟩
abbrev S4x4 : Shape := ⟨2, ![4, 4]⟩
abbrev S4x1024x4x4 : Shape := ⟨4, ![4, 1024, 4, 4]⟩
abbrev S4x4x4 : Shape := ⟨3, ![4, 4, 4]⟩
abbrev S4x16x1024x512 : Shape := ⟨4, ![4, 16, 1024, 512]⟩
abbrev S4x16x512x1024 : Shape := ⟨4, ![4, 16, 512, 1024]⟩
abbrev S4x2x1024 : Shape := ⟨3, ![4, 2, 1024]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x1024x4x4 : Shape := ⟨4, ![1, 1024, 4, 4]⟩
abbrev S1024x4x4 : Shape := ⟨3, ![1024, 4, 4]⟩
abbrev S1x4x4 : Shape := ⟨3, ![1, 4, 4]⟩
abbrev S1x16x1024x512 : Shape := ⟨4, ![1, 16, 1024, 512]⟩
abbrev S16x1024x512 : Shape := ⟨3, ![16, 1024, 512]⟩
abbrev S1x16x512x1024 : Shape := ⟨4, ![1, 16, 512, 1024]⟩
abbrev S16x512x1024 : Shape := ⟨3, ![16, 512, 1024]⟩
abbrev S1x128x3072 : Shape := ⟨3, ![1, 128, 3072]⟩
abbrev S128x3072 : Shape := ⟨2, ![128, 3072]⟩
abbrev S1x128x1024 : Shape := ⟨3, ![1, 128, 1024]⟩
abbrev S4x128x1024 : Shape := ⟨3, ![4, 128, 1024]⟩
abbrev S512x4 : Shape := ⟨2, ![512, 4]⟩
abbrev S_ : Shape := ⟨0, ![]⟩
abbrev S512 : Shape := ⟨1, ![512]⟩
abbrev S512x1 : Shape := ⟨2, ![512, 1]⟩
abbrev S512x4x4 : Shape := ⟨3, ![512, 4, 4]⟩
abbrev S512x2 : Shape := ⟨2, ![512, 2]⟩
abbrev S512x2x1 : Shape := ⟨3, ![512, 2, 1]⟩
abbrev S1x1x16 : Shape := ⟨3, ![1, 1, 16]⟩
abbrev S512x2x16 : Shape := ⟨3, ![512, 2, 16]⟩
abbrev S512x16 : Shape := ⟨2, ![512, 16]⟩
abbrev S512x16x512 : Shape := ⟨3, ![512, 16, 512]⟩
abbrev S512x16x1 : Shape := ⟨3, ![512, 16, 1]⟩
abbrev S4x128 : Shape := ⟨2, ![4, 128]⟩
abbrev S4x128x1 : Shape := ⟨3, ![4, 128, 1]⟩
abbrev S1x1x1024 : Shape := ⟨3, ![1, 1, 1024]⟩
abbrev S1024 : Shape := ⟨1, ![1024]⟩

abbrev nBuf : Space → Nat
  | .hbm => 169
  | .vmem => 0
  | .smem => 0
  | _ => 0

abbrev hbmTy0_0 (i : Nat) : BufTy := match i % 128 with
  | 0 => ⟨S512x1024, .f32⟩
  | 1 => ⟨S8x128x3072, .f32⟩
  | 2 => ⟨S4x1024x4, .f32⟩
  | 3 => ⟨S4x4, .f32⟩
  | 4 => ⟨S4x1024x4x4, .f32⟩
  | 5 => ⟨S4x4x4, .f32⟩
  | 6 => ⟨S4x16x1024x512, .f32⟩
  | 7 => ⟨S4x16x1024x512, .f32⟩
  | 8 => ⟨S4x16x512x1024, .f32⟩
  | 9 => ⟨S4x2x1024, .f32⟩
  | 10 => ⟨S4x2x1024, .f32⟩
  | 11 => ⟨S1x1024x4, .f32⟩
  | 12 => ⟨S1024x4, .f32⟩
  | 13 => ⟨S1x4, .f32⟩
  | 14 => ⟨S4, .f32⟩
  | 15 => ⟨S1x1024x4x4, .f32⟩
  | 16 => ⟨S1024x4x4, .f32⟩
  | 17 => ⟨S1x4x4, .f32⟩
  | 18 => ⟨S4x4, .f32⟩
  | 19 => ⟨S1x16x1024x512, .f32⟩
  | 20 => ⟨S16x1024x512, .f32⟩
  | 21 => ⟨S1x16x1024x512, .f32⟩
  | 22 => ⟨S16x1024x512, .f32⟩
  | 23 => ⟨S1x16x512x1024, .f32⟩
  | 24 => ⟨S16x512x1024, .f32⟩
  | 25 => ⟨S1x128x3072, .f32⟩
  | 26 => ⟨S128x3072, .f32⟩
  | 27 => ⟨S1x128x3072, .f32⟩
  | 28 => ⟨S1x128x1024, .f32⟩
  | 29 => ⟨S1x128x1024, .f32⟩
  | 30 => ⟨S1x128x1024, .f32⟩
  | 31 => ⟨S4x128x1024, .f32⟩
  | 32 => ⟨S4x128x1024, .f32⟩
  | 33 => ⟨S4x128x1024, .f32⟩
  | 34 => ⟨S4x128x1024, .f32⟩
  | 35 => ⟨S4x128x1024, .f32⟩
  | 36 => ⟨S512x1024, .f32⟩
  | 37 => ⟨S512x4, .f32⟩
  | 38 => ⟨S1x4, .f32⟩
  | 39 => ⟨S512x4, .f32⟩
  | 40 => ⟨S512x4, .f32⟩
  | 41 => ⟨S_, .f32⟩
  | 42 => ⟨S512, .f32⟩
  | 43 => ⟨S_, .f32⟩
  | 44 => ⟨S512, .f32⟩
  | 45 => ⟨S512, .f32⟩
  | 46 => ⟨S512x1, .f32⟩
  | 47 => ⟨S512x4, .f32⟩
  | 48 => ⟨S512x4, .f32⟩
  | 49 => ⟨S512x4, .f32⟩
  | 50 => ⟨S_, .f32⟩
  | 51 => ⟨S512, .f32⟩
  | 52 => ⟨S512x1, .f32⟩
  | 53 => ⟨S512x4, .f32⟩
  | 54 => ⟨S512x4, .f32⟩
  | 55 => ⟨S512x1, .f32⟩
  | 56 => ⟨S512x1, .i32⟩
  | 57 => ⟨S512x4x4, .f32⟩
  | 58 => ⟨S1x4x4, .f32⟩
  | 59 => ⟨S512x4x4, .f32⟩
  | 60 => ⟨S512x4x4, .f32⟩
  | 61 => ⟨S512, .i32⟩
  | 62 => ⟨S512, .i32⟩
  | 63 => ⟨S_, .i32⟩
  | 64 => ⟨S512, .i32⟩
  | 65 => ⟨S512, .i1⟩
  | 66 => ⟨S_, .i32⟩
  | 67 => ⟨S512, .i32⟩
  | 68 => ⟨S512, .i32⟩
  | 69 => ⟨S512, .i32⟩
  | 70 => ⟨S_, .i32⟩
  | 71 => ⟨S512, .i32⟩
  | 72 => ⟨S512, .i1⟩
  | 73 => ⟨S_, .i32⟩
  | 74 => ⟨S512, .i32⟩
  | 75 => ⟨S512, .i32⟩
  | 76 => ⟨S512, .i32⟩
  | 77 => ⟨S512x1, .i32⟩
  | 78 => ⟨S512x1, .i32⟩
  | 79 => ⟨S512x2, .i32⟩
  | 80 => ⟨S512x4, .f32⟩
  | 81 => ⟨S512x2, .f32⟩
  | 82 => ⟨S512x2, .i32⟩
  | 83 => ⟨S_, .f32⟩
  | 84 => ⟨S512, .f32⟩
  | 85 => ⟨S_, .f32⟩
  | 86 => ⟨S512, .f32⟩
  | 87 => ⟨S512, .f32⟩
  | 88 => ⟨S512x1, .f32⟩
  | 89 => ⟨S512x2, .f32⟩
  | 90 => ⟨S512x2, .f32⟩
  | 91 => ⟨S512x2, .f32⟩
  | 92 => ⟨S_, .f32⟩
  | 93 => ⟨S512, .f32⟩
  | 94 => ⟨S512x1, .f32⟩
  | 95 => ⟨S512x2, .f32⟩
  | 96 => ⟨S512x2, .f32⟩
  | 97 => ⟨S512x2, .f32⟩
  | 98 => ⟨S512x2, .f32⟩
  | 99 => ⟨S_, .i32⟩
  | 100 => ⟨S512x1, .i32⟩
  | 101 => ⟨S512x1, .i32⟩
  | 102 => ⟨S512x2, .i32⟩
  | 103 => ⟨S512x2, .i32⟩
  | 104 => ⟨S512x2x1, .i32⟩
  | 105 => ⟨S1x1x16, .i32⟩
  | 106 => ⟨S512x2x16, .i32⟩
  | 107 => ⟨S512x2x16, .i32⟩
  | 108 => ⟨S512x2x16, .i1⟩
  | 109 => ⟨S512x2x16, .f32⟩
  | 110 => ⟨S512x16, .f32⟩
  | 111 => ⟨S512x16x512, .f32⟩
  | 112 => ⟨S512x16x512, .f32⟩
  | 113 => ⟨S512x16x512, .f32⟩
  | 114 => ⟨S_, .f32⟩
  | 115 => ⟨S512x16x512, .f32⟩
  | 116 => ⟨S512x16x512, .f32⟩
  | 117 => ⟨S_, .f32⟩
  | 118 => ⟨S512x16x512, .f32⟩
  | 119 => ⟨S512x16x512, .f32⟩
  | 120 => ⟨S512x16x512, .f32⟩
  | 121 => ⟨S512x16x512, .f32⟩
  | 122 => ⟨S512x16x512, .f32⟩
  | 123 => ⟨S512x16x1, .f32⟩
  | 124 => ⟨S512x16x512, .f32⟩
  | 125 => ⟨S512x16x512, .f32⟩
  | 126 => ⟨S512x1024, .f32⟩
  | 127 => ⟨S_, .f32⟩
  | _ => ⟨S512x1024, .f32⟩

abbrev hbmTy0_1 (i : Nat) : BufTy := match i % 128 with
  | 0 => ⟨S4x128x1024, .f32⟩
  | 1 => ⟨S4x128x1024, .f32⟩
  | 2 => ⟨S4x128x1024, .f32⟩
  | 3 => ⟨S4x128x1024, .f32⟩
  | 4 => ⟨S4x128x1024, .f32⟩
  | 5 => ⟨S4x128x1024, .f32⟩
  | 6 => ⟨S_, .f32⟩
  | 7 => ⟨S4x128, .f32⟩
  | 8 => ⟨S4x128x1, .f32⟩
  | 9 => ⟨S_, .f32⟩
  | 10 => ⟨S4x128x1, .f32⟩
  | 11 => ⟨S4x128x1, .f32⟩
  | 12 => ⟨S4x128x1024, .f32⟩
  | 13 => ⟨S4x128x1024, .f32⟩
  | 14 => ⟨S4x128x1024, .f32⟩
  | 15 => ⟨S_, .f32⟩
  | 16 => ⟨S4x128, .f32⟩
  | 17 => ⟨S4x128x1, .f32⟩
  | 18 => ⟨S_, .f32⟩
  | 19 => ⟨S4x128x1, .f32⟩
  | 20 => ⟨S4x128x1, .f32⟩
  | 21 => ⟨S_, .f32⟩
  | 22 => ⟨S4x128x1, .f32⟩
  | 23 => ⟨S4x128x1, .f32⟩
  | 24 => ⟨S4x128x1, .f32⟩
  | 25 => ⟨S4x128x1024, .f32⟩
  | 26 => ⟨S4x128x1024, .f32⟩
  | 27 => ⟨S1x1x1024, .f32⟩
  | 28 => ⟨S1024, .f32⟩
  | 29 => ⟨S1x1x1024, .f32⟩
  | 30 => ⟨S4x128x1024, .f32⟩
  | 31 => ⟨S4x128x1024, .f32⟩
  | 32 => ⟨S1x1x1024, .f32⟩
  | 33 => ⟨S1024, .f32⟩
  | 34 => ⟨S1x1x1024, .f32⟩
  | 35 => ⟨S4x128x1024, .f32⟩
  | 36 => ⟨S4x128x1024, .f32⟩
  | 37 => ⟨S512x1024, .f32⟩
  | 38 => ⟨S16x1024x512, .bf16⟩
  | 39 => ⟨S16x1024x512, .bf16⟩
  | 40 => ⟨S16x512x1024, .bf16⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_cst_0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_values : Ref sig .tc := ⟨.hbm, 55, rfl⟩
abbrev main_indices : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c : Ref sig .tc := ⟨.hbm, 63, rfl⟩
abbrev main_v47 : Ref sig .tc := ⟨.hbm, 64, rfl⟩
abbrev main_v48 : Ref sig .tc := ⟨.hbm, 65, rfl⟩
abbrev main_c_2 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_3 : Ref sig .tc := ⟨.hbm, 70, rfl⟩
abbrev main_v52 : Ref sig .tc := ⟨.hbm, 71, rfl⟩
abbrev main_v53 : Ref sig .tc := ⟨.hbm, 72, rfl⟩
abbrev main_c_4 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_values_5 : Ref sig .tc := ⟨.hbm, 81, rfl⟩
abbrev main_indices_6 : Ref sig .tc := ⟨.hbm, 82, rfl⟩
abbrev main_cst_7 : Ref sig .tc := ⟨.hbm, 83, rfl⟩
abbrev main_v61 : Ref sig .tc := ⟨.hbm, 84, rfl⟩
abbrev main_cst_8 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_9 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_10 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_call1_v0 : Ref sig .tc := ⟨.hbm, 112, rfl⟩
abbrev main_call1_v1 : Ref sig .tc := ⟨.hbm, 113, rfl⟩
abbrev main_call1_cst : Ref sig .tc := ⟨.hbm, 114, rfl⟩
abbrev main_call1_v2 : Ref sig .tc := ⟨.hbm, 115, rfl⟩
abbrev main_call1_v3 : Ref sig .tc := ⟨.hbm, 116, rfl⟩
abbrev main_call1_cst_0 : Ref sig .tc := ⟨.hbm, 117, rfl⟩
abbrev main_call1_v4 : Ref sig .tc := ⟨.hbm, 118, rfl⟩
abbrev main_call1_v5 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_11 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_12 : Ref sig .tc := ⟨.hbm, 134, rfl⟩
abbrev main_v94 : Ref sig .tc := ⟨.hbm, 135, rfl⟩
abbrev main_v95 : Ref sig .tc := ⟨.hbm, 136, rfl⟩
abbrev main_cst_13 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_14 : Ref sig .tc := ⟨.hbm, 143, rfl⟩
abbrev main_v101 : Ref sig .tc := ⟨.hbm, 144, rfl⟩
abbrev main_v102 : Ref sig .tc := ⟨.hbm, 145, rfl⟩
abbrev main_cst_15 : Ref sig .tc := ⟨.hbm, 146, rfl⟩
abbrev main_v103 : Ref sig .tc := ⟨.hbm, 147, rfl⟩
abbrev main_v104 : Ref sig .tc := ⟨.hbm, 148, rfl⟩
abbrev main_cst_16 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩

abbrev nD : Nat := 1
abbrev τ : Topo := Topo.v7x

variable {F : FTy → Type} [FloatOps F]
-- ==== Proof.FfnRun.lean ====
/- The run of the expert kernel: what its body leaves at each grid point, and the launch. -/
module

public import proofs.«01_k».proof.Proof.Gen.FfnIdeal.Launch
public import proofs.«01_k».proof.Proof.Gen.FfnIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.FfnIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

/-- The resource model the runs are stated over. -/
abbrev Model (F : FTy → Type) [FloatOps F] : Type := MT nD τ sig Unit (Elt F) ℕ (UR sig nD τ) ℕ

/-- A table as the body is handed it: its whole buffer, at half the full share. -/
abbrev tblPt (c : Dev nD) {S : Shape} (M : Memref sig .tc .smem S .i32) (f : Buf (Elt F) (M.view.loc (c : Thread nD τ))) : sProp (Model F) :=
  M.view.loc (c : Thread nD τ) ↦{fullShare.right} f

abbrev tm2 : Memref sig .tc .smem S1 .i32 := Memref.whole main_arg2
abbrev tm0 : Memref sig .tc .smem S88 .i32 := Memref.whole main_arg0
abbrev tm1 : Memref sig .tc .smem S88 .i32 := Memref.whole main_arg1

/-- The one index of a one-word table. -/
abbrev z1 : S1.Idx := fun a => ⟨0, by revert a; decide⟩

theorem z1_only (x : S1.Idx) : x = z1 := funext fun a => Fin.ext (by
  have h1 := (x a).isLt
  have h2 := (z1 a).isLt
  have h : S1.size a = 1 := (by decide : ∀ a, S1.size a = 1) a
  omega)

/-- What the body leaves in a row tile's result, from the tile's rows, the two experts' weights and the number of live tiles. -/
def tileOut (i : grid0.Coords) (na : BitVec 32) (xs : Vec F S256x8x128 .i32) (a1 a3 : Vec F S1x1024x512 .bf16) (a2 : Vec F S1x512x1024 .bf16)
    (b1 b3 : Vec F S1x1024x512 .bf16) (b2 : Vec F S1x512x1024 .bf16) : Vec F S256x8x128 .f32 :=
  if k0_cond1 i na = 1#1 then k0_pay1 (k0_pay6 xs b1 b3) (k0_pay7 xs a1 a3) a2 b2 else k0_pay2 (F := F)

theorem cond_iff (i : grid0.Coords) (na : BitVec 32) : k0_cond2 i na = 1#1 ↔ ¬ k0_cond1 i na = 1#1 := by
  unfold k0_cond1 k0_cond2
  dsimp only
  generalize Scalar.cmpi .slt (BitVec.ofNat 32 (i 0).val) na = b
  revert b; decide

/-- A load of a whole memref at its own sizes reads the contents it holds. -/
theorem readWhole {S : Shape} {e : EltTy} {M : Memref sig .tc .vmem S e} (h : M.IsWhole) (X : S.Idx → Elt F e) {off : Fin S.rank → ℕ}
    (inb : ∀ a, off a + S.size a ≤ S.size a) :
    View.readAt (Elt F) M.view (Rect.unit off S.size inb).toLoadRect (h.unread X) = X :=
  (View.readAt_full _ _ inb).trans (h.read_unread X)

set_option maxHeartbeats 1000000 in
/-- The body's triple: on whole staging memrefs the inputs come back as they were and the result holds the tile's output. -/
theorem body_run (c : Dev nD) (i : grid0.Coords) (arg4 : Memref sig .tc .vmem S256x8x128 .i32) (harg4 : arg4.IsWhole)
    (arg5 : Memref sig .tc .vmem S1x1024x512 .bf16) (harg5 : arg5.IsWhole) (arg6 : Memref sig .tc .vmem S1x1024x512 .bf16) (harg6 : arg6.IsWhole)
    (arg7 : Memref sig .tc .vmem S1x512x1024 .bf16) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S256x8x128 .f32) (harg11 : arg11.IsWhole)
    (x0 : Vec F S256x8x128 .i32) (x1 x2 : Vec F S1x1024x512 .bf16) (x3 : Vec F S1x512x1024 .bf16) (x4 x5 : Vec F S1x1024x512 .bf16) (x6 : Vec F S1x512x1024 .bf16)
    (xt0 : Buf (Elt F) (tm0.view.loc (c : Thread nD τ))) (xt1 : Buf (Elt F) (tm1.view.loc (c : Thread nD τ))) (xt2 : Buf (Elt F) (tm2.view.loc (c : Thread nD τ)))
    (E : Set ℕ) (K : PUnit → sProp (Model F)) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5 ∗ owns (c : Thread nD τ) arg10 fullShare x6
        ∗ (∃ d, owns (c : Thread nD τ) arg11 fullShare d) ∗ tblPt c tm0 xt0 ∗ tblPt c tm1 xt1 ∗ tblPt c tm2 xt2
        ∗ (iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5 ∗ owns (c : Thread nD τ) arg10 fullShare x6
        ∗ owns (c : Thread nD τ) arg11 fullShare (tileOut i (xt2 z1) x0 x1 x2 x3 x4 x5 x6) ∗ tblPt c tm0 xt0 ∗ tblPt c tm1 xt1 ∗ tblPt c tm2 xt2) -∗ K ⟨⟩))
      ⊢ wp frame (wpE (defs₀ (F := F)) Variants.none c none) E
          (cc0_moe_ffn i tm0 (Memref.isWhole_whole _) tm1 (Memref.isWhole_whole _) tm2 (Memref.isWhole_whole _) arg4 harg4 arg5 harg5 arg6 harg6 arg7 harg7 arg8 harg8 arg9 harg9 arg10 harg10 arg11 harg11) K := by
  simp only [cc0_moe_ffn_eq_skeleton]; unfold cc0_moe_ffn_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5; obtain rfl := harg10.eq_unread hf6
  sl_exec
  sl_step
  have hw : body_run.sl.r c xt2 = xt2 z1 := by
    unfold body_run.sl.r
    exact congrArg xt2 (z1_only _)
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; swap; · iexact H7
    ipureintro
    rw [hw]
    unfold tileOut
    by_cases hc : k0_cond1 i (xt2 z1) = 1#1
    · have h2 : ¬ k0_cond2 i (xt2 z1) = 1#1 := fun h => (cond_iff i _).mp h hc
      rw [dif_neg h2, dif_pos hc, if_pos hc]
      refine (View.read_writes_full _ _ _ _ _).trans ?_
      have e0 : View.readAt (Elt F) arg4.view (Rect.unit ![0, 0, 0] ![256, 8, 128] inb_S256x8x128_S256x8x128_0_0_0).toLoadRect (harg4.unread x0) = x0 := readWhole harg4 x0 _
      have e1 : View.readAt (Elt F) arg5.view (Rect.unit ![0, 0, 0] ![1, 1024, 512] inb_S1x1024x512_S1x1024x512_0_0_0).toLoadRect (harg5.unread x1) = x1 := readWhole harg5 x1 _
      have e2 : View.readAt (Elt F) arg6.view (Rect.unit ![0, 0, 0] ![1, 1024, 512] inb_S1x1024x512_S1x1024x512_0_0_0).toLoadRect (harg6.unread x2) = x2 := readWhole harg6 x2 _
      have e3 : View.readAt (Elt F) arg7.view (Rect.unit ![0, 0, 0] ![1, 512, 1024] inb_S1x512x1024_S1x512x1024_0_0_0).toLoadRect (harg7.unread x3) = x3 := readWhole harg7 x3 _
      have e4 : View.readAt (Elt F) arg8.view (Rect.unit ![0, 0, 0] ![1, 1024, 512] inb_S1x1024x512_S1x1024x512_0_0_0).toLoadRect (harg8.unread x4) = x4 := readWhole harg8 x4 _
      have e5 : View.readAt (Elt F) arg9.view (Rect.unit ![0, 0, 0] ![1, 1024, 512] inb_S1x1024x512_S1x1024x512_0_0_0).toLoadRect (harg9.unread x5) = x5 := readWhole harg9 x5 _
      have e6 : View.readAt (Elt F) arg10.view (Rect.unit ![0, 0, 0] ![1, 512, 1024] inb_S1x512x1024_S1x512x1024_0_0_0).toLoadRect (harg10.unread x6) = x6 := readWhole harg10 x6 _
      rw [e0, e1, e2, e3, e4, e5, e6]
    · have h2 : k0_cond2 i (xt2 z1) = 1#1 := (cond_iff i _).mpr hc
      rw [dif_pos h2, dif_neg hc, if_neg hc]
      exact View.read_writes_full _ _ _ _ _
  isplitl [HT0]; · iexact HT0
  isplitl [HT1]; · iexact HT1
  iexact HT2

variable (m : (ℓ : Loc nD τ sig) → Buf (Elt F) ℓ) (ρ : Dev nD → PrngReg)

/-! ## The entry of the launch -/

/-- What core `c`'s buffers hold when the pipeline is entered: what they were launched with. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The three tables as the pipeline is entered. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- The tables place every window's block inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp (Model F)) = iprop(tblPt c tm0 (tbl m 0) ∗ tblPt c tm1 (tbl m 1) ∗ tblPt c tm2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`, read off its array as the pipeline finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The output block at point `t`. -/
def oblk (hO : Ok m) (c : Dev nD) (t : Fin (cfgM m hO).N) : Vec F S256x8x128 .f32 :=
  tileOut (grid0.coords t) (tbl m 2 z1) (iblk m hO c 0 t) (iblk m hO c 1 t) (iblk m hO c 2 t) (iblk m hO c 3 t) (iblk m hO c 4 t) (iblk m hO c 5 t) (iblk m hO c 6 t)

/-- The pipeline's proof data: each input's buffer at its block, the output's at the tile's result; the tables carried along;
    an array that two windows read dealt between them. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => oblk m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = oblk m hO c t := by dsimp only [dats]; try rfl

theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! ## The body obligation -/

abbrev ms_0 (hO : Ok m) (t : Fin (cfgM m hO).N) : Memref sig .tc .vmem S256x8x128 .i32 := spec0_0.stage ((cfgM m hO).slots t 0)
abbrev ms_1 (hO : Ok m) (t : Fin (cfgM m hO).N) : Memref sig .tc .vmem S1x1024x512 .bf16 := spec0_1.stage ((cfgM m hO).slots t 1)
abbrev ms_2 (hO : Ok m) (t : Fin (cfgM m hO).N) : Memref sig .tc .vmem S1x1024x512 .bf16 := spec0_2.stage ((cfgM m hO).slots t 2)
abbrev ms_3 (hO : Ok m) (t : Fin (cfgM m hO).N) : Memref sig .tc .vmem S1x512x1024 .bf16 := spec0_3.stage ((cfgM m hO).slots t 3)
abbrev ms_4 (hO : Ok m) (t : Fin (cfgM m hO).N) : Memref sig .tc .vmem S1x1024x512 .bf16 := spec0_4.stage ((cfgM m hO).slots t 4)
abbrev ms_5 (hO : Ok m) (t : Fin (cfgM m hO).N) : Memref sig .tc .vmem S1x1024x512 .bf16 := spec0_5.stage ((cfgM m hO).slots t 5)
abbrev ms_6 (hO : Ok m) (t : Fin (cfgM m hO).N) : Memref sig .tc .vmem S1x512x1024 .bf16 := spec0_6.stage ((cfgM m hO).slots t 6)
abbrev ms_7 (hO : Ok m) (t : Fin (cfgM m hO).N) : Memref sig .tc .vmem S256x8x128 .f32 := spec0_7.stage ((cfgM m hO).slots t 7)

/-- The kernel's body at point `t`. -/
abbrev bodyAt (hO : Ok m) (t : Fin (cfgM m hO).N) : Prog (TpuEff nD τ sig (Elt F) Λ₀ .tc) PUnit :=
  cc0_moe_ffn (grid0.coords t) tm0 (Memref.isWhole_whole _) tm1 (Memref.isWhole_whole _) tm2 (Memref.isWhole_whole _)
    (ms_0 m hO t) (hstage0_0 (((cfgM m hO).slots t 0).cast nbuf0_0))
    (ms_1 m hO t) (hstage0_1 (((cfgM m hO).slots t 1).cast nbuf0_1))
    (ms_2 m hO t) (hstage0_2 (((cfgM m hO).slots t 2).cast nbuf0_2))
    (ms_3 m hO t) (hstage0_3 (((cfgM m hO).slots t 3).cast nbuf0_3))
    (ms_4 m hO t) (hstage0_4 (((cfgM m hO).slots t 4).cast nbuf0_4))
    (ms_5 m hO t) (hstage0_5 (((cfgM m hO).slots t 5).cast nbuf0_5))
    (ms_6 m hO t) (hstage0_6 (((cfgM m hO).slots t 6).cast nbuf0_6))
    (ms_7 m hO t) (hstage0_7 (((cfgM m hO).slots t 7).cast nbuf0_7))

/-- What the body is called with at point `t`, -/
def bodyPre (hO : Ok m) (c : Dev nD) (t : Fin (cfgM m hO).N) : sProp (Model F) :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d))
    ∗ (∃ d, owns (c : Thread nD τ) (ms_6 m hO t) fullShare ((dats m hO 0 c).before 6 t d))
    ∗ (∃ d, owns (c : Thread nD τ) (ms_7 m hO t) fullShare ((dats m hO 0 c).before 7 t d)))

/-- and what it returns. -/
def bodyPost (hO : Ok m) (c : Dev nD) (t : Fin (cfgM m hO).N) : sProp (Model F) :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ owns (c : Thread nD τ) (ms_5 m hO t) fullShare ((dats m hO 0 c).after 5 t)
    ∗ owns (c : Thread nD τ) (ms_6 m hO t) fullShare ((dats m hO 0 c).after 6 t)
    ∗ owns (c : Thread nD τ) (ms_7 m hO t) fullShare ((dats m hO 0 c).after 7 t))

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1, before_2, before_3, before_4, before_5, before_6]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6, after_7]
  rw [show (dats m hO 0 c).Φ t.castSucc = iprop(Pipeline.ΦA spec0 c ∗ Pipeline.ΦT pre0 (tbl m) c) from rfl, PhiT0_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (tbl m 2) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  isplitl [HT1]; · iexact HT1
  isplitl [HT2]; · iexact HT2
  iintro ⟨H0, H1, H2, H3, H4, H5, H6, H7, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The result's window is written at every point: one of the two branches runs. -/
theorem idle_7 (hO : Ok m) (t : Fin (cfgM m hO).N) : (cfgM m hO).idle 7 ((cfgM m hO).grid.coords t) = false := by
  show (!(k0_cond1 (grid0.coords t) ((tbl m).atD 2 ![0]) == 1#1) && !(k0_cond2 (grid0.coords t) ((tbl m).atD 2 ![0]) == 1#1)) = false
  by_cases h : k0_cond1 (grid0.coords t) ((tbl m).atD 2 ![0]) = 1#1
  · simp [h]
  · simp [(cond_iff _ _).mpr h]

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  refine sep_mono .rfl (sep_mono .rfl (sep_mono .rfl (sep_mono .rfl (sep_mono .rfl (sep_mono .rfl (sep_mono .rfl (sep_mono .rfl (sep_mono .rfl ?_))))))))
  dsimp only
  split
  · rename_i h
    exact absurd (h.symm.trans (idle_7 m hO t)) (by decide)
  · iintro H
    iexact H

/-! ## The run -/

set_option backward.isDefEq.respectTransparency.types false in
/-- The launch: every weakly fair execution of the call ends, the result's array as the write-backs leave it, everything else
    as it was, and every counter at zero. -/
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m) (hΦ := fun _ _ => rfl)

end Cert.FfnIdeal.Moe

end
-- ==== Proof.FfnPre.lean ====
/- What the precondition says of the two expert tables, and that such tables place every weight block inside its array. -/
module

public import proofs.«01_k».proof.Proof.FfnRun
public import proofs.«01_k».proof.Pre_routed
public import Idealize.ShloMosaic.Lib.ReduceAll
public import Idealize.ShloMosaic.Lib.Affine
public import Idealize.ShloMosaic.Lib.StableHlo.Predicate

@[expose] public section

set_option maxRecDepth 16384

noncomputable section

namespace Cert.FfnIdeal.Moe

open Cert.FfnIdeal Cert.FfnIdeal.Gen Idealize.ShloMosaic Idealize.ShloMosaic.TcCoe Idealize.SL.Sem

variable {F : FTy → Type} [FloatOps F]

/-- The tables name, for every tile, two different experts of the sixteen. -/
def Routed (a b : IVec S88 32) : Prop := ∀ i, (a i).toNat < 16 ∧ (b i).toNat < 16 ∧ a i ≠ b i

theorem bit_and {x y : BitVec 1} (h : IntOp.andi x y = 1#1) : x = 1#1 ∧ y = 1#1 := by
  revert x y; decide

theorem small_of_signed {x : BitVec 32} (h0 : IntOp.cmpi .sge x 0#32 = 1#1) (h1 : IntOp.cmpi .slt x 16#32 = 1#1) : x.toNat < 16 := by
  simp only [IntOp.cmpi, StableHlo.Predicate.ofBool_eq_one_iff, BitVec.sle, BitVec.slt, decide_eq_true_eq] at h0 h1
  rw [BitVec.toInt_eq_toNat_cond x] at h0 h1
  have e0 : (0#32 : BitVec 32).toInt = 0 := by decide
  have e1 : (16#32 : BitVec 32).toInt = 16 := by decide
  rw [e0] at h0; rw [e1] at h1
  have := x.isLt
  split at h0 <;> omega

/-- The precondition, read at the tables' entries. -/
theorem routed_of [Cert.Pre_routed.Facts] (a b : IVec S88 32) (n x w1 w3 w2)
    (h : Cert.Pre_routed.fn (F := F) a b n x w1 w3 w2 = fun _ => 1#1) : Routed a b := fun i => by
  haveI : Subsingleton Cert.Pre_routed.S_.Idx := ⟨fun p q => funext fun k => k.elim0⟩
  have e := Host.reduce_andi_all _ _ _ _ _ (congrFun h fun k => k.elim0) i
  obtain ⟨e, h5⟩ := bit_and e
  obtain ⟨e, h4⟩ := bit_and e
  obtain ⟨e, h3⟩ := bit_and e
  obtain ⟨h1, h2⟩ := bit_and e
  refine ⟨small_of_signed h1 h2, small_of_signed h3 h4, fun hab => ?_⟩
  have h5' : IntOp.cmpi .ne (a i) (b i) = 1#1 := h5
  rw [hab] at h5'
  simp [IntOp.cmpi] at h5'

variable (m : (ℓ : Loc nD τ sig) → Buf (Elt F) ℓ)

/-- Tables of experts place every weight block inside its array. -/
theorem ok_of (h : Routed (tbl m 0) (tbl m 1)) : Ok m := by
  have hA : ∀ i : grid0.Coords, (((tbl m).at 0 (Rect.unit (s := S88) ![(Scalar.indexCast (BitVec.ofNat 32 (i 0).val)).toNat] S1.size (k0_off1_inb i)) numel1_S1 : BitVec 32)).toNat < 16 :=
    fun i => (h _).1
  have hB : ∀ i : grid0.Coords, (((tbl m).at 1 (Rect.unit (s := S88) ![(Scalar.indexCast (BitVec.ofNat 32 (i 0).val)).toNat] S1.size (k0_off1_inb i)) numel1_S1 : BitVec 32)).toNat < 16 :=
    fun i => (h _).2.1
  have key : ∀ {n k : ℕ} (v : ℕ), v < 16 → ∀ a : Fin 3, ((![v, 0, 0] : Fin 3 → ℕ) a + 1) * (![1, n, k] : Fin 3 → ℕ) a ≤ (![16, n, k] : Fin 3 → ℕ) a := by
    intro n k v hv a
    fin_cases a
    · show (v + 1) * 1 ≤ 16; omega
    · show (0 + 1) * n ≤ n; omega
    · show (0 + 1) * k ≤ k; omega
  refine ⟨fun i => ⟨key _ (hA i), .inr ?_⟩, fun i => ⟨key _ (hA i), .inr ?_⟩, fun i => ⟨key _ (hA i), .inr ?_⟩,
    fun i => ⟨key _ (hB i), .inr ?_⟩, fun i => ⟨key _ (hB i), .inr ?_⟩, fun i => ⟨key _ (hB i), .inr ?_⟩⟩ <;>
  exact .inr ⟨by decide, rfl, rfl, rfl⟩

end Cert.FfnIdeal.Moe

end
-- ==== Proof.FfnFrame.lean ====
/- What a run of the call leaves: the arguments as they were, the counters at zero, and the result's array written back tile
   by tile. -/
module

public import proofs.«01_k».proof.Proof.FfnPre
public import Idealize.ShloMosaic.Lib.Pipeline.ValueKit

@[expose] public section

set_option maxRecDepth 16384

noncomputable section

namespace Cert.FfnIdeal.Moe

open Cert.FfnIdeal Cert.FfnIdeal.Gen Idealize.ShloMosaic Idealize.ShloMosaic.TcCoe Idealize.SL.Sem
open Idealize.ShloMosaic.Pipeline (Dat Cfg)

variable {F : FTy → Type} [FloatOps F]
variable (m : (ℓ : Loc nD τ sig) → Buf (Elt F) ℓ) (ρ : Dev nD → PrngReg)

/-- The seven arguments of device `c` hold at `r` what they held at the start. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

/-- A run of the call: the result's array as the write-backs leave it, the arguments kept, the counters at zero. -/
theorem run_kept (hO : Ok m) : θ_run defs (onTc (τ := τ) (main (F := F))) ⟨m, fun _ => 0, ρ⟩
    (fun r => (∀ c : Dev nD, r.2.mem ((c.tc : Thread nD τ).loc main_v0) = (dats m hO 0 c).arrAt 7 (cfgM m hO).N ∧ Kept m r c)
      ∧ r.2.sem = fun _ => 0) :=
  (θ_run defs _ _).mono (fun r h => ⟨fun c => ⟨(h.1 c).1 7,
      h.1.rest_eq c main_arg0 (by decide : main_arg0 ∈ Pipeline.restRefs sig spec0),
      h.1.rest_eq c main_arg1 (by decide : main_arg1 ∈ Pipeline.restRefs sig spec0),
      h.1.rest_eq c main_arg2 (by decide : main_arg2 ∈ Pipeline.restRefs sig spec0),
      (h.1.in_eq c (0 : Fin 8) rfl).trans (A_eq m hO c 0),
      (h.1.in_eq c (1 : Fin 8) rfl).trans (A_eq m hO c 1),
      (h.1.in_eq c (2 : Fin 8) rfl).trans (A_eq m hO c 2),
      (h.1.in_eq c (3 : Fin 8) rfl).trans (A_eq m hO c 3)⟩, h.2⟩)
    (run_main m ρ hO)

end Cert.FfnIdeal.Moe

end
-- ==== Proof.FfnPure.lean ====
/- The tile's arithmetic read at an element, over the extended reals. -/
module

public import proofs.«01_k».proof.Proof.FfnFrame
public import Idealize.ShloMosaic.Lib.Pointwise

@[expose] public section

set_option maxRecDepth 16384

noncomputable section

namespace Cert.FfnIdeal.Moe

open Cert.FfnIdeal Cert.FfnIdeal.Gen Idealize.ShloMosaic Idealize.ShloMosaic.TcCoe Idealize.SL.Sem

/-- Feature `k` of the token packed in row `r` of `x`: the low half of word `k` below 512, the high half of word `k - 512` from there. -/
def tok {n : ℕ} (x : IVec ⟨3, ![n, 8, 128]⟩ 32) (r : Fin n) (k : Fin 1024) : EReal :=
  if h : (k : ℕ) < 512 then Ideal.ofBits .f32 (IntOp.shli .vector (x (ix3 r ⟨k / 128, by omega⟩ ⟨k % 128, by omega⟩)) 16#32)
  else Ideal.ofBits .f32 (IntOp.andi (x (ix3 r ⟨(k - 512) / 128, by omega⟩ ⟨(k - 512) % 128, by omega⟩)) 4294901760#32)

/-- Row `r`'s combine weight for its first (`j = 0`) or second expert: word 512 or 513 of the row. -/
def gate {n : ℕ} (x : IVec ⟨3, ![n, 8, 128]⟩ 32) (r : Fin n) (j : Fin 128) : EReal := Ideal.ofBits .f32 (x (ix3 r 4 j))

/-- Unit `f` of expert `e`'s hidden layer at row `r`: `silu (t · w1) * (t · w3)`. -/
def unit {n g : ℕ} (x : IVec ⟨3, ![n, 8, 128]⟩ 32) (w1 w3 : FVec Ideal ⟨3, ![g, 1024, 512]⟩ .bf16) (r : Fin n) (e : Fin g) (f : Fin 512) : EReal :=
  (∑ k : Fin 1024, tok x r k * w1 (ix3 e k f)) * Ideal.logistic (∑ k : Fin 1024, tok x r k * w1 (ix3 e k f)) * ∑ k : Fin 1024, tok x r k * w3 (ix3 e k f)

theorem pay4_at (x : IVec S256x8x128 32) (r : Fin 256) (k : Fin 1024) :
    k0_pay4 (F := Ideal) x (ix2 r k) = tok x r k := by
  pointwise [k0_pay4, k0_pay3]
  rfl

/-- The first expert's hidden layer, each row scaled by its weight. -/
theorem pay7_at (x : IVec S256x8x128 32) (w1 w3 : FVec Ideal S1x1024x512 .bf16) (r : Fin 256) (f : Fin 512) :
    k0_pay7 (F := Ideal) x w1 w3 (ix2 r f) = unit x w1 w3 r 0 f * gate x r 0 := by
  pointwise [k0_pay7, k0_pay5, k0_pay3]
  simp only [pay4_at]
  rfl

/-- The second expert's. -/
theorem pay6_at (x : IVec S256x8x128 32) (w1 w3 : FVec Ideal S1x1024x512 .bf16) (r : Fin 256) (f : Fin 512) :
    k0_pay6 (F := Ideal) x w1 w3 (ix2 r f) = unit x w1 w3 r 0 f * gate x r 1 := by
  pointwise [k0_pay6, k0_pay5, k0_pay3]
  simp only [pay4_at]
  rfl

/-- The two experts' outputs added. -/
theorem pay1_at (ha : FVec Ideal S256x512 .f32) (hb : FVec Ideal S256x512 .bf16) (wa wb : FVec Ideal S1x512x1024 .bf16) (r : Fin 256) (p : Fin 8) (q : Fin 128) :
    k0_pay1 (F := Ideal) ha hb wa wb (ix3 r p q)
      = ∑ f : Fin 512, hb (ix2 r f) * wa (ix3 0 f ⟨p * 128 + q, by omega⟩) + ∑ f : Fin 512, ha (ix2 r f) * wb (ix3 0 f ⟨p * 128 + q, by omega⟩) := by
  pointwise [k0_pay1]

theorem pay2_at (r : Fin 256) (p : Fin 8) (q : Fin 128) : k0_pay2 (F := Ideal) (ix3 r p q) = 0 := by
  pointwise [k0_pay2]

theorem cond_at (i : grid0.Coords) (na : BitVec 32) : k0_cond1 i na = 1#1 ↔ IntOp.cmpi .slt (BitVec.ofNat 32 (i 0).val) na = 1#1 := by
  unfold k0_cond1
  dsimp only
  show _ ↔ Scalar.cmpi .slt (BitVec.ofNat 32 (i 0).val) na = 1#1
  generalize Scalar.cmpi .slt (BitVec.ofNat 32 (i 0).val) na = b
  revert b; decide

end Cert.FfnIdeal.Moe

end
-- ==== Proof.FfnValue.lean ====
/- What the call's result holds: at every row, the two experts of the row's tile, each hidden layer scaled by the row's weight
   for it; zeros in the tiles past the last active one. -/
module

public import proofs.«01_k».proof.Proof.FfnPure

@[expose] public section

set_option maxRecDepth 16384

noncomputable section

namespace Cert.FfnIdeal.Moe

open Cert.FfnIdeal Cert.FfnIdeal.Gen Idealize.ShloMosaic Idealize.ShloMosaic.TcCoe Idealize.SL.Sem
open Idealize.ShloMosaic.Pipeline (Dat Cfg)

/-- The expert that entry `t` of a table names, for entries below 16. -/
def expert (a : IVec S88 32) (h : ∀ i, (a i).toNat < 16) (t : Fin 88) : Fin 16 := ⟨(a (ix1 t)).toNat, h _⟩

/-- The tile that row `r` lies in. -/
def tileOf (r : Fin 22528) : Fin 88 := ⟨r / 256, by omega⟩

/-- The result at row `r`, column `d`. -/
def rowOut (a b : IVec S88 32) (h : Routed a b) (n : IVec S1 32) (x : IVec S22528x8x128 32) (w1 w3 : FVec Ideal S16x1024x512 .bf16)
    (w2 : FVec Ideal S16x512x1024 .bf16) (r : Fin 22528) (d : Fin 1024) : EReal :=
  if IntOp.cmpi .slt (BitVec.ofNat 32 (r / 256)) (n (ix1 0)) = 1#1 then
    ∑ f : Fin 512, unit x w1 w3 r (expert a (fun i => (h i).1) (tileOf r)) f * gate x r 0 * w2 (ix3 (expert a (fun i => (h i).1) (tileOf r)) f d)
      + ∑ f : Fin 512, unit x w1 w3 r (expert b (fun i => (h i).2.1) (tileOf r)) f * gate x r 1 * w2 (ix3 (expert b (fun i => (h i).2.1) (tileOf r)) f d)
  else 0

variable (m : (ℓ : Loc nD τ sig) → Buf (Elt Ideal) ℓ)

theorem point_val : ∀ t : Fin grid0.N, (grid0.coords t 0).val = t.val := by decide +kernel

theorem word_val (t : Fin 88) : (BitVec.ofNat 32 t.val).toNat = t.val := by
  rw [BitVec.toNat_ofNat]; omega

theorem point_word (t : Fin grid0.N) : BitVec.toNat (BitVec.ofNat 32 (grid0.coords t 0).val) = t.val :=
  (congrArg (fun v => BitVec.toNat (BitVec.ofNat 32 v)) (point_val t)).trans (word_val t)

/-- The entry that a weight window's index map reads at point `t` is entry `t`. -/
theorem entry_idx (t : Fin grid0.N) (hb) (hn) :
    ((Rect.unit (s := S88) ![(Scalar.indexCast (BitVec.ofNat 32 (grid0.coords t 0).val)).toNat] S1.size hb).emb (Shape.Idx.first hn) : S88.Idx) = ix1 (n0 := 88) t := by
  refine funext fun a => ?_
  fin_cases a
  refine Fin.ext ?_
  rw [Rect.emb_apply]
  show (BitVec.ofNat 32 (grid0.coords t 0).val).toNat + 1 * 0 = t.val
  rw [point_word]
  omega

/-- Entry `u`, `v` of the block of an expert's weights that a table's entry `e` places. -/
theorem weight_at {k l : ℕ} (e : Fin 16) (e' : ℕ) (he : e' = e.val) (u : Fin k) (v : Fin l) (i : (⟨3, ![16, k, l]⟩ : Shape).Idx)
    (h : ∀ a : Fin 3, (i a).val = (![e', 0, 0] : Fin 3 → ℕ) a * (![1, k, l] : Fin 3 → ℕ) a + (ix3 (0 : Fin 1) u v a).val) : i = ix3 e u v := by
  subst he
  refine funext fun a => Fin.ext ((h a).trans ?_)
  fin_cases a
  · show e.val * 1 + 0 = e.val; omega
  · show 0 * k + u.val = u.val; omega
  · show 0 * l + v.val = v.val; omega

/-- Word `p`, `q` of row `r` of the tile at point `t`. -/
theorem iblk0_at (hO : Ok m) (c : Dev nD) (t : Fin (cfgM m hO).N) (r : Fin 256) (p : Fin 8) (q : Fin 128) :
    iblk m hO c 0 t (ix3 r p q) = m ((c.tc : Thread nD τ).loc main_arg3) (ix3 (⟨t.val * 256 + r, by have := t.isLt; have : (cfgM m hO).N = 88 := rfl; omega⟩ : Fin 22528) p q) := by
  refine congrArg (m ((c.tc : Thread nD τ).loc main_arg3)) (funext fun a => Fin.ext ?_)
  refine (Pipeline.Window.rect_emb_val ((cfgM m hO).win 0) t (ix3 r p q) a rfl).trans ?_
  fin_cases a
  · show BitVec.toNat (BitVec.ofNat 32 (grid0.coords t 0).val) * 256 + r.val = t.val * 256 + r.val
    rw [point_word]
  · show 0 * 8 + p.val = p.val
    omega
  · show 0 * 128 + q.val = q.val
    omega

theorem iblk1_at (hO : Ok m) (h : Routed (tbl m 0) (tbl m 1)) (c : Dev nD) (t : Fin (cfgM m hO).N) (k : Fin 1024) (f : Fin 512) :
    iblk m hO c 1 t (ix3 0 k f) = m ((c.tc : Thread nD τ).loc main_arg4) (ix3 (expert (tbl m 0) (fun i => (h i).1) t) k f) :=
  congrArg (m ((c.tc : Thread nD τ).loc main_arg4)) (weight_at _ _ (congrArg (fun i => ((tbl m 0 : IVec S88 32) i).toNat) (entry_idx t _ _)) k f _
    fun a => Pipeline.Window.rect_emb_val ((cfgM m hO).win 1) t (ix3 0 k f) a rfl)

theorem iblk2_at (hO : Ok m) (h : Routed (tbl m 0) (tbl m 1)) (c : Dev nD) (t : Fin (cfgM m hO).N) (k : Fin 1024) (f : Fin 512) :
    iblk m hO c 2 t (ix3 0 k f) = m ((c.tc : Thread nD τ).loc main_arg5) (ix3 (expert (tbl m 0) (fun i => (h i).1) t) k f) :=
  congrArg (m ((c.tc : Thread nD τ).loc main_arg5)) (weight_at _ _ (congrArg (fun i => ((tbl m 0 : IVec S88 32) i).toNat) (entry_idx t _ _)) k f _
    fun a => Pipeline.Window.rect_emb_val ((cfgM m hO).win 2) t (ix3 0 k f) a rfl)

theorem iblk3_at (hO : Ok m) (h : Routed (tbl m 0) (tbl m 1)) (c : Dev nD) (t : Fin (cfgM m hO).N) (k : Fin 1024) (f : Fin 512) :
    iblk m hO c 3 t (ix3 0 f k) = m ((c.tc : Thread nD τ).loc main_arg6) (ix3 (expert (tbl m 0) (fun i => (h i).1) t) f k) :=
  congrArg (m ((c.tc : Thread nD τ).loc main_arg6)) (weight_at _ _ (congrArg (fun i => ((tbl m 0 : IVec S88 32) i).toNat) (entry_idx t _ _)) f k _
    fun a => Pipeline.Window.rect_emb_val ((cfgM m hO).win 3) t (ix3 0 f k) a rfl)

theorem iblk4_at (hO : Ok m) (h : Routed (tbl m 0) (tbl m 1)) (c : Dev nD) (t : Fin (cfgM m hO).N) (k : Fin 1024) (f : Fin 512) :
    iblk m hO c 4 t (ix3 0 k f) = m ((c.tc : Thread nD τ).loc main_arg4) (ix3 (expert (tbl m 1) (fun i => (h i).2.1) t) k f) :=
  congrArg (m ((c.tc : Thread nD τ).loc main_arg4)) (weight_at _ _ (congrArg (fun i => ((tbl m 1 : IVec S88 32) i).toNat) (entry_idx t _ _)) k f _
    fun a => Pipeline.Window.rect_emb_val ((cfgM m hO).win 4) t (ix3 0 k f) a rfl)

theorem iblk5_at (hO : Ok m) (h : Routed (tbl m 0) (tbl m 1)) (c : Dev nD) (t : Fin (cfgM m hO).N) (k : Fin 1024) (f : Fin 512) :
    iblk m hO c 5 t (ix3 0 k f) = m ((c.tc : Thread nD τ).loc main_arg5) (ix3 (expert (tbl m 1) (fun i => (h i).2.1) t) k f) :=
  congrArg (m ((c.tc : Thread nD τ).loc main_arg5)) (weight_at _ _ (congrArg (fun i => ((tbl m 1 : IVec S88 32) i).toNat) (entry_idx t _ _)) k f _
    fun a => Pipeline.Window.rect_emb_val ((cfgM m hO).win 5) t (ix3 0 k f) a rfl)

theorem iblk6_at (hO : Ok m) (h : Routed (tbl m 0) (tbl m 1)) (c : Dev nD) (t : Fin (cfgM m hO).N) (k : Fin 1024) (f : Fin 512) :
    iblk m hO c 6 t (ix3 0 f k) = m ((c.tc : Thread nD τ).loc main_arg6) (ix3 (expert (tbl m 1) (fun i => (h i).2.1) t) f k) :=
  congrArg (m ((c.tc : Thread nD τ).loc main_arg6)) (weight_at _ _ (congrArg (fun i => ((tbl m 1 : IVec S88 32) i).toNat) (entry_idx t _ _)) f k _
    fun a => Pipeline.Window.rect_emb_val ((cfgM m hO).win 6) t (ix3 0 f k) a rfl)

/-- Row `r` of the tile at point `t`, in the array. -/
def rowAt (t : Fin 88) (r : Fin 256) : Fin 22528 := ⟨t.val * 256 + r, by omega⟩

theorem tileOf_rowAt (t : Fin 88) (r : Fin 256) : tileOf (rowAt t r) = t := Fin.ext (by
  show (t.val * 256 + r.val) / 256 = t.val
  omega)

/-- A tile's token is the array's at its row. -/
theorem tok_block {X : IVec S22528x8x128 32} {x : IVec S256x8x128 32} {R : Fin 22528} {r : Fin 256} (h : ∀ p q, x (ix3 r p q) = X (ix3 R p q)) (k : Fin 1024) :
    tok x r k = tok X R k := by
  unfold tok
  simp only [h]

/-- A tile's hidden layer from an expert's block of weights is the array's at that expert. -/
theorem unit_block {X : IVec S22528x8x128 32} {x : IVec S256x8x128 32} {R : Fin 22528} {r : Fin 256} (h : ∀ p q, x (ix3 r p q) = X (ix3 R p q))
    {W1 W3 : FVec Ideal S16x1024x512 .bf16} {w1 w3 : FVec Ideal S1x1024x512 .bf16} {e : Fin 16} (h1 : ∀ k f, w1 (ix3 0 k f) = W1 (ix3 e k f))
    (h3 : ∀ k f, w3 (ix3 0 k f) = W3 (ix3 e k f)) (f : Fin 512) : unit x w1 w3 r 0 f = unit X W1 W3 R e f := by
  unfold unit
  simp only [tok_block h, h1, h3]

/-- A tile's output at row `r`, from its own blocks. -/
theorem tileOut_at (i : grid0.Coords) (na : BitVec 32) (x : IVec S256x8x128 32) (a1 a3 : FVec Ideal S1x1024x512 .bf16) (a2 : FVec Ideal S1x512x1024 .bf16)
    (b1 b3 : FVec Ideal S1x1024x512 .bf16) (b2 : FVec Ideal S1x512x1024 .bf16) (r : Fin 256) (p : Fin 8) (q : Fin 128) :
    tileOut (F := Ideal) i na x a1 a3 a2 b1 b3 b2 (ix3 r p q) = if IntOp.cmpi .slt (BitVec.ofNat 32 (i 0).val) na = 1#1 then
        ∑ f : Fin 512, unit x a1 a3 r 0 f * gate x r 0 * a2 (ix3 0 f ⟨p * 128 + q, by omega⟩)
          + ∑ f : Fin 512, unit x b1 b3 r 0 f * gate x r 1 * b2 (ix3 0 f ⟨p * 128 + q, by omega⟩)
      else 0 := by
  unfold tileOut
  by_cases hk : k0_cond1 i na = 1#1
  · rw [if_pos hk, if_pos ((cond_at i na).mp hk), pay1_at]
    simp only [pay6_at, pay7_at]
  · rw [if_neg hk, if_neg fun h => hk ((cond_at i na).mpr h), pay2_at]

/-- The tile's output at point `t`, read at row `r`. -/
theorem oblk_at (hO : Ok m) (h : Routed (tbl m 0) (tbl m 1)) (c : Dev nD) (t : Fin (cfgM m hO).N) (r : Fin 256) (p : Fin 8) (q : Fin 128) :
    oblk m hO c t (ix3 r p q) = rowOut (tbl m 0) (tbl m 1) h (tbl m 2) (m ((c.tc : Thread nD τ).loc main_arg3)) (m ((c.tc : Thread nD τ).loc main_arg4))
      (m ((c.tc : Thread nD τ).loc main_arg5)) (m ((c.tc : Thread nD τ).loc main_arg6)) (rowAt t r) ⟨p * 128 + q, by omega⟩ := by
  have hx : ∀ p q, (iblk m hO c 0 t : IVec S256x8x128 32) (ix3 r p q) = (m ((c.tc : Thread nD τ).loc main_arg3) : IVec S22528x8x128 32) (ix3 (rowAt t r) p q) := iblk0_at m hO c t r
  have ht : t = tileOf (rowAt t r) := (tileOf_rowAt t r).symm
  refine (tileOut_at (grid0.coords t) (tbl m 2 z1) (iblk m hO c 0 t) (iblk m hO c 1 t) (iblk m hO c 2 t) (iblk m hO c 3 t) (iblk m hO c 4 t) (iblk m hO c 5 t)
    (iblk m hO c 6 t) r p q).trans ?_
  have hn : (grid0.coords t 0).val = (rowAt t r).val / 256 := (point_val t).trans (congrArg Fin.val ht)
  have hw : IntOp.cmpi .slt (BitVec.ofNat 32 (grid0.coords t 0).val) (tbl m 2 z1) = IntOp.cmpi .slt (BitVec.ofNat 32 ((rowAt t r).val / 256)) ((tbl m 2 : IVec S1 32) (ix1 0)) :=
    congrArg₂ (fun u v => IntOp.cmpi .slt (BitVec.ofNat 32 u) v) hn (congrArg (tbl m 2) (z1_only _).symm)
  have e1 : ∀ k f, _ = _ := fun k f => (iblk1_at m hO h c t k f).trans (congrArg (fun e => (m ((c.tc : Thread nD τ).loc main_arg4) : FVec Ideal S16x1024x512 .bf16) (ix3 (expert (tbl m 0) (fun i => (h i).1) e) k f)) ht)
  have e2 : ∀ k f, _ = _ := fun k f => (iblk2_at m hO h c t k f).trans (congrArg (fun e => (m ((c.tc : Thread nD τ).loc main_arg5) : FVec Ideal S16x1024x512 .bf16) (ix3 (expert (tbl m 0) (fun i => (h i).1) e) k f)) ht)
  have e3 : ∀ k f, _ = _ := fun k f => (iblk3_at m hO h c t k f).trans (congrArg (fun e => (m ((c.tc : Thread nD τ).loc main_arg6) : FVec Ideal S16x512x1024 .bf16) (ix3 (expert (tbl m 0) (fun i => (h i).1) e) f k)) ht)
  have e4 : ∀ k f, _ = _ := fun k f => (iblk4_at m hO h c t k f).trans (congrArg (fun e => (m ((c.tc : Thread nD τ).loc main_arg4) : FVec Ideal S16x1024x512 .bf16) (ix3 (expert (tbl m 1) (fun i => (h i).2.1) e) k f)) ht)
  have e5 : ∀ k f, _ = _ := fun k f => (iblk5_at m hO h c t k f).trans (congrArg (fun e => (m ((c.tc : Thread nD τ).loc main_arg5) : FVec Ideal S16x1024x512 .bf16) (ix3 (expert (tbl m 1) (fun i => (h i).2.1) e) k f)) ht)
  have e6 : ∀ k f, _ = _ := fun k f => (iblk6_at m hO h c t k f).trans (congrArg (fun e => (m ((c.tc : Thread nD τ).loc main_arg6) : FVec Ideal S16x512x1024 .bf16) (ix3 (expert (tbl m 1) (fun i => (h i).2.1) e) f k)) ht)
  refine if_congr (Eq.to_iff (congrArg (· = 1#1) hw)) (congrArg₂ (· + ·) (Finset.sum_congr rfl fun f _ => ?_) (Finset.sum_congr rfl fun f _ => ?_)) rfl
  · exact congrArg₂ (· * ·) (congrArg₂ (· * ·) (unit_block hx e1 e2 f) (congrArg (Ideal.ofBits .f32) (hx 4 0))) (e3 _ f)
  · exact congrArg₂ (· * ·) (congrArg₂ (· * ·) (unit_block hx e4 e5 f) (congrArg (Ideal.ofBits .f32) (hx 4 1))) (e6 _ f)

/-- Every tile is written back. -/
theorem flush_7 (hO : Ok m) : ∀ t : Fin (cfgM m hO).N, ((cfgM m hO).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- What the call's result holds at an index. -/
def result (a b : IVec S88 32) (h : Routed a b) (n : IVec S1 32) (x : IVec S22528x8x128 32) (w1 w3 : FVec Ideal S16x1024x512 .bf16)
    (w2 : FVec Ideal S16x512x1024 .bf16) : FVec Ideal S22528x8x128 .f32 :=
  fun i => rowOut a b h n x w1 w3 w2 (i 0) ⟨(i 1).val * 128 + (i 2).val, by
    have h1 : (i 1).val < 8 := (i 1).isLt
    have h2 : (i 2).val < 128 := (i 2).isLt
    omega⟩

/-- Where index `y` of the tile at point `t` lies in the result. -/
theorem out_idx (hO : Ok m) (t : Fin (cfgM m hO).N) (r : Fin 256) (p : Fin 8) (q : Fin 128) :
    ((((cfgM m hO).win 7).blk t).view.emb (ix3 r p q) : S22528x8x128.Idx) = ix3 (rowAt t r) p q := by
  refine funext fun a => Fin.ext ((Pipeline.Window.rect_emb_val ((cfgM m hO).win 7) t (ix3 r p q) a rfl).trans ?_)
  fin_cases a
  · show BitVec.toNat (BitVec.ofNat 32 (grid0.coords t 0).val) * 256 + r.val = t.val * 256 + r.val
    rw [point_word]
  · show 0 * 8 + p.val = p.val
    omega
  · show 0 * 128 + q.val = q.val
    omega

/-- Every index of the result lies in the tile of its row. -/
theorem cover_7 (hO : Ok m) (i : S22528x8x128.Idx) :
    ∃ t : Fin (cfgM m hO).N, ((cfgM m hO).win 7).flush t = true ∧ i ∈ (((cfgM m hO).win 7).blk t).view.set := by
  idx_vars i
  have e : rowAt (tileOf i0) ⟨i0 % 256, by omega⟩ = i0 := Fin.ext (by
    show i0.val / 256 * 256 + i0.val % 256 = i0.val
    omega)
  refine ⟨tileOf i0, flush_7 m hO _, ?_⟩
  refine Set.mem_of_eq_of_mem ?_ (View.emb_mem_set (((cfgM m hO).win 7).blk (tileOf i0)).view (ix3 (⟨i0 % 256, by omega⟩ : Fin 256) i1 i2))
  exact ((out_idx m hO (tileOf i0) _ _ _).trans (congrArg (fun k => ix3 k i1 i2) e)).symm

/-- The call's result after the last point. -/
theorem final (hO : Ok m) (h : Routed (tbl m 0) (tbl m 1)) (c : Dev nD) :
    (dats m hO 0 c).arrAt 7 (cfgM m hO).N = result (tbl m 0) (tbl m 1) h (tbl m 2) (m ((c.tc : Thread nD τ).loc main_arg3)) (m ((c.tc : Thread nD τ).loc main_arg4))
      (m ((c.tc : Thread nD τ).loc main_arg5)) (m ((c.tc : Thread nD τ).loc main_arg6)) := by
  refine (dats m hO 0 c).arrAt_eq_of_emb 7 _ (fun t _ y => ?_) (cover_7 m hO)
  rw [after_7]
  have key : ∀ y : S256x8x128.Idx, oblk m hO c t y = result (tbl m 0) (tbl m 1) h (tbl m 2) (m ((c.tc : Thread nD τ).loc main_arg3)) (m ((c.tc : Thread nD τ).loc main_arg4))
      (m ((c.tc : Thread nD τ).loc main_arg5)) (m ((c.tc : Thread nD τ).loc main_arg6)) ((((cfgM m hO).win 7).blk t).view.emb y) := by
    intro y
    idx_vars y
    exact (oblk_at m hO h c t _ _ _).trans (congrArg (result _ _ h _ _ _ _ _) (out_idx m hO t _ _ _)).symm
  exact key y

end Cert.FfnIdeal.Moe

end
-- ==== Proof.FfnRef.lean ====
/- The reference's arithmetic read at an element, over the extended reals. -/
module

public import proofs.«01_k».proof.Proof.Gen.FfnRefIdeal.Read
public import proofs.«01_k».proof.Proof.FfnValue

@[expose] public section

set_option maxRecDepth 16384

noncomputable section

namespace Cert.FfnRefIdeal.Moe

open Cert.FfnRefIdeal Cert.FfnRefIdeal.Gen Cert.FfnRefIdeal.Read Idealize.ShloMosaic Idealize.ShloMosaic.TcCoe Idealize.SL.Sem

open Cert.FfnIdeal.Moe (tok gate unit expert tileOf rowOut result Routed)

/-- The reference's token of row `r`. -/
theorem tok_at (x : IVec S22528x8x128 32) (r : Fin 22528) (k : Fin 1024) :
    val_main_v9 (F := Ideal) x (ix2 r k) = tok x r k := by
  pointwise [val_main_v9, val_main_v8, val_main_v7, val_main_v6, val_main_v5, val_main_v4, val_main_v3, val_main_v2, val_main_v1, val_main_v0, val_main_c, val_main_c_0, Value.fn_main_v9]
  rfl

/-- A flag as a number. -/
theorem flag_of {b : BitVec 1} (h : b = 1#1) : (FloatOps.uitofp (F := Ideal) .f32 b : EReal) = 1 := by
  subst h
  show (((1#1 : BitVec 1).toNat : ℝ) : EReal) = 1
  norm_num

theorem flag_of_not {b : BitVec 1} (h : ¬ b = 1#1) : (FloatOps.uitofp (F := Ideal) .f32 b : EReal) = 0 := by
  obtain rfl : b = 0#1 := by revert h; revert b; decide
  show (((0#1 : BitVec 1).toNat : ℝ) : EReal) = 0
  norm_num

/-- A table's entry equals an expert's number exactly when it names that expert. -/
theorem entry_eq (a : IVec S88 32) (h : ∀ i, (a i).toNat < 16) (t : Fin 88) (e : Fin 16) :
    IntOp.cmpi .eq (a (ix1 t)) (BitVec.ofNat 32 e) = 1#1 ↔ e = expert a h t := by
  have := h (ix1 t)
  have he := e.isLt
  rw [Fin.ext_iff]
  show _ ↔ e.val = (a (ix1 t)).toNat
  simp only [IntOp.cmpi, StableHlo.Predicate.ofBool_eq_one_iff, beq_iff_eq]
  constructor
  · intro h'
    rw [h', BitVec.toNat_ofNat]
    omega
  · intro h'
    exact BitVec.eq_of_toNat_eq (by rw [BitVec.toNat_ofNat]; omega)

/-- The combine weight of row `r` for expert `e`: the row's two weights at its tile's two experts. -/
theorem comb_at (a b : IVec S88 32) (hab : Routed a b) (n : IVec S1 32) (x : IVec S22528x8x128 32) (r : Fin 22528) (e : Fin 16) :
    val_main_v31 (F := Ideal) a b n x (ix2 r e) = if IntOp.cmpi .slt (BitVec.ofNat 32 (r / 256)) (n (ix1 0)) = 1#1 then
      if e = expert a (fun i => (hab i).1) (tileOf r) then gate x r 0 else if e = expert b (fun i => (hab i).2.1) (tileOf r) then gate x r 1 else 0 else 0 := by
  pointwise [val_main_v31, val_main_call1_v2, val_main_call1_v1, val_main_call1_v0, val_main_cst, val_main_v30, val_main_v29, val_main_v28, val_main_call0_v4, val_main_call0_v3, val_main_call0_v2, val_main_call0_v1, val_main_call0_v0, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v0, Value.fn_main_v27]
  show (if IntOp.cmpi .slt (BitVec.ofNat 32 (r / 256)) (n (ix1 0)) = 1#1 then
      ∑ _ : Fin 1, gate x r 0 * FloatOps.uitofp (F := Ideal) .f32 (IntOp.cmpi .eq (a (ix1 (tileOf r))) (BitVec.ofNat 32 e))
        + ∑ _ : Fin 1, gate x r 1 * FloatOps.uitofp (F := Ideal) .f32 (IntOp.cmpi .eq (b (ix1 (tileOf r))) (BitVec.ofNat 32 e))
    else Ideal.ofBits .f32 0#32) = _
  rw [Fin.sum_univ_one, Fin.sum_univ_one]
  refine if_congr Iff.rfl ?_ (by pointwise)
  have ea := entry_eq a (fun i => (hab i).1) (tileOf r) e
  have eb := entry_eq b (fun i => (hab i).2.1) (tileOf r) e
  have hne : expert a (fun i => (hab i).1) (tileOf r) ≠ expert b (fun i => (hab i).2.1) (tileOf r) :=
    fun h => (hab (ix1 (tileOf r))).2.2 (BitVec.eq_of_toNat_eq (congrArg (fun v : Fin 16 => v.val) h))
  by_cases h1 : e = expert a (fun i => (hab i).1) (tileOf r)
  · have h2 : ¬ e = expert b (fun i => (hab i).2.1) (tileOf r) := fun h => hne (h1.symm.trans h)
    rw [if_pos h1, flag_of (ea.mpr h1), flag_of_not fun h => h2 (eb.mp h), mul_one, mul_zero, add_zero]
  · rw [if_neg h1, flag_of_not fun h => h1 (ea.mp h)]
    by_cases h2 : e = expert b (fun i => (hab i).2.1) (tileOf r)
    · rw [if_pos h2, flag_of (eb.mpr h2), mul_zero, mul_one, zero_add]
    · rw [if_neg h2, flag_of_not fun h => h2 (eb.mp h), mul_zero, mul_zero, zero_add]

/-- The reference's hidden layer. -/
theorem h_at (x : IVec S22528x8x128 32) (w1 w3 : FVec Ideal S16x1024x512 .bf16) (r : Fin 22528) (e : Fin 16) (f : Fin 512) :
    val_main_v38 (F := Ideal) x w1 w3 (ix3 r e f) = unit x w1 w3 r e f := by
  pointwise [val_main_v38, val_main_v37, val_main_v36, val_main_call2_v5, val_main_call2_v4, val_main_call2_v3, val_main_call2_v2, val_main_call2_v1, val_main_call2_v0, val_main_call2_cst, val_main_call2_cst_0, val_main_v35, val_main_v33, val_main_v32]
  simp only [tok_at]
  rfl

/-- A sum over the experts of which two have weights. -/
theorem two_experts (y : Fin 16 → Fin 512 → EReal) (w : Fin 16 → Fin 512 → EReal) (ea eb : Fin 16) (hne : ea ≠ eb) (ga gb : EReal) :
    ∑ e, ∑ f, y e f * (if e = ea then ga else if e = eb then gb else 0) * w e f = ∑ f, y ea f * ga * w ea f + ∑ f, y eb f * gb * w eb f := by
  rw [Fintype.sum_eq_add ea eb hne]
  · simp [hne.symm]
  · rintro e ⟨h1, h2⟩
    simp [h1, h2]

/-- The reference's result. -/
theorem out_at (a b : IVec S88 32) (hab : Routed a b) (n : IVec S1 32) (x : IVec S22528x8x128 32) (w1 w3 : FVec Ideal S16x1024x512 .bf16) (w2 : FVec Ideal S16x512x1024 .bf16) (r : Fin 22528) (p : Fin 8) (q : Fin 128) :
    val_main_v43 (F := Ideal) a b n x w1 w3 w2 (ix3 r p q) = rowOut a b hab n x w1 w3 w2 r ⟨p * 128 + q, by omega⟩ := by
  pointwise [val_main_v43, val_main_v42, val_main_v41, val_main_v40, val_main_v39, val_main_v34]
  simp only [h_at, comb_at a b hab]
  unfold rowOut
  split
  · refine two_experts _ _ _ _ (fun h => (hab (ix1 (tileOf r))).2.2 (BitVec.eq_of_toNat_eq (congrArg (fun v : Fin 16 => v.val) h))) _ _
  · simp

/-- The reference computes what the call does. -/
theorem out_eq (a b : IVec S88 32) (hab : Routed a b) (n : IVec S1 32) (x : IVec S22528x8x128 32) (w1 w3 : FVec Ideal S16x1024x512 .bf16) (w2 : FVec Ideal S16x512x1024 .bf16) :
    val_main_v43 (F := Ideal) a b n x w1 w3 w2 = result a b hab n x w1 w3 w2 := funext fun i => by
  idx_vars i
  exact out_at a b hab n x w1 w3 w2 _ _ _

end Cert.FfnRefIdeal.Moe

end
-- ==== Proof.LruRows.lean ====
/- The recurrent layer of the sample: what the kernel leaves in its three results, in terms of its blocks. -/
module

public import proofs.«01_k».proof.Proof.Gen.LruIdeal.Value
public import Idealize.ShloMosaic.Lib.Pipeline.ValueKit
public import Idealize.ShloMosaic.Lib.Pointwise

@[expose] public section

set_option maxRecDepth 16384

noncomputable section

namespace Cert.LruIdeal.Rec

open Cert.LruIdeal Cert.LruIdeal.Gen Idealize.ShloMosaic Idealize.ShloMosaic.TcCoe Idealize.SL.Sem
open Idealize.ShloMosaic.Pipeline (Dat)

/-- Column `q` of block `n`, and row `p` of step `t`. -/
def col : Fin 4 → Fin 256 → Fin 1024
  | 0, q => ⟨q, by omega⟩
  | 1, q => ⟨256 + q, by omega⟩
  | 2, q => ⟨512 + q, by omega⟩
  | 3, q => ⟨768 + q, by omega⟩
def row : Fin 4 → Fin 128 → Fin 512
  | 0, p => ⟨p, by omega⟩
  | 1, p => ⟨128 + p, by omega⟩
  | 2, p => ⟨256 + p, by omega⟩
  | 3, p => ⟨384 + p, by omega⟩

/-- The decay of the state for the gate `r` and the parameter `l`. -/
def decay (r l : EReal) : EReal :=
  Ideal.exp (Ideal.ofBits FTy.f32 3238002688#32 * r *
    (max (0 - l) 0 + Ideal.log1p (Ideal.exp (0 - FloatOps.absf (F := Ideal) (φ := .f32) (0 - l)))))

/-- The square root of a number that is not negative, by its reciprocal root. -/
def root (v : EReal) : EReal := if 0 < v then v * Ideal.rsqrt v else 0

section
variable (E : FVec Ideal S896x1024 .f32) (cw : FVec Ideal S1x4x1024 .f32) (cb : FVec Ideal S1x1x1024 .f32)
  (wa wx : FVec Ideal S1x4x256x256 .bf16) (ba bx lam : FVec Ideal S1x1x1024 .f32) (h0 : FVec Ideal S1x128x1024 .f32)

/-- The convolution over time at row `p` and column `j`. -/
def conv (p : Fin 512) (j : Fin 1024) : EReal :=
  cb (ix3 0 0 j) + cw (ix3 0 0 j) * E (ix2 ⟨p, by omega⟩ j) + cw (ix3 0 1 j) * E (ix2 ⟨128 + p, by omega⟩ j)
    + cw (ix3 0 2 j) * E (ix2 ⟨256 + p, by omega⟩ j) + cw (ix3 0 3 j) * E (ix2 ⟨384 + p, by omega⟩ j)

/-- A gate of block `n`, with weights `w` and bias `b`. -/
def gate (w : FVec Ideal S1x4x256x256 .bf16) (b : FVec Ideal S1x1x1024 .f32) (n : Fin 4) (p : Fin 512) (q : Fin 256) : EReal :=
  Ideal.logistic (∑ k : Fin 256, conv E cw cb p (col n k) * w (ix4 0 n k q) + b (ix3 0 0 (col n q)))

/-- The decay and what is added to the state. -/
def dec (n : Fin 4) (p : Fin 512) (q : Fin 256) : EReal :=
  decay (gate E cw cb wa ba n p q) (lam (ix3 0 0 (col n q)))
def inp (n : Fin 4) (p : Fin 512) (q : Fin 256) : EReal :=
  root (1 - dec E cw cb wa ba lam n p q * dec E cw cb wa ba lam n p q) * gate E cw cb wx bx n p q * conv E cw cb p (col n q)

/-- The state after steps 0 to 3. -/
def next (t : Fin 4) (h : EReal) (n : Fin 4) (p : Fin 128) (q : Fin 256) : EReal :=
  dec E cw cb wa ba lam n (row t p) q * h + inp E cw cb wa wx ba bx lam n (row t p) q
def state : Fin 4 → Fin 4 → Fin 128 → Fin 256 → EReal
  | 0, n, p, q => next E cw cb wa wx ba bx lam 0 (h0 (ix3 0 p (col n q))) n p q
  | 1, n, p, q => next E cw cb wa wx ba bx lam 1 (next E cw cb wa wx ba bx lam 0 (h0 (ix3 0 p (col n q))) n p q) n p q
  | 2, n, p, q => next E cw cb wa wx ba bx lam 2 (next E cw cb wa wx ba bx lam 1 (next E cw cb wa wx ba bx lam 0 (h0 (ix3 0 p (col n q))) n p q) n p q) n p q
  | 3, n, p, q => next E cw cb wa wx ba bx lam 3 (next E cw cb wa wx ba bx lam 2 (next E cw cb wa wx ba bx lam 1 (next E cw cb wa wx ba bx lam 0 (h0 (ix3 0 p (col n q))) n p q) n p q) n p q) n p q

/-- The state after step `t`, at column `j`. -/
def stateAt (t : Fin 4) (p : Fin 128) (j : Fin 1024) : EReal :=
  state E cw cb wa wx ba bx lam h0 t ⟨j / 256, by omega⟩ p ⟨j % 256, by omega⟩

theorem stateAt_col (t n : Fin 4) (p : Fin 128) (q : Fin 256) (j : Fin 1024) (hj : (j : ℕ) = 256 * n + q) :
    stateAt E cw cb wa wx ba bx lam h0 t p j = state E cw cb wa wx ba bx lam h0 t n p q := by
  have h1 : (⟨(j : ℕ) / 256, by omega⟩ : Fin 4) = n := Fin.ext (by show (j : ℕ) / 256 = n; omega)
  have h2 : (⟨(j : ℕ) % 256, by omega⟩ : Fin 256) = q := Fin.ext (by show (j : ℕ) % 256 = q; omega)
  unfold stateAt
  rw [h1, h2]

/-- The states of all steps, by rows. -/
def histAt (r : Fin 512) (j : Fin 1024) : EReal :=
  stateAt E cw cb wa wx ba bx lam h0 ⟨r / 128, by omega⟩ ⟨r % 128, by omega⟩ j
def hist : FVec Ideal S512x1024 .f32 := fun i => histAt E cw cb wa wx ba bx lam h0 (i 0) (i 1)

theorem hist_row (t : Fin 4) (p : Fin 128) (r : Fin 512) (j : Fin 1024) (hr : (r : ℕ) = 128 * t + p) :
    hist E cw cb wa wx ba bx lam h0 (ix2 r j) = stateAt E cw cb wa wx ba bx lam h0 t p j := by
  have h1 : (⟨(r : ℕ) / 128, by omega⟩ : Fin 4) = t := Fin.ext (by show (r : ℕ) / 128 = t; omega)
  have h2 : (⟨(r : ℕ) % 128, by omega⟩ : Fin 128) = p := Fin.ext (by show (r : ℕ) % 128 = p; omega)
  show stateAt E cw cb wa wx ba bx lam h0 (⟨(r : ℕ) / 128, by omega⟩ : Fin 4) (⟨(r : ℕ) % 128, by omega⟩ : Fin 128) j = _
  rw [h1, h2]

end

set_option maxHeartbeats 4000000 in
/-- The second result is the last state. -/
theorem hl_eq (c : Dev nD) (i : grid0.Coords) (arg1 : Memref sig .tc .vmem S512x1024 .f32) (harg1 : arg1.IsWhole) (arg2 : Memref sig .tc .vmem S1x128x3072 .f32) (harg2 : arg2.IsWhole) (arg3 : Memref sig .tc .vmem S1x128x1024 .f32) (harg3 : arg3.IsWhole) (arg4 : Memref sig .tc .vmem S384x1024 .f32) (harg4 : arg4.IsWhole) (arg5 : Memref sig .tc .vmem S1x1024x2048 .bf16) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x4x256x256 .bf16) (harg8 : arg8.IsWhole) (arg9 : Memref sig .tc .vmem S1x4x256x256 .bf16) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1024x1024 .bf16) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S512x1024 .f32) (harg16 : arg16.IsWhole) (arg17 : Memref sig .tc .vmem S128x1024 .f32) (harg17 : arg17.IsWhole) (arg18 : Memref sig .tc .vmem S384x1024 .f32) (harg18 : arg18.IsWhole) (arg19 : Memref sig .tc .vmem S512x1024 .f32) (harg19 : arg19.IsWhole)
    (x0 : FVec Ideal S512x1024 .f32) (x1 : FVec Ideal S1x128x3072 .f32) (x2 : FVec Ideal S1x128x1024 .f32) (x3 : FVec Ideal S384x1024 .f32) (x4 : FVec Ideal S1x1024x2048 .bf16) (x5 : FVec Ideal S1x4x1024 .f32) (x6 : FVec Ideal S1x1x1024 .f32) (x7 : FVec Ideal S1x4x256x256 .bf16) (x8 : FVec Ideal S1x4x256x256 .bf16) (x9 : FVec Ideal S1x1x1024 .f32) (x10 : FVec Ideal S1x1x1024 .f32) (x11 : FVec Ideal S1x1x1024 .f32) (x12 : FVec Ideal S1x1024x1024 .bf16) (x13 : FVec Ideal S1x1x1024 .f32) (x14 : FVec Ideal S1x1x1024 .f32) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 = fun y => stateAt (k0_pay7 (F := Ideal) x0 x1 x4 x3) x5 x6 x7 x8 x9 x10 x11 x2 3 (y 0) (y 1) := by
  refine funext fun (y : S128x1024.Idx) => ?_
  unfold out0_A_16
  frame_out
  generalize k0_pay7 (F := Ideal) x0 x1 x4 x3 = E
  idx_vars y
  canon_tiles z h
  all_goals
    idx_vars z
    have h0' : y0 = z0 := Fin.ext h0
    subst h0'
    first
    | refine Eq.trans ?_ (stateAt_col _ _ _ _ _ _ _ _ _ 3 0 y0 z1 y1 (by simp at h1 ⊢; omega)).symm
    | refine Eq.trans ?_ (stateAt_col _ _ _ _ _ _ _ _ _ 3 1 y0 z1 y1 (by simp at h1 ⊢; omega)).symm
    | refine Eq.trans ?_ (stateAt_col _ _ _ _ _ _ _ _ _ 3 2 y0 z1 y1 (by simp at h1 ⊢; omega)).symm
    | refine Eq.trans ?_ (stateAt_col _ _ _ _ _ _ _ _ _ 3 3 y0 z1 y1 (by simp at h1 ⊢; omega)).symm
    pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, state, next, dec, inp, gate, conv, col, row, decay, root]

set_option maxHeartbeats 8000000 in
/-- The first result is the layer norm of the residual, whose products take the states of all steps. -/
theorem xn_eq (c : Dev nD) (i : grid0.Coords) (arg1 : Memref sig .tc .vmem S512x1024 .f32) (harg1 : arg1.IsWhole) (arg2 : Memref sig .tc .vmem S1x128x3072 .f32) (harg2 : arg2.IsWhole) (arg3 : Memref sig .tc .vmem S1x128x1024 .f32) (harg3 : arg3.IsWhole) (arg4 : Memref sig .tc .vmem S384x1024 .f32) (harg4 : arg4.IsWhole) (arg5 : Memref sig .tc .vmem S1x1024x2048 .bf16) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x4x256x256 .bf16) (harg8 : arg8.IsWhole) (arg9 : Memref sig .tc .vmem S1x4x256x256 .bf16) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1024x1024 .bf16) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S512x1024 .f32) (harg16 : arg16.IsWhole) (arg17 : Memref sig .tc .vmem S128x1024 .f32) (harg17 : arg17.IsWhole) (arg18 : Memref sig .tc .vmem S384x1024 .f32) (harg18 : arg18.IsWhole) (arg19 : Memref sig .tc .vmem S512x1024 .f32) (harg19 : arg19.IsWhole)
    (x0 : FVec Ideal S512x1024 .f32) (x1 : FVec Ideal S1x128x3072 .f32) (x2 : FVec Ideal S1x128x1024 .f32) (x3 : FVec Ideal S384x1024 .f32) (x4 : FVec Ideal S1x1024x2048 .bf16) (x5 : FVec Ideal S1x4x1024 .f32) (x6 : FVec Ideal S1x1x1024 .f32) (x7 : FVec Ideal S1x4x256x256 .bf16) (x8 : FVec Ideal S1x4x256x256 .bf16) (x9 : FVec Ideal S1x1x1024 .f32) (x10 : FVec Ideal S1x1x1024 .f32) (x11 : FVec Ideal S1x1x1024 .f32) (x12 : FVec Ideal S1x1024x1024 .bf16) (x13 : FVec Ideal S1x1x1024 .f32) (x14 : FVec Ideal S1x1x1024 .f32) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 = k0_pay1 (F := Ideal) (k0_pay70 (F := Ideal) (k0_pay2 (F := Ideal) x0) (k0_pay4 (F := Ideal) x1) (k0_pay6 (F := Ideal) x0 x1 x4)
      (hist (k0_pay7 (F := Ideal) x0 x1 x4 x3) x5 x6 x7 x8 x9 x10 x11 x2) x12) x13 x14 := by
  unfold out0_A_15
  frame_out
  generalize k0_pay7 (F := Ideal) x0 x1 x4 x3 = E
  refine congrArg (fun H => k0_pay1 (F := Ideal) (k0_pay70 (F := Ideal) (k0_pay2 (F := Ideal) x0) (k0_pay4 (F := Ideal) x1) (k0_pay6 (F := Ideal) x0 x1 x4) H x12) x13 x14) ?_
  refine (View.readCov_eq_canon_ld _ _ _ (View.cover_of_tiled_head _ _ _ (by rfl))).trans ?_
  refine (View.ld_unit_lit _ _ (by decide)).trans ?_
  refine funext fun (y : S512x1024.Idx) => ?_
  idx_vars y
  canon_tiles z h
  all_goals
    idx_vars z
    first
    | refine Eq.trans ?_ (hist_row _ _ _ _ _ _ _ _ _ 0 z0 y0 y1 (by simp at h0 ⊢; omega)).symm
    | refine Eq.trans ?_ (hist_row _ _ _ _ _ _ _ _ _ 1 z0 y0 y1 (by simp at h0 ⊢; omega)).symm
    | refine Eq.trans ?_ (hist_row _ _ _ _ _ _ _ _ _ 2 z0 y0 y1 (by simp at h0 ⊢; omega)).symm
    | refine Eq.trans ?_ (hist_row _ _ _ _ _ _ _ _ _ 3 z0 y0 y1 (by simp at h0 ⊢; omega)).symm
    first
    | refine Eq.trans ?_ (stateAt_col _ _ _ _ _ _ _ _ _ _ 0 z0 z1 y1 (by simp at h1 ⊢; omega)).symm
    | refine Eq.trans ?_ (stateAt_col _ _ _ _ _ _ _ _ _ _ 1 z0 z1 y1 (by simp at h1 ⊢; omega)).symm
    | refine Eq.trans ?_ (stateAt_col _ _ _ _ _ _ _ _ _ _ 2 z0 z1 y1 (by simp at h1 ⊢; omega)).symm
    | refine Eq.trans ?_ (stateAt_col _ _ _ _ _ _ _ _ _ _ 3 z0 z1 y1 (by simp at h1 ⊢; omega)).symm
    pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, state, next, dec, inp, gate, conv, col, row, decay, root]

/-- The third result is the end of the rows the convolution reads. -/
theorem cl_eq (c : Dev nD) (i : grid0.Coords) (arg1 : Memref sig .tc .vmem S512x1024 .f32) (harg1 : arg1.IsWhole) (arg2 : Memref sig .tc .vmem S1x128x3072 .f32) (harg2 : arg2.IsWhole) (arg3 : Memref sig .tc .vmem S1x128x1024 .f32) (harg3 : arg3.IsWhole) (arg4 : Memref sig .tc .vmem S384x1024 .f32) (harg4 : arg4.IsWhole) (arg5 : Memref sig .tc .vmem S1x1024x2048 .bf16) (harg5 : arg5.IsWhole) (arg6 : Memref sig .tc .vmem S1x4x1024 .f32) (harg6 : arg6.IsWhole) (arg7 : Memref sig .tc .vmem S1x1x1024 .f32) (harg7 : arg7.IsWhole) (arg8 : Memref sig .tc .vmem S1x4x256x256 .bf16) (harg8 : arg8.IsWhole) (arg9 : Memref sig .tc .vmem S1x4x256x256 .bf16) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1024x1024 .bf16) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S512x1024 .f32) (harg16 : arg16.IsWhole) (arg17 : Memref sig .tc .vmem S128x1024 .f32) (harg17 : arg17.IsWhole) (arg18 : Memref sig .tc .vmem S384x1024 .f32) (harg18 : arg18.IsWhole) (arg19 : Memref sig .tc .vmem S512x1024 .f32) (harg19 : arg19.IsWhole)
    (x0 : FVec Ideal S512x1024 .f32) (x1 : FVec Ideal S1x128x3072 .f32) (x2 : FVec Ideal S1x128x1024 .f32) (x3 : FVec Ideal S384x1024 .f32) (x4 : FVec Ideal S1x1024x2048 .bf16) (x5 : FVec Ideal S1x4x1024 .f32) (x6 : FVec Ideal S1x1x1024 .f32) (x7 : FVec Ideal S1x4x256x256 .bf16) (x8 : FVec Ideal S1x4x256x256 .bf16) (x9 : FVec Ideal S1x1x1024 .f32) (x10 : FVec Ideal S1x1x1024 .f32) (x11 : FVec Ideal S1x1x1024 .f32) (x12 : FVec Ideal S1x1024x1024 .bf16) (x13 : FVec Ideal S1x1x1024 .f32) (x14 : FVec Ideal S1x1x1024 .f32) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 = k0_pay8 (F := Ideal) x0 x1 x4 x3 := by
  unfold out0_A_17
  frame_out

end Cert.LruIdeal.Rec
-- ==== Proof.LruMath.lean ====
/- The scalar facts of the recurrence: the decay lies between 0 and 1, so that the kernel's `v * rsqrt v` is the root the reference
   takes of `-expm1 (2 log a)`, and its steps one after another are the reference's pairwise scan. -/
module

public import proofs.«01_k».proof.Proof.LruRows

@[expose] public section

noncomputable section

namespace Cert.LruIdeal.Rec

open Idealize.ShloMosaic

theorem lit_two : Ideal.ofBits FTy.f32 1073741824#32 = ((2 : ℝ) : EReal) := by
  simp [Ideal.ofBits, Ideal.ieee, -EReal.coe_mul]; norm_num

theorem lit_neg_eight : Ideal.ofBits FTy.f32 3238002688#32 = ((-(8 : ℝ)) : EReal) := by
  simp [Ideal.ofBits, Ideal.ieee, -EReal.coe_mul, -EReal.coe_neg]; norm_num

theorem exp_nonneg (x : EReal) : 0 ≤ Ideal.exp x := by
  induction x using EReal.rec with
  | bot => exact le_refl (0 : EReal)
  | top => exact le_top
  | coe r => exact EReal.coe_nonneg.2 (Real.exp_pos r).le

theorem log1p_nonneg {x : EReal} (h : 0 ≤ x) : 0 ≤ Ideal.log1p x := by
  induction x using EReal.rec with
  | bot => exact absurd h (by simp)
  | top => show 0 ≤ Ideal.log (1 + ⊤); rw [show (1 : EReal) + ⊤ = ⊤ from rfl]; exact le_top
  | coe r =>
    have hr : 0 ≤ r := EReal.coe_nonneg.1 h
    show 0 ≤ Ideal.log (1 + (r : EReal))
    rw [show (1 : EReal) + (r : EReal) = ((1 + r : ℝ) : EReal) by push_cast; rfl]
    show 0 ≤ (if 1 + r ≤ 0 then (⊥ : EReal) else (Real.log (1 + r) : EReal))
    rw [if_neg (by linarith)]
    exact EReal.coe_nonneg.2 (Real.log_nonneg (by linarith))

theorem logistic_nonneg (x : EReal) : 0 ≤ Ideal.logistic x := by
  have h : 0 ≤ 1 + Ideal.exp (-x) := add_nonneg zero_le_one (exp_nonneg _)
  show 0 ≤ Ideal.div 1 (1 + Ideal.exp (-x))
  unfold Ideal.div
  split_ifs with h0 h1
  · exact le_top
  · exact absurd zero_lt_one h1
  · rw [one_mul]; exact EReal.inv_nonneg_of_nonneg h

/-- The logarithm of the decay. -/
def logDecay (r l : EReal) : EReal :=
  Ideal.ofBits FTy.f32 3238002688#32 * r *
    (max (0 - l) 0 + Ideal.log1p (Ideal.exp (0 - FloatOps.absf (F := Ideal) (φ := .f32) (0 - l))))

theorem decay_eq (r l : EReal) : decay r l = Ideal.exp (logDecay r l) := rfl

theorem logDecay_nonpos {r : EReal} (h : 0 ≤ r) (l : EReal) : logDecay r l ≤ 0 := by
  unfold logDecay
  have hs : 0 ≤ max (0 - l) 0 + Ideal.log1p (Ideal.exp (0 - FloatOps.absf (F := Ideal) (φ := .f32) (0 - l))) :=
    add_nonneg (le_max_right _ _) (log1p_nonneg (exp_nonneg _))
  rw [lit_neg_eight, EReal.neg_mul, EReal.neg_mul]
  have h8 : (0 : EReal) ≤ ((8 : ℝ) : EReal) := EReal.coe_nonneg.2 (by norm_num)
  exact (EReal.neg_le_neg_iff.2 (mul_nonneg (mul_nonneg h8 h) hs)).trans_eq neg_zero

theorem decay_nonneg (r l : EReal) : 0 ≤ decay r l := exp_nonneg _

theorem decay_ne_top {r : EReal} (h : 0 ≤ r) (l : EReal) : decay r l ≠ ⊤ := by
  have hx := logDecay_nonpos h l
  rw [decay_eq]
  generalize logDecay r l = x at hx
  induction x using EReal.rec with
  | bot => exact EReal.zero_ne_top
  | top => exact absurd hx (by simp)
  | coe y => exact EReal.coe_ne_top _

theorem root_coe {v : ℝ} (h : 0 ≤ v) : root (v : EReal) = Ideal.sqrt (v : EReal) := by
  unfold root
  show _ = (if v < 0 then (⊥ : EReal) else (Real.sqrt v : EReal))
  rw [if_neg (not_lt.2 h)]
  rcases h.eq_or_lt with h0 | h0
  · subst h0; simp
  · rw [if_pos (EReal.coe_pos.2 h0)]
    show (v : EReal) * (if v < 0 then (⊥ : EReal) else if v = 0 then ⊤ else (((Real.sqrt v)⁻¹ : ℝ) : EReal)) = _
    rw [if_neg (not_lt.2 h), if_neg h0.ne', ← EReal.coe_mul]
    congr 1
    rw [← div_eq_mul_inv]; exact Real.div_sqrt

/-- The kernel's root is the reference's. -/
theorem root_decay {r : EReal} (h : 0 ≤ r) (l : EReal) :
    root (1 - decay r l * decay r l) =
      Ideal.sqrt (-(Ideal.exp (Ideal.ofBits FTy.f32 1073741824#32 * logDecay r l) - 1)) := by
  have hx := logDecay_nonpos h l
  rw [decay_eq, lit_two]
  generalize logDecay r l = x at hx
  induction x using EReal.rec with
  | bot =>
    rw [EReal.coe_mul_bot_of_pos (by norm_num)]
    show root (1 - 0 * 0) = Ideal.sqrt (-(0 - 1))
    have e1 : (1 : EReal) - 0 * 0 = ((1 : ℝ) : EReal) := by simp
    have e2 : -((0 : EReal) - 1) = ((1 : ℝ) : EReal) := by simp
    rw [e1, e2]
    exact root_coe (by norm_num)
  | top => exact absurd hx (by simp)
  | coe y =>
    have hy : y ≤ 0 := EReal.coe_nonpos.1 hx
    rw [← EReal.coe_mul]
    show root (1 - (Real.exp y : EReal) * (Real.exp y : EReal)) = Ideal.sqrt (-((Real.exp (2 * y) : EReal) - 1))
    have e : Real.exp (2 * y) = Real.exp y * Real.exp y := by rw [two_mul, Real.exp_add]
    have e1 : (1 : EReal) - (Real.exp y : EReal) * (Real.exp y : EReal) = ((1 - Real.exp y * Real.exp y : ℝ) : EReal) := by
      push_cast; rfl
    have e2 : -((Real.exp (2 * y) : EReal) - 1) = ((1 - Real.exp y * Real.exp y : ℝ) : EReal) := by
      rw [e, ← EReal.coe_one, ← EReal.coe_sub, ← EReal.coe_neg]
      congr 1; ring
    rw [e1, e2]
    refine root_coe ?_
    have h1 : Real.exp y ≤ 1 := Real.exp_le_one_iff.2 hy
    have h0 := (Real.exp_pos y).le
    nlinarith

/-- Four steps, the last two taken together first. -/
theorem scan_last {a3 : EReal} (h : 0 ≤ a3) (ht : a3 ≠ ⊤) (a2 b2 b3 x : EReal) :
    a2 * a3 * x + (a3 * b2 + b3) = a3 * (a2 * x + b2) + b3 := by
  rw [EReal.left_distrib_of_nonneg_of_ne_top h ht, add_assoc, mul_comm a2 a3, mul_assoc]

end Cert.LruIdeal.Rec
-- ==== Proof.LruRef.lean ====
/- The reference of the recurrent layer, step by step, against the terms the kernel leaves. -/
module

public import proofs.«01_k».proof.Proof.LruMath
public import proofs.«01_k».proof.Proof.Gen.LruRefIdeal.Read

@[expose] public section

set_option maxRecDepth 16384

noncomputable section

namespace Cert.LruIdeal.Rec

open Cert.LruIdeal Cert.LruIdeal.Gen Idealize.ShloMosaic Idealize.ShloMosaic.TcCoe Idealize.SL.Sem

theorem row_val (t : Fin 4) (p : Fin 128) : (row t p : ℕ) = 128 * t + p := by
  fin_cases t <;> simp [row]

theorem col_val (n : Fin 4) (q : Fin 256) : (col n q : ℕ) = 256 * n + q := by
  fin_cases n <;> simp [col]

/-! The blocks of the call, from its arguments. -/

def b0At (a : FVec Ideal S128x4x1024 .f32) (r : Fin 512) (j : Fin 1024) : EReal := a (ix3 ⟨r % 128, by omega⟩ ⟨r / 128, by omega⟩ j)
def b0 (a : FVec Ideal S128x4x1024 .f32) : FVec Ideal S512x1024 .f32 := fun i => b0At a (i 0) (i 1)
def b1 (a : FVec Ideal S8x128x3072 .f32) : FVec Ideal S1x128x3072 .f32 := fun i => a (ix3 0 (i 1) (i 2))
def b2 (a : FVec Ideal S2x128x1024 .f32) : FVec Ideal S1x128x1024 .f32 := fun i => a (ix3 0 (i 1) (i 2))
def b3At (a : FVec Ideal S2x128x3x1024 .f32) (r : Fin 384) (j : Fin 1024) : EReal := a (ix4 0 ⟨r % 128, by omega⟩ ⟨r / 128, by omega⟩ j)
def b3 (a : FVec Ideal S2x128x3x1024 .f32) : FVec Ideal S384x1024 .f32 := fun i => b3At a (i 0) (i 1)
def b4 (a : FVec Ideal S2x1024x2048 .f32) : FVec Ideal S1x1024x2048 .bf16 := fun i => a (ix3 0 (i 1) (i 2))
def b5 (a : FVec Ideal S2x4x1024 .f32) : FVec Ideal S1x4x1024 .f32 := fun i => a (ix3 0 (i 1) (i 2))
def b6 (a : FVec Ideal S2x1024 .f32) : FVec Ideal S1x1x1024 .f32 := fun i => a (ix2 0 (i 2))
def b7 (a : FVec Ideal S2x4x256x256 .f32) : FVec Ideal S1x4x256x256 .bf16 := fun i => a (ix4 0 (i 1) (i 2) (i 3))
def b12 (a : FVec Ideal S2x1024x1024 .f32) : FVec Ideal S1x1024x1024 .bf16 := fun i => a (ix3 0 (i 1) (i 2))
def b13 (a : FVec Ideal S4x2x1024 .f32) : FVec Ideal S1x1x1024 .f32 := fun i => a (ix3 0 0 (i 2))

theorem b0_at (a : FVec Ideal S128x4x1024 .f32) (t : Fin 4) (b : Fin 128) (r : Fin 512) (hr : (r : ℕ) = 128 * t + b) (j : Fin 1024) :
    b0 a (ix2 r j) = a (ix3 b t j) := by
  have h1 : (⟨(r : ℕ) / 128, by omega⟩ : Fin 4) = t := Fin.ext (by show (r : ℕ) / 128 = t; omega)
  have h2 : (⟨(r : ℕ) % 128, by omega⟩ : Fin 128) = b := Fin.ext (by show (r : ℕ) % 128 = b; omega)
  show a (ix3 (⟨(r : ℕ) % 128, by omega⟩ : Fin 128) (⟨(r : ℕ) / 128, by omega⟩ : Fin 4) j) = _
  rw [h1, h2]

theorem b3_at (a : FVec Ideal S2x128x3x1024 .f32) (s : Fin 3) (b : Fin 128) (r : Fin 384) (hr : (r : ℕ) = 128 * s + b) (j : Fin 1024) :
    b3 a (ix2 r j) = a (ix4 0 b s j) := by
  have h1 : (⟨(r : ℕ) / 128, by omega⟩ : Fin 3) = s := Fin.ext (by show (r : ℕ) / 128 = s; omega)
  have h2 : (⟨(r : ℕ) % 128, by omega⟩ : Fin 128) = b := Fin.ext (by show (r : ℕ) % 128 = b; omega)
  show a (ix4 0 (⟨(r : ℕ) % 128, by omega⟩ : Fin 128) (⟨(r : ℕ) / 128, by omega⟩ : Fin 3) j) = _
  rw [h1, h2]

/-! The kernel's terms at row `r` of step `t` and sequence `b`. -/

/-- The four copies of the modulation, one for each step. -/
theorem tile (t : Fin 4) (b : Fin 128) (r : Fin 512) (hr : (r : ℕ) = 128 * t + b) (f : Fin 128 → EReal) :
    (if h : (r : ℕ) < 128 then f ⟨r, h⟩ else if h : (r : ℕ) - 128 < 128 then f ⟨r - 128, h⟩
      else if h : (r : ℕ) - 128 - 128 < 128 then f ⟨r - 128 - 128, h⟩ else f ⟨r - 128 - 128 - 128, by omega⟩) = f b := by
  split_ifs <;> exact congrArg f (Fin.ext (by simp only; omega))

theorem pay5_at (x : FVec Ideal S512x1024 .f32) (md : FVec Ideal S1x128x3072 .f32) (w : FVec Ideal S1x1024x2048 .bf16) (t : Fin 4)
    (b : Fin 128) (r : Fin 512) (hr : (r : ℕ) = 128 * t + b) (j : Fin 2048) :
    k0_pay5 (F := Ideal) x md w (ix2 r j) =
      ∑ k : Fin 1024, (x (ix2 r k) * md (ix3 0 b ⟨1024 + k, by omega⟩) + md (ix3 0 b ⟨k, by omega⟩)) * w (ix3 0 k j) := by
  pointwise [k0_pay5, k0_pay3, k0_pay2]
  refine Finset.sum_congr rfl fun k _ => congrArg (· * w (ix3 0 k j)) (congrArg₂ (fun u v => x (ix2 r k) * u + v) ?_ ?_)
  · exact tile t b r hr fun p => md (ix3 0 p ⟨1024 + k, by omega⟩)
  · exact tile t b r hr fun p => md (ix3 0 p ⟨k, by omega⟩)

theorem pay4_at (md : FVec Ideal S1x128x3072 .f32) (t : Fin 4) (b : Fin 128) (r : Fin 512) (hr : (r : ℕ) = 128 * t + b) (j : Fin 1024) :
    k0_pay4 (F := Ideal) md (ix2 r j) = md (ix3 0 b ⟨2048 + j, by omega⟩) := by
  pointwise [k0_pay4, k0_pay3]
  exact tile t b r hr fun p => md (ix3 0 p ⟨2048 + j, by omega⟩)

theorem pay7_at (x : FVec Ideal S512x1024 .f32) (md : FVec Ideal S1x128x3072 .f32) (w : FVec Ideal S1x1024x2048 .bf16)
    (c : FVec Ideal S384x1024 .f32) (r : Fin 896) (j : Fin 1024) :
    k0_pay7 (F := Ideal) x md w c (ix2 r j) =
      if h : (r : ℕ) < 384 then c (ix2 ⟨r, h⟩ j) else k0_pay5 (F := Ideal) x md w (ix2 ⟨r - 384, by omega⟩ ⟨1024 + j, by omega⟩) := by
  pointwise [k0_pay7]

theorem pay1_at (X : FVec Ideal S512x1024 .f32) (g c : FVec Ideal S1x1x1024 .f32) (r : Fin 512) (j : Fin 1024) :
    k0_pay1 (F := Ideal) X g c (ix2 r j) =
      (X (ix2 r j) - Ideal.div (∑ k : Fin 1024, X (ix2 r k)) (Ideal.ofBits .f32 1149239296#32)) *
          Ideal.rsqrt (Ideal.div (∑ k : Fin 1024, (X (ix2 r k) - Ideal.div (∑ k : Fin 1024, X (ix2 r k)) (Ideal.ofBits .f32 1149239296#32)) *
            (X (ix2 r k) - Ideal.div (∑ k : Fin 1024, X (ix2 r k)) (Ideal.ofBits .f32 1149239296#32))) (Ideal.ofBits .f32 1149239296#32) +
              Ideal.ofBits .f32 925353388#32) * g (ix3 0 0 j) + c (ix3 0 0 j) := by
  pointwise [k0_pay1]

end Cert.LruIdeal.Rec

namespace Cert.LruRefIdeal.Rec

open Cert.LruRefIdeal Cert.LruRefIdeal.Gen Cert.LruRefIdeal.Read Cert.LruIdeal.Rec Idealize.ShloMosaic
open Cert.LruIdeal.Gen (k0_pay1 k0_pay2 k0_pay4 k0_pay5 k0_pay6 k0_pay7 k0_pay8 k0_pay70)

variable (x0 : FVec Ideal S128x4x1024 .f32) (x1 : FVec Ideal S8x128x3072 .f32) (x2 : FVec Ideal S2x128x1024 .f32)
  (x3 : FVec Ideal S2x128x3x1024 .f32) (x4 : FVec Ideal S2x1024x2048 .f32) (x5 : FVec Ideal S2x4x1024 .f32) (x6 : FVec Ideal S2x1024 .f32)
  (x7 : FVec Ideal S2x4x256x256 .f32) (x8 : FVec Ideal S2x1024 .f32) (x9 : FVec Ideal S2x4x256x256 .f32)
  (x10 x11 : FVec Ideal S2x1024 .f32) (x12 : FVec Ideal S2x1024x1024 .f32) (x13 x14 : FVec Ideal S4x2x1024 .f32)

/-- The rows the convolution reads, as the kernel has them. -/
abbrev rows : FVec Ideal Cert.LruIdeal.S896x1024 .f32 := k0_pay7 (F := Ideal) (b0 x0) (b1 x1) (b4 x4) (b3 x3)

theorem r32 (t : Fin 4) (b : Fin 128) (r : Fin 512) (hr : (r : ℕ) = 128 * t + b) (j : Fin 2048) :
    val_main_v32 (F := Ideal) x0 x1 x4 (ix3 b t j) = k0_pay5 (F := Ideal) (b0 x0) (b1 x1) (b4 x4) (ix2 r j) := by
  refine Eq.trans ?_ (pay5_at _ _ _ t b r hr j).symm
  pointwise [val_main_v32, val_main_v0, val_main_v1, val_main_v2, val_main_v3, val_main_v4, val_main_v5, val_main_v6, val_main_v7, val_main_v8, val_main_v9, val_main_v14, val_main_v15]
  refine Finset.sum_congr rfl fun k _ => ?_
  rw [b0_at x0 t b r hr k]
  rfl

theorem r48 (s : Fin 7) (b : Fin 128) (r : Fin 896) (hr : (r : ℕ) = 128 * s + b) (j : Fin 1024) :
    val_main_v48 (F := Ideal) x0 x1 x3 x4 (ix3 b s j) = rows x0 x1 x3 x4 (ix2 r j) := by
  refine Eq.trans ?_ (pay7_at _ _ _ _ r j).symm
  pointwise [val_main_v48, val_main_v12, val_main_v13, val_main_v34]
  by_cases h : (s : ℕ) < 3
  · rw [dif_pos h, dif_pos (by omega)]
    exact (b3_at x3 ⟨s, h⟩ b _ hr j).symm
  · rw [dif_neg h, dif_neg (by omega)]
    exact r32 x0 x1 x4 ⟨s - 3, by omega⟩ b _ (by simp only; omega) _

theorem r78 (t : Fin 4) (b : Fin 128) (j : Fin 1024) :
    val_main_v78 (F := Ideal) x0 x1 x3 x4 x5 x6 (ix3 b t j) = conv (rows x0 x1 x3 x4) (b5 x5) (b6 x6) (row t b) j := by
  have hr := row_val t b
  pointwise [val_main_v78, val_main_v16, val_main_v17, val_main_v18, val_main_v19, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77]
  rw [r48 x0 x1 x3 x4 ⟨t, by omega⟩ b ⟨row t b, by omega⟩ hr j, r48 x0 x1 x3 x4 ⟨1 + t, by omega⟩ b ⟨128 + row t b, by omega⟩ (by simp only; omega) j,
    r48 x0 x1 x3 x4 ⟨2 + t, by omega⟩ b ⟨256 + row t b, by omega⟩ (by simp only; omega) j, r48 x0 x1 x3 x4 ⟨3 + t, by omega⟩ b ⟨384 + row t b, by omega⟩ (by simp only; omega) j]
  rw [mul_comm _ (x5 (ix3 0 0 j)), mul_comm _ (x5 (ix3 0 1 j)), mul_comm _ (x5 (ix3 0 2 j)), mul_comm _ (x5 (ix3 0 3 j))]
  rfl

/-- A gate, its block and column within the block apart. -/
theorem gate_eq (w : FVec Ideal S2x4x256x256 .f32) (c : FVec Ideal S2x1024 .f32) (t n : Fin 4) (b : Fin 128) (q : Fin 256) (j : Fin 1024)
    (hj : j = col n q) :
    Ideal.logistic (∑ k : Fin 256, w (ix4 0 ⟨j / 256, by omega⟩ k ⟨j % 256, by omega⟩) *
        val_main_v78 (F := Ideal) x0 x1 x3 x4 x5 x6 (ix3 b t ⟨j / 256 * 256 + k, by omega⟩) + c (ix2 0 j)) =
      gate (rows x0 x1 x3 x4) (b5 x5) (b6 x6) (b7 w) (b6 c) n (row t b) q := by
  have hv := col_val n q
  subst hj
  refine congrArg Ideal.logistic (congrArg (· + c (ix2 0 (col n q))) (Finset.sum_congr rfl fun k _ => ?_))
  have h1 : (⟨(col n q : ℕ) / 256, by omega⟩ : Fin 4) = n := Fin.ext (by show (col n q : ℕ) / 256 = n; omega)
  have h2 : (⟨(col n q : ℕ) % 256, by omega⟩ : Fin 256) = q := Fin.ext (by show (col n q : ℕ) % 256 = q; omega)
  have h3 : (⟨(col n q : ℕ) / 256 * 256 + k, by omega⟩ : Fin 1024) = col n k :=
    Fin.ext (by have := col_val n k; show (col n q : ℕ) / 256 * 256 + k = (col n k : ℕ); omega)
  rw [h1, h2, h3, r78, mul_comm]
  rfl

theorem r91 (t n : Fin 4) (b : Fin 128) (q : Fin 256) :
    val_main_v91 (F := Ideal) x0 x1 x3 x4 x5 x6 x7 x8 (ix3 b t (col n q)) = gate (rows x0 x1 x3 x4) (b5 x5) (b6 x6) (b7 x7) (b6 x8) n (row t b) q := by
  refine Eq.trans ?_ (gate_eq x0 x1 x3 x4 x5 x6 x7 x8 t n b q _ rfl)
  pointwise [val_main_v91, val_main_v20, val_main_v21, val_main_v22, val_main_v23, val_main_v79, val_main_v80, val_main_v81, val_main_v82, val_main_v83, val_main_v84, val_main_v85, val_main_v86, val_main_v87, val_main_v88, val_main_v89, val_main_v90, val_main_cst, val_main_cst_0, val_main_cst_1, val_main_cst_2, val_main_cst_3, val_main_cst_4, val_main_cst_5, val_main_cst_6, val_main_cst_7, val_main_call0_cst, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  rfl

theorem r103 (t n : Fin 4) (b : Fin 128) (q : Fin 256) :
    val_main_v103 (F := Ideal) x0 x1 x3 x4 x5 x6 x9 x10 (ix3 b t (col n q)) = gate (rows x0 x1 x3 x4) (b5 x5) (b6 x6) (b7 x9) (b6 x10) n (row t b) q := by
  refine Eq.trans ?_ (gate_eq x0 x1 x3 x4 x5 x6 x9 x10 t n b q _ rfl)
  pointwise [val_main_v103, val_main_v24, val_main_v25, val_main_v26, val_main_v27, val_main_v79, val_main_v92, val_main_v93, val_main_v94, val_main_v95, val_main_v96, val_main_v97, val_main_v98, val_main_v99, val_main_v100, val_main_v101, val_main_v102, val_main_cst, val_main_cst_0, val_main_cst_1, val_main_cst_2, val_main_cst_3, val_main_cst_4, val_main_cst_5, val_main_cst_6, val_main_cst_7, val_main_call0_cst, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  rfl

/-- The logarithm of the decay. -/
theorem r110 (t n : Fin 4) (b : Fin 128) (q : Fin 256) :
    val_main_v110 (F := Ideal) x0 x1 x3 x4 x5 x6 x7 x8 x11 (ix3 b t (col n q)) =
      logDecay (gate (rows x0 x1 x3 x4) (b5 x5) (b6 x6) (b7 x7) (b6 x8) n (row t b) q) (b6 x11 (ix3 0 0 (col n q))) := by
  rw [← r91]
  show _ = logDecay _ (x11 (ix2 0 (col n q)))
  unfold logDecay
  generalize col n q = j
  rw [zero_sub, zero_sub]
  pointwise [val_main_v110, val_main_v28, val_main_v29, val_main_v104, val_main_v105, val_main_v106, val_main_v107, val_main_v108, val_main_v109, val_main_cst, val_main_cst_0, val_main_cst_1, val_main_cst_2, val_main_cst_3, val_main_cst_4, val_main_cst_5, val_main_cst_6, val_main_cst_7, val_main_call0_cst, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_call0_v0, val_main_call0_v1, val_main_call0_v2, val_main_call0_v3, val_main_call0_v4, val_main_call0_v5, val_main_call0_v6, val_main_call0_v7, val_main_call0_v8, val_main_call0_v9, val_main_call0_v10, val_main_call0_v11]
  rw [if_neg (fun h => h rfl)]

theorem r111 (t n : Fin 4) (b : Fin 128) (q : Fin 256) :
    val_main_v111 (F := Ideal) x0 x1 x3 x4 x5 x6 x7 x8 x11 (ix3 b t (col n q)) =
      dec (rows x0 x1 x3 x4) (b5 x5) (b6 x6) (b7 x7) (b6 x8) (b6 x11) n (row t b) q := by
  refine Eq.trans ?_ (congrArg Ideal.exp (r110 x0 x1 x3 x4 x5 x6 x7 x8 x11 t n b q))
  pointwise [val_main_v111]

theorem r118 (t n : Fin 4) (b : Fin 128) (q : Fin 256) :
    val_main_v118 (F := Ideal) x0 x1 x3 x4 x5 x6 x7 x8 x9 x10 x11 (ix3 b t (col n q)) =
      inp (rows x0 x1 x3 x4) (b5 x5) (b6 x6) (b7 x7) (b7 x9) (b6 x8) (b6 x10) (b6 x11) n (row t b) q := by
  have hg : 0 ≤ gate (rows x0 x1 x3 x4) (b5 x5) (b6 x6) (b7 x7) (b6 x8) n (row t b) q := logistic_nonneg _
  unfold inp dec
  rw [root_decay hg, ← r110, ← r103, ← r78]
  pointwise [val_main_v118, val_main_v112, val_main_v113, val_main_v114, val_main_v115, val_main_v116, val_main_v117, val_main_cst, val_main_cst_0, val_main_cst_1, val_main_cst_2, val_main_cst_3, val_main_cst_4, val_main_cst_5, val_main_cst_6, val_main_cst_7, val_main_call0_cst, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]

/-- The first step takes the given state in. -/
theorem r126_first (n : Fin 4) (b : Fin 128) (q : Fin 256) :
    val_main_v126 (F := Ideal) x0 x1 x2 x3 x4 x5 x6 x7 x8 x9 x10 x11 (ix3 b 0 (col n q)) =
      next (rows x0 x1 x3 x4) (b5 x5) (b6 x6) (b7 x7) (b7 x9) (b6 x8) (b6 x10) (b6 x11) 0 (b2 x2 (ix3 0 b (col n q))) n b q := by
  unfold next
  rw [← r111, ← r118, add_comm]
  pointwise [val_main_v126, val_main_v10, val_main_v11, val_main_v119, val_main_v120, val_main_v121, val_main_v122, val_main_v123, val_main_v124, val_main_v125]
  rfl

theorem r126 (t n : Fin 4) (ht : t ≠ 0) (b : Fin 128) (q : Fin 256) :
    val_main_v126 (F := Ideal) x0 x1 x2 x3 x4 x5 x6 x7 x8 x9 x10 x11 (ix3 b t (col n q)) =
      inp (rows x0 x1 x3 x4) (b5 x5) (b6 x6) (b7 x7) (b7 x9) (b6 x8) (b6 x10) (b6 x11) n (row t b) q := by
  rw [← r118]
  have h : ¬ (t : ℕ) < 1 := fun h => ht (Fin.ext (by simp only [Fin.val_zero]; omega))
  pointwise [val_main_v126, val_main_v10, val_main_v11, val_main_v119, val_main_v120, val_main_v121, val_main_v122, val_main_v123, val_main_v124, val_main_v125]
  rw [dif_neg h]
  refine congrArg (fun s => val_main_v118 (F := Ideal) x0 x1 x3 x4 x5 x6 x7 x8 x9 x10 x11 (ix3 b s (col n q))) (Fin.ext ?_)
  simp only
  omega

/-- The pairwise scan gives the states of the steps one after another. -/
theorem r174 (t n : Fin 4) (b : Fin 128) (q : Fin 256) :
    val_main_v174 (F := Ideal) x0 x1 x2 x3 x4 x5 x6 x7 x8 x9 x10 x11 (ix3 b t (col n q)) =
      state (rows x0 x1 x3 x4) (b5 x5) (b6 x6) (b7 x7) (b7 x9) (b6 x8) (b6 x10) (b6 x11) (b2 x2) t n b q := by
  have h0 := r126_first x0 x1 x2 x3 x4 x5 x6 x7 x8 x9 x10 x11 n b q
  have h1 := r126 x0 x1 x2 x3 x4 x5 x6 x7 x8 x9 x10 x11 1 n (by decide) b q
  have h2 := r126 x0 x1 x2 x3 x4 x5 x6 x7 x8 x9 x10 x11 2 n (by decide) b q
  have h3 := r126 x0 x1 x2 x3 x4 x5 x6 x7 x8 x9 x10 x11 3 n (by decide) b q
  have a1 := r111 x0 x1 x3 x4 x5 x6 x7 x8 x11 1 n b q
  have a2 := r111 x0 x1 x3 x4 x5 x6 x7 x8 x11 2 n b q
  have a3 := r111 x0 x1 x3 x4 x5 x6 x7 x8 x11 3 n b q
  match t with
  | 0 =>
    show _ = next _ _ _ _ _ _ _ _ 0 _ n b q
    rw [← h0]
    pointwise [val_main_v174, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_cst, val_main_cst_0, val_main_cst_1, val_main_cst_2, val_main_cst_3, val_main_cst_4, val_main_cst_5, val_main_cst_6, val_main_cst_7, val_main_call0_cst, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  | 1 =>
    show _ = next _ _ _ _ _ _ _ _ 1 (next _ _ _ _ _ _ _ _ 0 _ n b q) n b q
    rw [← h0]; unfold next; rw [← h1, ← a1]
    pointwise [val_main_v174, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_cst, val_main_cst_0, val_main_cst_1, val_main_cst_2, val_main_cst_3, val_main_cst_4, val_main_cst_5, val_main_cst_6, val_main_cst_7, val_main_call0_cst, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  | 2 =>
    show _ = next _ _ _ _ _ _ _ _ 2 (next _ _ _ _ _ _ _ _ 1 (next _ _ _ _ _ _ _ _ 0 _ n b q) n b q) n b q
    rw [← h0]; unfold next; rw [← h1, ← a1, ← h2, ← a2]
    pointwise [val_main_v174, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_cst, val_main_cst_0, val_main_cst_1, val_main_cst_2, val_main_cst_3, val_main_cst_4, val_main_cst_5, val_main_cst_6, val_main_cst_7, val_main_call0_cst, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  | 3 =>
    show _ = next _ _ _ _ _ _ _ _ 3 (next _ _ _ _ _ _ _ _ 2 (next _ _ _ _ _ _ _ _ 1 (next _ _ _ _ _ _ _ _ 0 _ n b q) n b q) n b q) n b q
    rw [← h0]; unfold next
    refine Eq.trans ?_ (scan_last (a3 := dec (rows x0 x1 x3 x4) (b5 x5) (b6 x6) (b7 x7) (b6 x8) (b6 x11) n (row 3 b) q)
      (decay_nonneg _ _) (decay_ne_top (logistic_nonneg _) _) _ _ _ _)
    rw [← h1, ← a1, ← h2, ← a2, ← h3, ← a3]
    pointwise [val_main_v174, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_cst, val_main_cst_0, val_main_cst_1, val_main_cst_2, val_main_cst_3, val_main_cst_4, val_main_cst_5, val_main_cst_6, val_main_cst_7, val_main_call0_cst, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]

/-- The states after step `t`, at any column. -/
abbrev states (t : Fin 4) (b : Fin 128) (j : Fin 1024) : EReal :=
  stateAt (rows x0 x1 x3 x4) (b5 x5) (b6 x6) (b7 x7) (b7 x9) (b6 x8) (b6 x10) (b6 x11) (b2 x2) t b j
abbrev history : FVec Ideal Cert.LruIdeal.S512x1024 .f32 :=
  hist (rows x0 x1 x3 x4) (b5 x5) (b6 x6) (b7 x7) (b7 x9) (b6 x8) (b6 x10) (b6 x11) (b2 x2)

theorem r174_at (t : Fin 4) (b : Fin 128) (j : Fin 1024) :
    val_main_v174 (F := Ideal) x0 x1 x2 x3 x4 x5 x6 x7 x8 x9 x10 x11 (ix3 b t j) = states x0 x1 x2 x3 x4 x5 x6 x7 x8 x9 x10 x11 t b j := by
  have hj : col ⟨j / 256, by omega⟩ ⟨j % 256, by omega⟩ = j :=
    Fin.ext ((col_val _ _).trans (by show 256 * ((j : ℕ) / 256) + (j : ℕ) % 256 = j; omega))
  exact (congrArg (fun j => val_main_v174 (F := Ideal) x0 x1 x2 x3 x4 x5 x6 x7 x8 x9 x10 x11 (ix3 b t j)) hj.symm).trans (r174 x0 x1 x2 x3 x4 x5 x6 x7 x8 x9 x10 x11 t _ b _)

theorem r47 (t : Fin 4) (b : Fin 128) (r : Fin 512) (hr : (r : ℕ) = 128 * t + b) (j : Fin 1024) :
    val_main_v47 (F := Ideal) x0 x1 x4 (ix3 b t j) = k0_pay6 (F := Ideal) (b0 x0) (b1 x1) (b4 x4) (ix2 r j) := by
  have h := r32 x0 x1 x4 t b r hr ⟨j, by omega⟩
  generalize hY : val_main_v32 (F := Ideal) x0 x1 x4 (ix3 b t ⟨j, by omega⟩) = Y at h
  have e : k0_pay6 (F := Ideal) (b0 x0) (b1 x1) (b4 x4) (ix2 r j) = Y * (Ideal.ofBits .f32 1056964608#32 * (1 + Ideal.tanh (Ideal.ofBits .f32 1061962282#32 *
      (Y + Ideal.ofBits .f32 1027024659#32 * (Y * (Y * Y)))))) := by
    rw [h]
    pointwise [k0_pay6]
  rw [e, ← mul_assoc Y Y Y, ← hY]
  pointwise [val_main_v47, val_main_v33, val_main_v34, val_main_v35, val_main_v36, val_main_v37, val_main_v38, val_main_v39, val_main_v40, val_main_v41, val_main_v42, val_main_v43, val_main_v44, val_main_v45, val_main_v46, val_main_cst, val_main_cst_0, val_main_cst_1, val_main_cst_2, val_main_cst_3, val_main_cst_4, val_main_cst_5, val_main_cst_6, val_main_cst_7, val_main_call0_cst, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]

theorem r181 (t : Fin 4) (b : Fin 128) (r : Fin 512) (hr : (r : ℕ) = 128 * t + b) (j : Fin 1024) :
    val_main_v181 (F := Ideal) x0 x1 x2 x3 x4 x5 x6 x7 x8 x9 x10 x11 x12 (ix3 b t j) =
      k0_pay70 (F := Ideal) (k0_pay2 (F := Ideal) (b0 x0)) (k0_pay4 (F := Ideal) (b1 x1)) (k0_pay6 (F := Ideal) (b0 x0) (b1 x1) (b4 x4))
        (history x0 x1 x2 x3 x4 x5 x6 x7 x8 x9 x10 x11) (b12 x12) (ix2 r j) := by
  have e : ∀ (x y g hb : FVec Ideal Cert.LruIdeal.S512x1024 .f32) (w : FVec Ideal Cert.LruIdeal.S1x1024x1024 .bf16),
      k0_pay70 (F := Ideal) x y g hb w (ix2 r j) =
        Ideal.ofBits .f32 1071072509#32 * x (ix2 r j) + y (ix2 r j) * ∑ k : Fin 1024, g (ix2 r k) * hb (ix2 r k) * w (ix3 0 k j) := by
    intro x y g hb w
    pointwise [k0_pay70]
  have e2 : k0_pay2 (F := Ideal) (b0 x0) (ix2 r j) = x0 (ix3 b t j) := by
    rw [← b0_at x0 t b r hr j]
    pointwise [k0_pay2]
  rw [e, e2, pay4_at _ t b r hr j]
  have eq : ∀ k : Fin 1024, k0_pay6 (F := Ideal) (b0 x0) (b1 x1) (b4 x4) (ix2 r k) * history x0 x1 x2 x3 x4 x5 x6 x7 x8 x9 x10 x11 (ix2 r k) * b12 x12 (ix3 0 k j) =
      val_main_v47 (F := Ideal) x0 x1 x4 (ix3 b t k) * val_main_v174 (F := Ideal) x0 x1 x2 x3 x4 x5 x6 x7 x8 x9 x10 x11 (ix3 b t k) * x12 (ix3 0 k j) := fun k => by
    rw [r47 x0 x1 x4 t b r hr k, r174_at]
    exact congrArg (k0_pay6 (F := Ideal) (b0 x0) (b1 x1) (b4 x4) (ix2 r k) * · * x12 (ix3 0 k j)) (hist_row _ _ _ _ _ _ _ _ _ t b r k hr)
  rw [Finset.sum_congr rfl fun k _ => eq k]
  pointwise [val_main_v181, val_main_v0, val_main_v1, val_main_v2, val_main_v5, val_main_v30, val_main_v31, val_main_v175, val_main_v176, val_main_v177, val_main_v178, val_main_v179, val_main_v180, val_main_cst, val_main_cst_0, val_main_cst_1, val_main_cst_2, val_main_cst_3, val_main_cst_4, val_main_cst_5, val_main_cst_6, val_main_cst_7, val_main_call0_cst, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  rfl

theorem r207 (X : FVec Ideal Cert.LruIdeal.S512x1024 .f32) (t : Fin 4) (b : Fin 128) (r : Fin 512)
    (hX : ∀ k : Fin 1024, val_main_v181 (F := Ideal) x0 x1 x2 x3 x4 x5 x6 x7 x8 x9 x10 x11 x12 (ix3 b t k) = X (ix2 r k)) (j : Fin 1024) :
    val_main_v207 (F := Ideal) x0 x1 x2 x3 x4 x5 x6 x7 x8 x9 x10 x11 x12 x13 x14 (ix3 b t j) = k0_pay1 (F := Ideal) X (b13 x13) (b13 x14) (ix2 r j) := by
  refine Eq.trans ?_ (pay1_at X (b13 x13) (b13 x14) r j).symm
  pointwise [val_main_v207, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_cst, val_main_cst_0, val_main_cst_1, val_main_cst_2, val_main_cst_3, val_main_cst_4, val_main_cst_5, val_main_cst_6, val_main_cst_7, val_main_call0_cst, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  simp only [hX]
  rfl

/-! The three results. -/

/-- What the kernel leaves, in terms of the arguments of the call. -/
def normed : FVec Ideal Cert.LruIdeal.S512x1024 .f32 :=
  k0_pay1 (F := Ideal) (k0_pay70 (F := Ideal) (k0_pay2 (F := Ideal) (b0 x0)) (k0_pay4 (F := Ideal) (b1 x1)) (k0_pay6 (F := Ideal) (b0 x0) (b1 x1) (b4 x4))
    (history x0 x1 x2 x3 x4 x5 x6 x7 x8 x9 x10 x11) (b12 x12)) (b13 x13) (b13 x14)
def last : FVec Ideal Cert.LruIdeal.S128x1024 .f32 := fun i => states x0 x1 x2 x3 x4 x5 x6 x7 x8 x9 x10 x11 3 (i 0) (i 1)
def tail : FVec Ideal Cert.LruIdeal.S384x1024 .f32 := k0_pay8 (F := Ideal) (b0 x0) (b1 x1) (b4 x4) (b3 x3)

theorem normed_eq : val_main_v209 (F := Ideal) x0 x1 x2 x3 x4 x5 x6 x7 x8 x9 x10 x11 x12 x13 x14 = normed x0 x1 x2 x3 x4 x5 x6 x7 x8 x9 x10 x11 x12 x13 x14 := funext fun i => by
  idx_vars i
  pointwise [val_main_v209, val_main_v208]
  exact r207 x0 x1 x2 x3 x4 x5 x6 x7 x8 x9 x10 x11 x12 x13 x14 _ _ _ i0 (fun k =>
    r181 x0 x1 x2 x3 x4 x5 x6 x7 x8 x9 x10 x11 x12 _ _ i0 (by simp only; omega) k) i1

theorem last_eq : val_main_v211 (F := Ideal) x0 x1 x2 x3 x4 x5 x6 x7 x8 x9 x10 x11 = last x0 x1 x2 x3 x4 x5 x6 x7 x8 x9 x10 x11 := funext fun i => by
  idx_vars i
  refine Eq.trans ?_ (r174_at x0 x1 x2 x3 x4 x5 x6 x7 x8 x9 x10 x11 3 i0 i1)
  pointwise [val_main_v211, val_main_v210]

theorem tail_eq : val_main_v214 (F := Ideal) x0 x1 x3 x4 = tail x0 x1 x3 x4 := funext fun i => by
  idx_vars i
  have e : tail x0 x1 x3 x4 (ix2 i0 i1) = rows x0 x1 x3 x4 (ix2 ⟨512 + i0, by omega⟩ i1) := by
    unfold tail rows
    pointwise [k0_pay8]
  rw [e]
  pointwise [val_main_v214, val_main_v212, val_main_v213]
  exact r48 x0 x1 x3 x4 _ _ _ (by simp only; omega) i1

end Cert.LruRefIdeal.Rec
-- ==== Proof.LruValue.lean ====
/- The recurrent layer of the sample: its blocks from its arguments, and the three results after the call. -/
module

public import proofs.«01_k».proof.Proof.LruRef

@[expose] public section

set_option maxRecDepth 16384

noncomputable section

namespace Cert.LruIdeal.Rec

open Cert.LruIdeal Cert.LruIdeal.Gen Idealize.ShloMosaic Idealize.ShloMosaic.TcCoe Idealize.SL.Sem
open Idealize.ShloMosaic.Pipeline (Dat)
open Cert.LruRefIdeal.Rec (normed last tail)

/-- The only grid point. -/
abbrev t0 : Fin cfg0.N := ⟨0, by decide⟩

variable (m : (ℓ : Loc nD τ sig) → Buf (Elt Ideal) ℓ)

/-! The arguments, and the arrays the host code makes of them. -/

abbrev A0 (c : Dev nD) : FVec Ideal S128x4x1024 .f32 := m ((c.tc : Thread nD τ).loc main_arg0)
abbrev A1 (c : Dev nD) : FVec Ideal S8x128x3072 .f32 := m ((c.tc : Thread nD τ).loc main_arg1)
abbrev A2 (c : Dev nD) : FVec Ideal S2x128x1024 .f32 := m ((c.tc : Thread nD τ).loc main_arg2)
abbrev A3 (c : Dev nD) : FVec Ideal S2x128x3x1024 .f32 := m ((c.tc : Thread nD τ).loc main_arg3)
abbrev A4 (c : Dev nD) : FVec Ideal S2x1024x2048 .f32 := m ((c.tc : Thread nD τ).loc main_arg4)
abbrev A5 (c : Dev nD) : FVec Ideal S2x4x1024 .f32 := m ((c.tc : Thread nD τ).loc main_arg5)
abbrev A6 (c : Dev nD) : FVec Ideal S2x1024 .f32 := m ((c.tc : Thread nD τ).loc main_arg6)
abbrev A7 (c : Dev nD) : FVec Ideal S2x4x256x256 .f32 := m ((c.tc : Thread nD τ).loc main_arg7)
abbrev A8 (c : Dev nD) : FVec Ideal S2x1024 .f32 := m ((c.tc : Thread nD τ).loc main_arg8)
abbrev A9 (c : Dev nD) : FVec Ideal S2x4x256x256 .f32 := m ((c.tc : Thread nD τ).loc main_arg9)
abbrev A10 (c : Dev nD) : FVec Ideal S2x1024 .f32 := m ((c.tc : Thread nD τ).loc main_arg10)
abbrev A11 (c : Dev nD) : FVec Ideal S2x1024 .f32 := m ((c.tc : Thread nD τ).loc main_arg11)
abbrev A12 (c : Dev nD) : FVec Ideal S2x1024x1024 .f32 := m ((c.tc : Thread nD τ).loc main_arg12)
abbrev A13 (c : Dev nD) : FVec Ideal S4x2x1024 .f32 := m ((c.tc : Thread nD τ).loc main_arg13)
abbrev A14 (c : Dev nD) : FVec Ideal S4x2x1024 .f32 := m ((c.tc : Thread nD τ).loc main_arg14)

def rowsOf (a : FVec Ideal S128x4x1024 .f32) : FVec Ideal S512x1024 .f32 :=
  shapeCast S512x1024 (transpose S4x128x1024 [1, 0, 2] a transposes_S128x4x1024_S4x128x1024_1_0_2) shapeCasts_S4x128x1024_S512x1024
def convRowsOf (a : FVec Ideal S2x128x3x1024 .f32) : FVec Ideal S384x1024 .f32 :=
  shapeCast S384x1024 (extractStridedSlice S1x384x1024 ![0, 0, 0]
    (shapeCast S2x384x1024 (transpose S2x3x128x1024 [0, 2, 1, 3] a transposes_S2x128x3x1024_S2x3x128x1024_0_2_1_3)
      shapeCasts_S2x3x128x1024_S2x384x1024) slices_S2x384x1024_S1x384x1024_0_0_0) shapeCasts_S1x384x1024_S384x1024
def biasOf (a : FVec Ideal S2x1024 .f32) : FVec Ideal S2x1x1024 .f32 := broadcastInDim S2x1x1024 ![0, 2] bcast_S2x1024_S2x1x1024_0_2 a
def normOf (a : FVec Ideal S4x2x1024 .f32) : FVec Ideal S8x1x1024 .f32 := shapeCast S8x1x1024 a shapeCasts_S4x2x1024_S8x1x1024
def half {s : Shape} (a : FVec Ideal s .f32) : FVec Ideal s .bf16 := truncf .bf16 a bitsLt_bf16_f32

theorem rowsOf_eq (a : FVec Ideal S128x4x1024 .f32) : rowsOf a = b0 a := funext fun i => by
  idx_vars i
  pointwise [rowsOf]
  rfl

theorem convRowsOf_eq (a : FVec Ideal S2x128x3x1024 .f32) : convRowsOf a = b3 a := funext fun i => by
  idx_vars i
  pointwise [convRowsOf]
  rfl

theorem biasOf_at (a : FVec Ideal S2x1024 .f32) (j : Fin 1024) : biasOf a (ix3 0 0 j) = a (ix2 0 j) := by
  pointwise [biasOf]

theorem normOf_at (a : FVec Ideal S4x2x1024 .f32) (j : Fin 1024) : normOf a (ix3 0 0 j) = a (ix3 0 0 j) := by
  pointwise [normOf]

theorem V_v0 (c : Dev nD) : V m c main_v0 = normOf (A13 m c) := by
  unfold_abbrev_sides
  after_results
  try rfl

theorem V_v1 (c : Dev nD) : V m c main_v1 = normOf (A14 m c) := by
  unfold_abbrev_sides
  after_results
  try rfl

theorem V_v2 (c : Dev nD) : V m c main_v2 = half (A4 m c) := by
  unfold_abbrev_sides
  after_results
  try rfl

theorem V_v3 (c : Dev nD) : V m c main_v3 = biasOf (A6 m c) := by
  unfold_abbrev_sides
  after_results
  try rfl

theorem V_v4 (c : Dev nD) : V m c main_v4 = half (A7 m c) := by
  unfold_abbrev_sides
  after_results
  try rfl

theorem V_v5 (c : Dev nD) : V m c main_v5 = half (A9 m c) := by
  unfold_abbrev_sides
  after_results
  try rfl

theorem V_v6 (c : Dev nD) : V m c main_v6 = biasOf (A8 m c) := by
  unfold_abbrev_sides
  after_results
  try rfl

theorem V_v7 (c : Dev nD) : V m c main_v7 = biasOf (A10 m c) := by
  unfold_abbrev_sides
  after_results
  try rfl

theorem V_v8 (c : Dev nD) : V m c main_v8 = biasOf (A11 m c) := by
  unfold_abbrev_sides
  after_results
  try rfl

theorem V_v9 (c : Dev nD) : V m c main_v9 = half (A12 m c) := by
  unfold_abbrev_sides
  after_results
  try rfl

theorem V_v11 (c : Dev nD) : V m c main_v11 = rowsOf (A0 m c) := by
  unfold_abbrev_sides
  after_results
  try rfl

theorem V_v15 (c : Dev nD) : V m c main_v15 = convRowsOf (A3 m c) := by
  unfold_abbrev_sides
  after_results
  try rfl

/-! Each window's block. Every block starts at index 0 of its array. -/

theorem zero_block (s r : ℕ) : 0 * s + r = r := by rw [Nat.zero_mul, Nat.zero_add]

theorem iblk1_eq (c : Dev nD) (t : Fin cfg0.N) : (iblk m c 1 t : FVec Ideal S1x128x3072 .f32) = b1 (A1 m c) := by
  refine funext fun y => ?_
  idx_vars y
  obtain rfl : y0 = 0 := Subsingleton.elim _ _
  refine (congrArg (V m c main_arg1) (?_ : _ = (ix3 0 y1 y2 : S8x128x3072.Idx))).trans (congrFun (V_main_arg1 m c) _)
  refine funext fun a => Fin.ext ((Pipeline.Window.rect_emb_val (cfg0.win 1) t (ix3 0 y1 y2) a rfl).trans ?_)
  fin_cases t; fin_cases a <;> exact zero_block _ _

theorem iblk2_eq (c : Dev nD) (t : Fin cfg0.N) : (iblk m c 2 t : FVec Ideal S1x128x1024 .f32) = b2 (A2 m c) := by
  refine funext fun y => ?_
  idx_vars y
  obtain rfl : y0 = 0 := Subsingleton.elim _ _
  refine (congrArg (V m c main_arg2) (?_ : _ = (ix3 0 y1 y2 : S2x128x1024.Idx))).trans (congrFun (V_main_arg2 m c) _)
  refine funext fun a => Fin.ext ((Pipeline.Window.rect_emb_val (cfg0.win 2) t (ix3 0 y1 y2) a rfl).trans ?_)
  fin_cases t; fin_cases a <;> exact zero_block _ _

theorem iblk4_eq (c : Dev nD) (t : Fin cfg0.N) : (iblk m c 4 t : FVec Ideal S1x1024x2048 .bf16) = b4 (A4 m c) := by
  refine funext fun y => ?_
  idx_vars y
  obtain rfl : y0 = 0 := Subsingleton.elim _ _
  refine (congrArg (V m c main_v2) (?_ : _ = (ix3 0 y1 y2 : S2x1024x2048.Idx))).trans (congrFun (V_v2 m c) _)
  refine funext fun a => Fin.ext ((Pipeline.Window.rect_emb_val (cfg0.win 4) t (ix3 0 y1 y2) a rfl).trans ?_)
  fin_cases t; fin_cases a <;> exact zero_block _ _

theorem iblk5_eq (c : Dev nD) (t : Fin cfg0.N) : (iblk m c 5 t : FVec Ideal S1x4x1024 .f32) = b5 (A5 m c) := by
  refine funext fun y => ?_
  idx_vars y
  obtain rfl : y0 = 0 := Subsingleton.elim _ _
  refine (congrArg (V m c main_arg5) (?_ : _ = (ix3 0 y1 y2 : S2x4x1024.Idx))).trans (congrFun (V_main_arg5 m c) _)
  refine funext fun a => Fin.ext ((Pipeline.Window.rect_emb_val (cfg0.win 5) t (ix3 0 y1 y2) a rfl).trans ?_)
  fin_cases t; fin_cases a <;> exact zero_block _ _

theorem iblk7_eq (c : Dev nD) (t : Fin cfg0.N) : (iblk m c 7 t : FVec Ideal S1x4x256x256 .bf16) = b7 (A7 m c) := by
  refine funext fun y => ?_
  idx_vars y
  obtain rfl : y0 = 0 := Subsingleton.elim _ _
  refine (congrArg (V m c main_v4) (?_ : _ = (ix4 0 y1 y2 y3 : S2x4x256x256.Idx))).trans (congrFun (V_v4 m c) _)
  refine funext fun a => Fin.ext ((Pipeline.Window.rect_emb_val (cfg0.win 7) t (ix4 0 y1 y2 y3) a rfl).trans ?_)
  fin_cases t; fin_cases a <;> exact zero_block _ _

theorem iblk8_eq (c : Dev nD) (t : Fin cfg0.N) : (iblk m c 8 t : FVec Ideal S1x4x256x256 .bf16) = b7 (A9 m c) := by
  refine funext fun y => ?_
  idx_vars y
  obtain rfl : y0 = 0 := Subsingleton.elim _ _
  refine (congrArg (V m c main_v5) (?_ : _ = (ix4 0 y1 y2 y3 : S2x4x256x256.Idx))).trans (congrFun (V_v5 m c) _)
  refine funext fun a => Fin.ext ((Pipeline.Window.rect_emb_val (cfg0.win 8) t (ix4 0 y1 y2 y3) a rfl).trans ?_)
  fin_cases t; fin_cases a <;> exact zero_block _ _

theorem iblk12_eq (c : Dev nD) (t : Fin cfg0.N) : (iblk m c 12 t : FVec Ideal S1x1024x1024 .bf16) = b12 (A12 m c) := by
  refine funext fun y => ?_
  idx_vars y
  obtain rfl : y0 = 0 := Subsingleton.elim _ _
  refine (congrArg (V m c main_v9) (?_ : _ = (ix3 0 y1 y2 : S2x1024x1024.Idx))).trans (congrFun (V_v9 m c) _)
  refine funext fun a => Fin.ext ((Pipeline.Window.rect_emb_val (cfg0.win 12) t (ix3 0 y1 y2) a rfl).trans ?_)
  fin_cases t; fin_cases a <;> exact zero_block _ _

theorem iblk6_eq (c : Dev nD) (t : Fin cfg0.N) : (iblk m c 6 t : FVec Ideal S1x1x1024 .f32) = b6 (A6 m c) := by
  refine funext fun y => ?_
  idx_vars y
  obtain rfl : y0 = 0 := Subsingleton.elim _ _
  obtain rfl : y1 = 0 := Subsingleton.elim _ _
  refine (congrArg (V m c main_v3) (?_ : _ = (ix3 0 0 y2 : S2x1x1024.Idx))).trans ((congrFun (V_v3 m c) _).trans (biasOf_at _ y2))
  refine funext fun a => Fin.ext ((Pipeline.Window.rect_emb_val (cfg0.win 6) t (ix3 0 0 y2) a rfl).trans ?_)
  fin_cases t; fin_cases a <;> exact zero_block _ _

theorem iblk9_eq (c : Dev nD) (t : Fin cfg0.N) : (iblk m c 9 t : FVec Ideal S1x1x1024 .f32) = b6 (A8 m c) := by
  refine funext fun y => ?_
  idx_vars y
  obtain rfl : y0 = 0 := Subsingleton.elim _ _
  obtain rfl : y1 = 0 := Subsingleton.elim _ _
  refine (congrArg (V m c main_v6) (?_ : _ = (ix3 0 0 y2 : S2x1x1024.Idx))).trans ((congrFun (V_v6 m c) _).trans (biasOf_at _ y2))
  refine funext fun a => Fin.ext ((Pipeline.Window.rect_emb_val (cfg0.win 9) t (ix3 0 0 y2) a rfl).trans ?_)
  fin_cases t; fin_cases a <;> exact zero_block _ _

theorem iblk10_eq (c : Dev nD) (t : Fin cfg0.N) : (iblk m c 10 t : FVec Ideal S1x1x1024 .f32) = b6 (A10 m c) := by
  refine funext fun y => ?_
  idx_vars y
  obtain rfl : y0 = 0 := Subsingleton.elim _ _
  obtain rfl : y1 = 0 := Subsingleton.elim _ _
  refine (congrArg (V m c main_v7) (?_ : _ = (ix3 0 0 y2 : S2x1x1024.Idx))).trans ((congrFun (V_v7 m c) _).trans (biasOf_at _ y2))
  refine funext fun a => Fin.ext ((Pipeline.Window.rect_emb_val (cfg0.win 10) t (ix3 0 0 y2) a rfl).trans ?_)
  fin_cases t; fin_cases a <;> exact zero_block _ _

theorem iblk11_eq (c : Dev nD) (t : Fin cfg0.N) : (iblk m c 11 t : FVec Ideal S1x1x1024 .f32) = b6 (A11 m c) := by
  refine funext fun y => ?_
  idx_vars y
  obtain rfl : y0 = 0 := Subsingleton.elim _ _
  obtain rfl : y1 = 0 := Subsingleton.elim _ _
  refine (congrArg (V m c main_v8) (?_ : _ = (ix3 0 0 y2 : S2x1x1024.Idx))).trans ((congrFun (V_v8 m c) _).trans (biasOf_at _ y2))
  refine funext fun a => Fin.ext ((Pipeline.Window.rect_emb_val (cfg0.win 11) t (ix3 0 0 y2) a rfl).trans ?_)
  fin_cases t; fin_cases a <;> exact zero_block _ _

theorem iblk13_eq (c : Dev nD) (t : Fin cfg0.N) : (iblk m c 13 t : FVec Ideal S1x1x1024 .f32) = b13 (A13 m c) := by
  refine funext fun y => ?_
  idx_vars y
  obtain rfl : y0 = 0 := Subsingleton.elim _ _
  obtain rfl : y1 = 0 := Subsingleton.elim _ _
  refine (congrArg (V m c main_v0) (?_ : _ = (ix3 0 0 y2 : S8x1x1024.Idx))).trans ((congrFun (V_v0 m c) _).trans (normOf_at _ y2))
  refine funext fun a => Fin.ext ((Pipeline.Window.rect_emb_val (cfg0.win 13) t (ix3 0 0 y2) a rfl).trans ?_)
  fin_cases t; fin_cases a <;> exact zero_block _ _

theorem iblk14_eq (c : Dev nD) (t : Fin cfg0.N) : (iblk m c 14 t : FVec Ideal S1x1x1024 .f32) = b13 (A14 m c) := by
  refine funext fun y => ?_
  idx_vars y
  obtain rfl : y0 = 0 := Subsingleton.elim _ _
  obtain rfl : y1 = 0 := Subsingleton.elim _ _
  refine (congrArg (V m c main_v1) (?_ : _ = (ix3 0 0 y2 : S8x1x1024.Idx))).trans ((congrFun (V_v1 m c) _).trans (normOf_at _ y2))
  refine funext fun a => Fin.ext ((Pipeline.Window.rect_emb_val (cfg0.win 14) t (ix3 0 0 y2) a rfl).trans ?_)
  fin_cases t; fin_cases a <;> exact zero_block _ _

theorem iblk0_eq (c : Dev nD) (t : Fin cfg0.N) : (iblk m c 0 t : FVec Ideal S512x1024 .f32) = b0 (A0 m c) := by
  refine funext fun y => ?_
  idx_vars y
  refine (congrArg (V m c main_v11) (?_ : _ = (ix2 y0 y1 : S512x1024.Idx))).trans ((congrFun (V_v11 m c) _).trans (congrFun (rowsOf_eq _) _))
  refine funext fun a => Fin.ext ((Pipeline.Window.rect_emb_val (cfg0.win 0) t (ix2 y0 y1) a rfl).trans ?_)
  fin_cases t; fin_cases a <;> exact zero_block _ _

theorem iblk3_eq (c : Dev nD) (t : Fin cfg0.N) : (iblk m c 3 t : FVec Ideal S384x1024 .f32) = b3 (A3 m c) := by
  refine funext fun y => ?_
  idx_vars y
  refine (congrArg (V m c main_v15) (?_ : _ = (ix2 y0 y1 : S384x1024.Idx))).trans ((congrFun (V_v15 m c) _).trans (congrFun (convRowsOf_eq _) _))
  refine funext fun a => Fin.ext ((Pipeline.Window.rect_emb_val (cfg0.win 3) t (ix2 y0 y1) a rfl).trans ?_)
  fin_cases t; fin_cases a <;> exact zero_block _ _

/-! What the body leaves, from the arguments. -/

theorem normed_of {a0 : FVec Ideal S128x4x1024 .f32} {a1 : FVec Ideal S8x128x3072 .f32} {a2 : FVec Ideal S2x128x1024 .f32} {a3 : FVec Ideal S2x128x3x1024 .f32} {a4 : FVec Ideal S2x1024x2048 .f32} {a5 : FVec Ideal S2x4x1024 .f32} {a6 : FVec Ideal S2x1024 .f32} {a7 : FVec Ideal S2x4x256x256 .f32} {a8 : FVec Ideal S2x1024 .f32} {a9 : FVec Ideal S2x4x256x256 .f32} {a10 : FVec Ideal S2x1024 .f32} {a11 : FVec Ideal S2x1024 .f32} {a12 : FVec Ideal S2x1024x1024 .f32} {a13 : FVec Ideal S4x2x1024 .f32} {a14 : FVec Ideal S4x2x1024 .f32}
    {x0 : FVec Ideal S512x1024 .f32} {x1 : FVec Ideal S1x128x3072 .f32} {x2 : FVec Ideal S1x128x1024 .f32} {x3 : FVec Ideal S384x1024 .f32} {x4 : FVec Ideal S1x1024x2048 .bf16} {x5 : FVec Ideal S1x4x1024 .f32} {x6 : FVec Ideal S1x1x1024 .f32} {x7 : FVec Ideal S1x4x256x256 .bf16} {x8 : FVec Ideal S1x4x256x256 .bf16} {x9 : FVec Ideal S1x1x1024 .f32} {x10 : FVec Ideal S1x1x1024 .f32} {x11 : FVec Ideal S1x1x1024 .f32} {x12 : FVec Ideal S1x1024x1024 .bf16} {x13 : FVec Ideal S1x1x1024 .f32} {x14 : FVec Ideal S1x1x1024 .f32}
    (e0 : x0 = b0 a0) (e1 : x1 = b1 a1) (e2 : x2 = b2 a2) (e3 : x3 = b3 a3) (e4 : x4 = b4 a4) (e5 : x5 = b5 a5) (e6 : x6 = b6 a6) (e7 : x7 = b7 a7) (e8 : x8 = b7 a9) (e9 : x9 = b6 a8) (e10 : x10 = b6 a10) (e11 : x11 = b6 a11) (e12 : x12 = b12 a12) (e13 : x13 = b13 a13) (e14 : x14 = b13 a14) :
    k0_pay1 (F := Ideal) (k0_pay70 (F := Ideal) (k0_pay2 (F := Ideal) x0) (k0_pay4 (F := Ideal) x1) (k0_pay6 (F := Ideal) x0 x1 x4)
      (hist (k0_pay7 (F := Ideal) x0 x1 x4 x3) x5 x6 x7 x8 x9 x10 x11 x2) x12) x13 x14 = normed a0 a1 a2 a3 a4 a5 a6 a7 a8 a9 a10 a11 a12 a13 a14 := by
  subst e0 e1 e2 e3 e4 e5 e6 e7 e8 e9 e10 e11 e12 e13 e14
  rfl

theorem last_of {a0 : FVec Ideal S128x4x1024 .f32} {a1 : FVec Ideal S8x128x3072 .f32} {a2 : FVec Ideal S2x128x1024 .f32} {a3 : FVec Ideal S2x128x3x1024 .f32} {a4 : FVec Ideal S2x1024x2048 .f32} {a5 : FVec Ideal S2x4x1024 .f32} {a6 : FVec Ideal S2x1024 .f32} {a7 : FVec Ideal S2x4x256x256 .f32} {a8 : FVec Ideal S2x1024 .f32} {a9 : FVec Ideal S2x4x256x256 .f32} {a10 : FVec Ideal S2x1024 .f32} {a11 : FVec Ideal S2x1024 .f32}
    {x0 : FVec Ideal S512x1024 .f32} {x1 : FVec Ideal S1x128x3072 .f32} {x2 : FVec Ideal S1x128x1024 .f32} {x3 : FVec Ideal S384x1024 .f32} {x4 : FVec Ideal S1x1024x2048 .bf16} {x5 : FVec Ideal S1x4x1024 .f32} {x6 : FVec Ideal S1x1x1024 .f32} {x7 : FVec Ideal S1x4x256x256 .bf16} {x8 : FVec Ideal S1x4x256x256 .bf16} {x9 : FVec Ideal S1x1x1024 .f32} {x10 : FVec Ideal S1x1x1024 .f32} {x11 : FVec Ideal S1x1x1024 .f32}
    (e0 : x0 = b0 a0) (e1 : x1 = b1 a1) (e2 : x2 = b2 a2) (e3 : x3 = b3 a3) (e4 : x4 = b4 a4) (e5 : x5 = b5 a5) (e6 : x6 = b6 a6) (e7 : x7 = b7 a7) (e8 : x8 = b7 a9) (e9 : x9 = b6 a8) (e10 : x10 = b6 a10) (e11 : x11 = b6 a11) :
    (fun y => stateAt (k0_pay7 (F := Ideal) x0 x1 x4 x3) x5 x6 x7 x8 x9 x10 x11 x2 3 (y 0) (y 1) : FVec Ideal S128x1024 .f32) = last a0 a1 a2 a3 a4 a5 a6 a7 a8 a9 a10 a11 := by
  subst e0 e1 e2 e3 e4 e5 e6 e7 e8 e9 e10 e11
  rfl

theorem tail_of {a0 : FVec Ideal S128x4x1024 .f32} {a1 : FVec Ideal S8x128x3072 .f32} {a3 : FVec Ideal S2x128x3x1024 .f32} {a4 : FVec Ideal S2x1024x2048 .f32}
    {x0 : FVec Ideal S512x1024 .f32} {x1 : FVec Ideal S1x128x3072 .f32} {x3 : FVec Ideal S384x1024 .f32} {x4 : FVec Ideal S1x1024x2048 .bf16}
    (e0 : x0 = b0 a0) (e1 : x1 = b1 a1) (e3 : x3 = b3 a3) (e4 : x4 = b4 a4) : k0_pay8 (F := Ideal) x0 x1 x4 x3 = tail a0 a1 a3 a4 := by
  subst e0 e1 e3 e4
  rfl

/-- Each output's block is its whole array. -/
theorem idx_15 (t : Fin cfg0.N) (r : Fin 512) (j : Fin 1024) : (((cfg0.win 15).blk t).view.emb (ix2 r j) : S512x1024.Idx) = ix2 r j := by
  refine funext fun a => Fin.ext ((Pipeline.Window.rect_emb_val (cfg0.win 15) t (ix2 r j) a rfl).trans ?_)
  fin_cases t; fin_cases a <;> exact zero_block _ _

theorem idx_16 (t : Fin cfg0.N) (r : Fin 128) (j : Fin 1024) : (((cfg0.win 16).blk t).view.emb (ix2 r j) : S128x1024.Idx) = ix2 r j := by
  refine funext fun a => Fin.ext ((Pipeline.Window.rect_emb_val (cfg0.win 16) t (ix2 r j) a rfl).trans ?_)
  fin_cases t; fin_cases a <;> exact zero_block _ _

theorem idx_17 (t : Fin cfg0.N) (r : Fin 384) (j : Fin 1024) : (((cfg0.win 17).blk t).view.emb (ix2 r j) : S384x1024.Idx) = ix2 r j := by
  refine funext fun a => Fin.ext ((Pipeline.Window.rect_emb_val (cfg0.win 17) t (ix2 r j) a rfl).trans ?_)
  fin_cases t; fin_cases a <;> exact zero_block _ _

theorem flush_all : (cfg0.win 15).flush t0 = true ∧ (cfg0.win 16).flush t0 = true ∧ (cfg0.win 17).flush t0 = true := by decide +kernel

/-! The three results after the call. -/

theorem block15 (c : Dev nD) (t : Fin cfg0.N) : (outsAt0 m c t).1 = normed (A0 m c) (A1 m c) (A2 m c) (A3 m c) (A4 m c) (A5 m c) (A6 m c) (A7 m c) (A8 m c) (A9 m c) (A10 m c) (A11 m c) (A12 m c) (A13 m c) (A14 m c) := by
  unfold outsAt0
  dsimp only
  rw [xn_eq]
  exact (normed_of (iblk0_eq m c t) (iblk1_eq m c t) (iblk2_eq m c t) (iblk3_eq m c t) (iblk4_eq m c t) (iblk5_eq m c t) (iblk6_eq m c t) (iblk7_eq m c t) (iblk8_eq m c t) (iblk9_eq m c t) (iblk10_eq m c t) (iblk11_eq m c t) (iblk12_eq m c t) (iblk13_eq m c t) (iblk14_eq m c t))

theorem final15 (c : Dev nD) : (dats m 0 c).arrAt 15 cfg0.N = normed (A0 m c) (A1 m c) (A2 m c) (A3 m c) (A4 m c) (A5 m c) (A6 m c) (A7 m c) (A8 m c) (A9 m c) (A10 m c) (A11 m c) (A12 m c) (A13 m c) (A14 m c) := by
  refine (dats m 0 c).arrAt_eq_of_emb 15 _ (fun t _ y => ?_) (fun i => ⟨t0, flush_all.1, ?_⟩)
  · rw [after0_15]
    refine (cast_eq _ _).trans ?_
    have key : ∀ y : S512x1024.Idx, ((outsAt0 m c t).1) y = (normed (A0 m c) (A1 m c) (A2 m c) (A3 m c) (A4 m c) (A5 m c) (A6 m c) (A7 m c) (A8 m c) (A9 m c) (A10 m c) (A11 m c) (A12 m c) (A13 m c) (A14 m c)) (((cfg0.win 15).blk t).view.emb y) := by
      intro y
      idx_vars y
      exact (congrFun (block15 m c t) _).trans (congrArg (normed (A0 m c) (A1 m c) (A2 m c) (A3 m c) (A4 m c) (A5 m c) (A6 m c) (A7 m c) (A8 m c) (A9 m c) (A10 m c) (A11 m c) (A12 m c) (A13 m c) (A14 m c)) (idx_15 t _ _)).symm
    exact key y
  · idx_vars i
    exact Set.mem_of_eq_of_mem (idx_15 t0 _ _).symm (View.emb_mem_set _ _)

theorem block16 (c : Dev nD) (t : Fin cfg0.N) : (outsAt0 m c t).2.1 = last (A0 m c) (A1 m c) (A2 m c) (A3 m c) (A4 m c) (A5 m c) (A6 m c) (A7 m c) (A8 m c) (A9 m c) (A10 m c) (A11 m c) := by
  unfold outsAt0
  dsimp only
  rw [hl_eq]
  exact (last_of (iblk0_eq m c t) (iblk1_eq m c t) (iblk2_eq m c t) (iblk3_eq m c t) (iblk4_eq m c t) (iblk5_eq m c t) (iblk6_eq m c t) (iblk7_eq m c t) (iblk8_eq m c t) (iblk9_eq m c t) (iblk10_eq m c t) (iblk11_eq m c t))

theorem final16 (c : Dev nD) : (dats m 0 c).arrAt 16 cfg0.N = last (A0 m c) (A1 m c) (A2 m c) (A3 m c) (A4 m c) (A5 m c) (A6 m c) (A7 m c) (A8 m c) (A9 m c) (A10 m c) (A11 m c) := by
  refine (dats m 0 c).arrAt_eq_of_emb 16 _ (fun t _ y => ?_) (fun i => ⟨t0, flush_all.2.1, ?_⟩)
  · rw [after0_16]
    refine (cast_eq _ _).trans ?_
    have key : ∀ y : S128x1024.Idx, ((outsAt0 m c t).2.1) y = (last (A0 m c) (A1 m c) (A2 m c) (A3 m c) (A4 m c) (A5 m c) (A6 m c) (A7 m c) (A8 m c) (A9 m c) (A10 m c) (A11 m c)) (((cfg0.win 16).blk t).view.emb y) := by
      intro y
      idx_vars y
      exact (congrFun (block16 m c t) _).trans (congrArg (last (A0 m c) (A1 m c) (A2 m c) (A3 m c) (A4 m c) (A5 m c) (A6 m c) (A7 m c) (A8 m c) (A9 m c) (A10 m c) (A11 m c)) (idx_16 t _ _)).symm
    exact key y
  · idx_vars i
    exact Set.mem_of_eq_of_mem (idx_16 t0 _ _).symm (View.emb_mem_set _ _)

theorem block17 (c : Dev nD) (t : Fin cfg0.N) : (outsAt0 m c t).2.2 = tail (A0 m c) (A1 m c) (A3 m c) (A4 m c) := by
  unfold outsAt0
  dsimp only
  rw [cl_eq]
  exact (tail_of (iblk0_eq m c t) (iblk1_eq m c t) (iblk3_eq m c t) (iblk4_eq m c t))

theorem final17 (c : Dev nD) : (dats m 0 c).arrAt 17 cfg0.N = tail (A0 m c) (A1 m c) (A3 m c) (A4 m c) := by
  refine (dats m 0 c).arrAt_eq_of_emb 17 _ (fun t _ y => ?_) (fun i => ⟨t0, flush_all.2.2, ?_⟩)
  · rw [after0_17]
    refine (cast_eq _ _).trans ?_
    have key : ∀ y : S384x1024.Idx, ((outsAt0 m c t).2.2) y = (tail (A0 m c) (A1 m c) (A3 m c) (A4 m c)) (((cfg0.win 17).blk t).view.emb y) := by
      intro y
      idx_vars y
      exact (congrFun (block17 m c t) _).trans (congrArg (tail (A0 m c) (A1 m c) (A3 m c) (A4 m c)) (idx_17 t _ _)).symm
    exact key y
  · idx_vars i
    exact Set.mem_of_eq_of_mem (idx_17 t0 _ _).symm (View.emb_mem_set _ _)

end Cert.LruIdeal.Rec

/-! The same three of the reference, whose arguments are the call's. -/

namespace Cert.LruRefIdeal.Rec

open Cert.LruRefIdeal Cert.LruRefIdeal.Gen Cert.LruRefIdeal.Read Idealize.ShloMosaic

theorem normed_read {x0 a0 : FVec Ideal S128x4x1024 .f32} {x1 a1 : FVec Ideal S8x128x3072 .f32} {x2 a2 : FVec Ideal S2x128x1024 .f32} {x3 a3 : FVec Ideal S2x128x3x1024 .f32} {x4 a4 : FVec Ideal S2x1024x2048 .f32} {x5 a5 : FVec Ideal S2x4x1024 .f32} {x6 a6 : FVec Ideal S2x1024 .f32} {x7 a7 : FVec Ideal S2x4x256x256 .f32} {x8 a8 : FVec Ideal S2x1024 .f32} {x9 a9 : FVec Ideal S2x4x256x256 .f32} {x10 a10 : FVec Ideal S2x1024 .f32} {x11 a11 : FVec Ideal S2x1024 .f32} {x12 a12 : FVec Ideal S2x1024x1024 .f32} {x13 a13 : FVec Ideal S4x2x1024 .f32} {x14 a14 : FVec Ideal S4x2x1024 .f32}
    (e0 : x0 = a0) (e1 : x1 = a1) (e2 : x2 = a2) (e3 : x3 = a3) (e4 : x4 = a4) (e5 : x5 = a5) (e6 : x6 = a6) (e7 : x7 = a7) (e8 : x8 = a8) (e9 : x9 = a9) (e10 : x10 = a10) (e11 : x11 = a11) (e12 : x12 = a12) (e13 : x13 = a13) (e14 : x14 = a14) :
    val_main_v209 (F := Ideal) x0 x1 x2 x3 x4 x5 x6 x7 x8 x9 x10 x11 x12 x13 x14 = normed a0 a1 a2 a3 a4 a5 a6 a7 a8 a9 a10 a11 a12 a13 a14 := by
  subst e0 e1 e2 e3 e4 e5 e6 e7 e8 e9 e10 e11 e12 e13 e14
  exact normed_eq _ _ _ _ _ _ _ _ _ _ _ _ _ _ _

theorem last_read {x0 a0 : FVec Ideal S128x4x1024 .f32} {x1 a1 : FVec Ideal S8x128x3072 .f32} {x2 a2 : FVec Ideal S2x128x1024 .f32} {x3 a3 : FVec Ideal S2x128x3x1024 .f32} {x4 a4 : FVec Ideal S2x1024x2048 .f32} {x5 a5 : FVec Ideal S2x4x1024 .f32} {x6 a6 : FVec Ideal S2x1024 .f32} {x7 a7 : FVec Ideal S2x4x256x256 .f32} {x8 a8 : FVec Ideal S2x1024 .f32} {x9 a9 : FVec Ideal S2x4x256x256 .f32} {x10 a10 : FVec Ideal S2x1024 .f32} {x11 a11 : FVec Ideal S2x1024 .f32}
    (e0 : x0 = a0) (e1 : x1 = a1) (e2 : x2 = a2) (e3 : x3 = a3) (e4 : x4 = a4) (e5 : x5 = a5) (e6 : x6 = a6) (e7 : x7 = a7) (e8 : x8 = a8) (e9 : x9 = a9) (e10 : x10 = a10) (e11 : x11 = a11) :
    val_main_v211 (F := Ideal) x0 x1 x2 x3 x4 x5 x6 x7 x8 x9 x10 x11 = last a0 a1 a2 a3 a4 a5 a6 a7 a8 a9 a10 a11 := by
  subst e0 e1 e2 e3 e4 e5 e6 e7 e8 e9 e10 e11
  exact last_eq _ _ _ _ _ _ _ _ _ _ _ _

theorem tail_read {x0 a0 : FVec Ideal S128x4x1024 .f32} {x1 a1 : FVec Ideal S8x128x3072 .f32} {x3 a3 : FVec Ideal S2x128x3x1024 .f32} {x4 a4 : FVec Ideal S2x1024x2048 .f32}
    (e0 : x0 = a0) (e1 : x1 = a1) (e3 : x3 = a3) (e4 : x4 = a4) :
    val_main_v214 (F := Ideal) x0 x1 x3 x4 = tail a0 a1 a3 a4 := by
  subst e0 e1 e3 e4
  exact tail_eq _ _ _ _

end Cert.LruRefIdeal.Rec
-- ==== Proof.KvValue.lean ====
/- The key and value projections of the sample's rows: what the call leaves in its four results, and that the reference leaves the same. -/
module

public import proofs.«01_k».proof.Proof.Gen.KvIdeal.Value
public import proofs.«01_k».proof.Proof.Gen.KvRefIdeal.Read
public import Idealize.ShloMosaic.Lib.Pointwise
public import Idealize.ShloMosaic.Lib.Pipeline.ValueKit

@[expose] public section

set_option maxRecDepth 16384

noncomputable section

namespace Cert.KvIdeal.Proj

open Cert.KvIdeal Cert.KvIdeal.Gen Idealize.ShloMosaic Idealize.ShloMosaic.TcCoe Idealize.SL.Sem
open Idealize.ShloMosaic.Pipeline (Dat)

/-- The products of the rows of `x` with the first 256 columns of `w`, and with the last 256. -/
def keys (x : FVec Ideal S512x1024 .f32) (w : FVec Ideal S1024x512 .f32) (r : Fin 512) (j : Fin 256) : EReal :=
  ∑ k : Fin 1024, x (ix2 r k) * w (ix2 k ⟨j, by omega⟩)
def values (x : FVec Ideal S512x1024 .f32) (w : FVec Ideal S1024x512 .f32) (r : Fin 512) (j : Fin 256) : EReal :=
  ∑ k : Fin 1024, x (ix2 r k) * w (ix2 k ⟨256 + j, by omega⟩)

/-- The results as arrays: keys and values by rows, and their bf16 casts, the values' transposed. -/
def keyRows (x : FVec Ideal S512x1024 .f32) (w : FVec Ideal S1024x512 .f32) : FVec Ideal S512x256 .f32 := fun i => keys x w (i 0) (i 1)
def valueRows (x : FVec Ideal S512x1024 .f32) (w : FVec Ideal S1024x512 .f32) : FVec Ideal S512x256 .f32 := fun i => values x w (i 0) (i 1)
def keyCast (x : FVec Ideal S512x1024 .f32) (w : FVec Ideal S1024x512 .f32) : FVec Ideal S512x256 .bf16 := fun i => keys x w (i 0) (i 1)
def valueCols (x : FVec Ideal S512x1024 .f32) (w : FVec Ideal S1024x512 .f32) : FVec Ideal S256x512 .bf16 := fun i => values x w (i 1) (i 0)

/-- The only grid point. -/
abbrev t0 : Fin cfg0.N := ⟨0, by decide⟩

variable (m : (ℓ : Loc nD τ sig) → Buf (Elt Ideal) ℓ)

/-- The weights as the call takes them, and the transpose of their value half. -/
def kvw (w : FVec Ideal S1024x512 .f32) : FVec Ideal S1024x512 .bf16 := truncf .bf16 w bitsLt_bf16_f32
def kvwt (w : FVec Ideal S1024x512 .f32) : FVec Ideal S256x1024 .bf16 :=
  transpose S256x1024 [1, 0] (extractStridedSlice S1024x256 ![0, 256] (kvw w)) transposes_S1024x256_S256x1024_1_0

theorem V_v0 (c : Dev nD) : V m c main_v0 = kvw (m ((c.tc : Thread nD τ).loc main_arg1)) := by
  unfold_abbrev_sides
  after_results
  try rfl

theorem V_v2 (c : Dev nD) : V m c main_v2 = kvwt (m ((c.tc : Thread nD τ).loc main_arg1)) := by
  unfold_abbrev_sides
  after_results
  try rfl

/-- The key and value products of row `r` and column `j`. -/
theorem pay2_at (x : FVec Ideal S512x1024 .f32) (w : FVec Ideal S1024x512 .bf16) (r j : Fin 512) :
    k0_pay2 (F := Ideal) x w (ix2 r j) = ∑ k : Fin 1024, x (ix2 r k) * w (ix2 k j) := by
  pointwise [k0_pay2, k0_pay1]

theorem pay6_at (x : FVec Ideal S512x1024 .f32) (w : FVec Ideal S256x1024 .bf16) (j : Fin 256) (r : Fin 512) :
    k0_pay6 (F := Ideal) x w (ix2 j r) = ∑ k : Fin 1024, w (ix2 j k) * x (ix2 r k) := by
  pointwise [k0_pay6, k0_pay1]

theorem pay3_at (x : FVec Ideal S512x1024 .f32) (w : FVec Ideal S1024x512 .bf16) (r : Fin 512) (j : Fin 256) :
    k0_pay3 (F := Ideal) x w (ix2 r j) = ∑ k : Fin 1024, x (ix2 r k) * w (ix2 k ⟨j, by omega⟩) := by
  pointwise [k0_pay3, k0_pay2, k0_pay1]

theorem pay4_at (x : FVec Ideal S512x1024 .f32) (w : FVec Ideal S1024x512 .bf16) (r : Fin 512) (j : Fin 256) :
    k0_pay4 (F := Ideal) x w (ix2 r j) = ∑ k : Fin 1024, x (ix2 r k) * w (ix2 k ⟨256 + j, by omega⟩) := by
  pointwise [k0_pay4, k0_pay2, k0_pay1]

theorem pay5_at (x : FVec Ideal S512x1024 .f32) (w : FVec Ideal S1024x512 .bf16) (r : Fin 512) (j : Fin 256) :
    k0_pay5 (F := Ideal) x w (ix2 r j) = ∑ k : Fin 1024, x (ix2 r k) * w (ix2 k ⟨j, by omega⟩) := by
  pointwise [k0_pay5, k0_pay2, k0_pay1]

/-- The arrays as the four results name them. -/
abbrev X (c : Dev nD) : FVec Ideal S512x1024 .f32 := m ((c.tc : Thread nD τ).loc main_arg0)
abbrev W (c : Dev nD) : FVec Ideal S1024x512 .f32 := m ((c.tc : Thread nD τ).loc main_arg1)

theorem kvwt_at (w : FVec Ideal S1024x512 .f32) (j : Fin 256) (k : Fin 1024) : kvwt w (ix2 j k) = w (ix2 k ⟨256 + j, by omega⟩) := by
  pointwise [kvwt, kvw]

/-- Each window's block is its whole array. -/
theorem iblk0_at (c : Dev nD) (t : Fin cfg0.N) (r : Fin 512) (k : Fin 1024) : iblk m c 0 t (ix2 r k) = X m c (ix2 r k) := by
  refine (congrArg (V m c main_arg0) (?_ : _ = (ix2 r k : S512x1024.Idx))).trans (congrFun (V_main_arg0 m c) _)
  refine funext fun a => Fin.ext ((Pipeline.Window.rect_emb_val (cfg0.win 0) t (ix2 r k) a rfl).trans ?_)
  fin_cases t; fin_cases a
  · show 0 * 512 + r.val = r.val; omega
  · show 0 * 1024 + k.val = k.val; omega

theorem iblk1_at (c : Dev nD) (t : Fin cfg0.N) (k : Fin 1024) (j : Fin 512) : iblk m c 1 t (ix2 k j) = W m c (ix2 k j) := by
  refine (congrArg (V m c main_v0) (?_ : _ = (ix2 k j : S1024x512.Idx))).trans (congrFun (V_v0 m c) _)
  refine funext fun a => Fin.ext ((Pipeline.Window.rect_emb_val (cfg0.win 1) t (ix2 k j) a rfl).trans ?_)
  fin_cases t; fin_cases a
  · show 0 * 1024 + k.val = k.val; omega
  · show 0 * 512 + j.val = j.val; omega

theorem iblk2_at (c : Dev nD) (t : Fin cfg0.N) (j : Fin 256) (k : Fin 1024) : iblk m c 2 t (ix2 j k) = W m c (ix2 k ⟨256 + j, by omega⟩) := by
  refine (congrArg (V m c main_v2) (?_ : _ = (ix2 j k : S256x1024.Idx))).trans ((congrFun (V_v2 m c) _).trans (kvwt_at _ j k))
  refine funext fun a => Fin.ext ((Pipeline.Window.rect_emb_val (cfg0.win 2) t (ix2 j k) a rfl).trans ?_)
  fin_cases t; fin_cases a
  · show 0 * 256 + j.val = j.val; omega
  · show 0 * 1024 + k.val = k.val; omega

/-- Each block the body leaves is one product. -/
theorem out3_eq (x0 : FVec Ideal S512x1024 .f32) (x1 : FVec Ideal S1024x512 .bf16) (x2 : FVec Ideal S256x1024 .bf16) : out0_3 (F := Ideal) x0 x1 x2 = k0_pay3 (F := Ideal) x0 x1 := by
  unfold out0_3
  frame_out

theorem out4_eq (x0 : FVec Ideal S512x1024 .f32) (x1 : FVec Ideal S1024x512 .bf16) (x2 : FVec Ideal S256x1024 .bf16) : out0_4 (F := Ideal) x0 x1 x2 = k0_pay4 (F := Ideal) x0 x1 := by
  unfold out0_4
  frame_out

theorem out5_eq (x0 : FVec Ideal S512x1024 .f32) (x1 : FVec Ideal S1024x512 .bf16) (x2 : FVec Ideal S256x1024 .bf16) : out0_5 (F := Ideal) x0 x1 x2 = k0_pay5 (F := Ideal) x0 x1 := by
  unfold out0_5
  frame_out

theorem out6_eq (x0 : FVec Ideal S512x1024 .f32) (x1 : FVec Ideal S1024x512 .bf16) (x2 : FVec Ideal S256x1024 .bf16) : out0_6 (F := Ideal) x0 x1 x2 = k0_pay6 (F := Ideal) x0 x2 := by
  unfold out0_6
  frame_out

theorem block3_at (c : Dev nD) (t : Fin cfg0.N) (r : Fin 512) (j : Fin 256) :
    out0_3 (iblk m c 0 t) (iblk m c 1 t) (iblk m c 2 t) (ix2 r j) = keys (X m c) (W m c) r j :=
  (congrFun (out3_eq _ _ _) _).trans ((pay3_at (iblk m c 0 t) (iblk m c 1 t) r j).trans
    (Finset.sum_congr rfl fun k _ => congrArg₂ (· * ·) (iblk0_at m c t r k) (iblk1_at m c t k _)))

theorem block4_at (c : Dev nD) (t : Fin cfg0.N) (r : Fin 512) (j : Fin 256) :
    out0_4 (iblk m c 0 t) (iblk m c 1 t) (iblk m c 2 t) (ix2 r j) = values (X m c) (W m c) r j :=
  (congrFun (out4_eq _ _ _) _).trans ((pay4_at (iblk m c 0 t) (iblk m c 1 t) r j).trans
    (Finset.sum_congr rfl fun k _ => congrArg₂ (· * ·) (iblk0_at m c t r k) (iblk1_at m c t k _)))

theorem block5_at (c : Dev nD) (t : Fin cfg0.N) (r : Fin 512) (j : Fin 256) :
    out0_5 (iblk m c 0 t) (iblk m c 1 t) (iblk m c 2 t) (ix2 r j) = keys (X m c) (W m c) r j :=
  (congrFun (out5_eq _ _ _) _).trans ((pay5_at (iblk m c 0 t) (iblk m c 1 t) r j).trans
    (Finset.sum_congr rfl fun k _ => congrArg₂ (· * ·) (iblk0_at m c t r k) (iblk1_at m c t k _)))

theorem block6_at (c : Dev nD) (t : Fin cfg0.N) (j : Fin 256) (r : Fin 512) :
    out0_6 (iblk m c 0 t) (iblk m c 1 t) (iblk m c 2 t) (ix2 j r) = values (X m c) (W m c) r j :=
  (congrFun (out6_eq _ _ _) _).trans ((pay6_at (iblk m c 0 t) (iblk m c 2 t) j r).trans
    (Finset.sum_congr rfl fun k _ => (congrArg₂ (fun a b : EReal => a * b) (iblk2_at m c t j k) (iblk0_at m c t r k)).trans (mul_comm _ _)))

/-- Each output's block is its whole array. -/
theorem idx_3 (t : Fin cfg0.N) (r : Fin 512) (j : Fin 256) : (((cfg0.win 3).blk t).view.emb (ix2 r j) : S512x256.Idx) = ix2 r j := by
  refine funext fun a => Fin.ext ((Pipeline.Window.rect_emb_val (cfg0.win 3) t (ix2 r j) a rfl).trans ?_)
  fin_cases t; fin_cases a
  · show 0 * 512 + r.val = r.val; omega
  · show 0 * 256 + j.val = j.val; omega

theorem idx_4 (t : Fin cfg0.N) (r : Fin 512) (j : Fin 256) : (((cfg0.win 4).blk t).view.emb (ix2 r j) : S512x256.Idx) = ix2 r j := by
  refine funext fun a => Fin.ext ((Pipeline.Window.rect_emb_val (cfg0.win 4) t (ix2 r j) a rfl).trans ?_)
  fin_cases t; fin_cases a
  · show 0 * 512 + r.val = r.val; omega
  · show 0 * 256 + j.val = j.val; omega

theorem idx_5 (t : Fin cfg0.N) (r : Fin 512) (j : Fin 256) : (((cfg0.win 5).blk t).view.emb (ix2 r j) : S512x256.Idx) = ix2 r j := by
  refine funext fun a => Fin.ext ((Pipeline.Window.rect_emb_val (cfg0.win 5) t (ix2 r j) a rfl).trans ?_)
  fin_cases t; fin_cases a
  · show 0 * 512 + r.val = r.val; omega
  · show 0 * 256 + j.val = j.val; omega

theorem idx_6 (t : Fin cfg0.N) (j : Fin 256) (r : Fin 512) : (((cfg0.win 6).blk t).view.emb (ix2 j r) : S256x512.Idx) = ix2 j r := by
  refine funext fun a => Fin.ext ((Pipeline.Window.rect_emb_val (cfg0.win 6) t (ix2 j r) a rfl).trans ?_)
  fin_cases t; fin_cases a
  · show 0 * 256 + j.val = j.val; omega
  · show 0 * 512 + r.val = r.val; omega

theorem flush_all : (cfg0.win 3).flush t0 = true ∧ (cfg0.win 4).flush t0 = true ∧ (cfg0.win 5).flush t0 = true ∧ (cfg0.win 6).flush t0 = true := by decide +kernel

/-- The four results after the call. -/
theorem final3 (c : Dev nD) : (dats m 0 c).arrAt 3 cfg0.N = keyRows (X m c) (W m c) := by
  refine (dats m 0 c).arrAt_eq_of_emb 3 _ (fun t _ y => ?_) (fun i => ⟨t0, flush_all.1, ?_⟩)
  · rw [after0_3]
    refine (cast_eq _ _).trans ?_
    have key : ∀ y : S512x256.Idx, out0_3 (iblk m c 0 t) (iblk m c 1 t) (iblk m c 2 t) y = (keyRows (X m c) (W m c)) (((cfg0.win 3).blk t).view.emb y) := by
      intro y
      idx_vars y
      exact (block3_at m c t _ _).trans (congrArg (keyRows (X m c) (W m c)) (idx_3 t _ _)).symm
    exact key y
  · idx_vars i
    exact Set.mem_of_eq_of_mem (idx_3 t0 _ _).symm (View.emb_mem_set _ _)

theorem final4 (c : Dev nD) : (dats m 0 c).arrAt 4 cfg0.N = valueRows (X m c) (W m c) := by
  refine (dats m 0 c).arrAt_eq_of_emb 4 _ (fun t _ y => ?_) (fun i => ⟨t0, flush_all.2.1, ?_⟩)
  · rw [after0_4]
    refine (cast_eq _ _).trans ?_
    have key : ∀ y : S512x256.Idx, out0_4 (iblk m c 0 t) (iblk m c 1 t) (iblk m c 2 t) y = (valueRows (X m c) (W m c)) (((cfg0.win 4).blk t).view.emb y) := by
      intro y
      idx_vars y
      exact (block4_at m c t _ _).trans (congrArg (valueRows (X m c) (W m c)) (idx_4 t _ _)).symm
    exact key y
  · idx_vars i
    exact Set.mem_of_eq_of_mem (idx_4 t0 _ _).symm (View.emb_mem_set _ _)

theorem final5 (c : Dev nD) : (dats m 0 c).arrAt 5 cfg0.N = keyCast (X m c) (W m c) := by
  refine (dats m 0 c).arrAt_eq_of_emb 5 _ (fun t _ y => ?_) (fun i => ⟨t0, flush_all.2.2.1, ?_⟩)
  · rw [after0_5]
    refine (cast_eq _ _).trans ?_
    have key : ∀ y : S512x256.Idx, out0_5 (iblk m c 0 t) (iblk m c 1 t) (iblk m c 2 t) y = (keyCast (X m c) (W m c)) (((cfg0.win 5).blk t).view.emb y) := by
      intro y
      idx_vars y
      exact (block5_at m c t _ _).trans (congrArg (keyCast (X m c) (W m c)) (idx_5 t _ _)).symm
    exact key y
  · idx_vars i
    exact Set.mem_of_eq_of_mem (idx_5 t0 _ _).symm (View.emb_mem_set _ _)

theorem final6 (c : Dev nD) : (dats m 0 c).arrAt 6 cfg0.N = valueCols (X m c) (W m c) := by
  refine (dats m 0 c).arrAt_eq_of_emb 6 _ (fun t _ y => ?_) (fun i => ⟨t0, flush_all.2.2.2, ?_⟩)
  · rw [after0_6]
    refine (cast_eq _ _).trans ?_
    have key : ∀ y : S256x512.Idx, out0_6 (iblk m c 0 t) (iblk m c 1 t) (iblk m c 2 t) y = (valueCols (X m c) (W m c)) (((cfg0.win 6).blk t).view.emb y) := by
      intro y
      idx_vars y
      exact (block6_at m c t _ _).trans (congrArg (valueCols (X m c) (W m c)) (idx_6 t _ _)).symm
    exact key y
  · idx_vars i
    exact Set.mem_of_eq_of_mem (idx_6 t0 _ _).symm (View.emb_mem_set _ _)

end Cert.KvIdeal.Proj

/-! The reference's four results. -/

namespace Cert.KvRefIdeal.Proj

open Cert.KvRefIdeal Cert.KvRefIdeal.Gen Cert.KvRefIdeal.Read Cert.KvIdeal.Proj Idealize.ShloMosaic

variable (x : FVec Ideal S512x1024 .f32) (w : FVec Ideal S1024x512 .f32)

theorem k_eq : val_main_v1 (F := Ideal) x w = keyRows x w := funext fun i => by
  idx_vars i
  pointwise [val_main_v1, val_main_v0]
  rfl

theorem v_eq : val_main_v2 (F := Ideal) x w = valueRows x w := funext fun i => by
  idx_vars i
  pointwise [val_main_v2, val_main_v0]
  rfl

theorem kb_eq : val_main_v3 (F := Ideal) x w = keyCast x w := funext fun i => by
  idx_vars i
  pointwise [val_main_v3, val_main_v1, val_main_v0]
  rfl

theorem vt_eq : val_main_v5 (F := Ideal) x w = valueCols x w := funext fun i => by
  idx_vars i
  pointwise [val_main_v5, val_main_v4, val_main_v2, val_main_v0]
  rfl

end Cert.KvRefIdeal.Proj

end
-- ==== Proof.AdaValue.lean ====
/- The adaptive layer norms' shift, scale and gate of every sub-layer: what the call leaves in its two results, and that the reference leaves the same. -/
module

public import proofs.«01_k».proof.Proof.Gen.AdaIdeal.Value
public import proofs.«01_k».proof.Proof.Gen.AdaRefIdeal.Read
public import Idealize.ShloMosaic.Lib.Pointwise
public import Idealize.ShloMosaic.Lib.Pipeline.ValueKit

@[expose] public section

set_option maxRecDepth 16384

noncomputable section

namespace Cert.AdaIdeal.Mod

open Cert.AdaIdeal Cert.AdaIdeal.Gen Idealize.ShloMosaic Idealize.ShloMosaic.TcCoe Idealize.SL.Sem
open Idealize.ShloMosaic.Pipeline (Dat)

/-- Sub-layer `l`'s affine image of one sequence's vector `v`, at column `j` of the 3072. -/
def affine (v : Fin 1024 → EReal) (w : FVec Ideal S4x2x1024x3072 .f32) (b : FVec Ideal S4x2x3072 .f32) (l : Fin 8) (j : Fin 3072) : EReal :=
  (∑ k : Fin 1024, v k * w (ix4 (⟨l / 2, by omega⟩ : Fin 4) (⟨l % 2, by omega⟩ : Fin 2) k j)) + b (ix3 (⟨l / 2, by omega⟩ : Fin 4) (⟨l % 2, by omega⟩ : Fin 2) j)

/-- The number added to the third `q` of the columns: none to the shift, one to the scale and to the gate. -/
def unitOf (q : ℕ) : EReal := if q = 0 then 0 else 1

/-- The prompt's result and the sample's. -/
def modP (x : FVec Ideal S8x1024 .f32) (w : FVec Ideal S4x2x1024x3072 .f32) (b : FVec Ideal S4x2x3072 .f32) : FVec Ideal S8x8x3072 .f32 :=
  fun i => affine (fun k => x (ix2 (i 1) k)) w b (i 0) (i 2) + unitOf ((i 2).val / 1024)
def modS (x : FVec Ideal S128x1024 .f32) (w : FVec Ideal S4x2x1024x3072 .f32) (b : FVec Ideal S4x2x3072 .f32) : FVec Ideal S8x128x3072 .f32 :=
  fun i => affine (fun k => x (ix2 (i 1) k)) w b (i 0) (i 2) + unitOf ((i 2).val / 1024)

theorem lit_one : Ideal.ofBits FTy.f32 1065353216#32 = (1 : EReal) := by
  simp [Ideal.ofBits, Ideal.ieee, -EReal.coe_mul]
  try norm_num

theorem lit_zero : Ideal.ofBits FTy.f32 0#32 = (0 : EReal) := by
  simp [Ideal.ofBits, Ideal.ieee, -EReal.coe_mul]

/-! The grid point `t` is third `t % 3` of sub-layer `t / 3`. -/

theorem point0 : ∀ t : Fin grid0.N, (grid0.coords t 0).val = t.val / 3 := by decide +kernel
theorem point1 : ∀ t : Fin grid0.N, (grid0.coords t 1).val = t.val % 3 := by decide +kernel
theorem word0 (t : Fin grid0.N) : BitVec.toNat (BitVec.ofNat 32 (grid0.coords t 0).val) = t.val / 3 := by
  have h : t.val < 24 := t.isLt
  rw [point0, BitVec.toNat_ofNat]; omega
theorem word1 (t : Fin grid0.N) : BitVec.toNat (BitVec.ofNat 32 (grid0.coords t 1).val) = t.val % 3 := by
  rw [point1, BitVec.toNat_ofNat]; omega
theorem past_first : ∀ t : Fin grid0.N, Scalar.cmpi .sgt (BitVec.ofNat 32 (grid0.coords t 1).val) 0#32 = if t.val % 3 = 0 then 0#1 else 1#1 := by decide +kernel

theorem unit_at (t : Fin grid0.N) : k0_pay1 (F := Ideal) (grid0.coords t) = unitOf (t.val % 3) := by
  unfold k0_pay1 unitOf
  dsimp only
  rw [past_first]
  split
  · exact lit_zero
  · exact lit_one

/-! The body's two blocks. -/

theorem pay3_at (i : grid0.Coords) (w : FVec Ideal S1x1024x1024 .f32) (x : FVec Ideal S8x1024 .f32) (b : FVec Ideal S1x1x1024 .f32) (r : Fin 8) (j : Fin 1024) :
    k0_pay3 (F := Ideal) i w x b (ix3 0 r j) = (∑ k : Fin 1024, x (ix2 r k) * w (ix3 0 k j)) + b (ix3 0 0 j) + k0_pay1 (F := Ideal) i := by
  pointwise [k0_pay3, k0_pay2]

theorem pay4_at (i : grid0.Coords) (w : FVec Ideal S1x1024x1024 .f32) (x : FVec Ideal S128x1024 .f32) (b : FVec Ideal S1x1x1024 .f32) (r : Fin 128) (j : Fin 1024) :
    k0_pay4 (F := Ideal) i w x b (ix3 0 r j) = (∑ k : Fin 1024, x (ix2 r k) * w (ix3 0 k j)) + b (ix3 0 0 j) + k0_pay1 (F := Ideal) i := by
  pointwise [k0_pay4, k0_pay2]

theorem out4_eq (i : grid0.Coords) (x0 : FVec Ideal S8x1024 .f32) (x1 : FVec Ideal S128x1024 .f32) (x2 : FVec Ideal S1x1024x1024 .f32) (x3 : FVec Ideal S1x1x1024 .f32) :
    out0_4 (F := Ideal) i x0 x1 x2 x3 = k0_pay3 (F := Ideal) i x2 x0 x3 := by
  unfold out0_4
  frame_out

theorem out5_eq (i : grid0.Coords) (x0 : FVec Ideal S8x1024 .f32) (x1 : FVec Ideal S128x1024 .f32) (x2 : FVec Ideal S1x1024x1024 .f32) (x3 : FVec Ideal S1x1x1024 .f32) :
    out0_5 (F := Ideal) i x0 x1 x2 x3 = k0_pay4 (F := Ideal) i x2 x1 x3 := by
  unfold out0_5
  frame_out

/-! The arrays, and the blocks at a point. -/

variable (m : (ℓ : Loc nD τ sig) → Buf (Elt Ideal) ℓ)

abbrev CP (c : Dev nD) : FVec Ideal S8x1024 .f32 := m ((c.tc : Thread nD τ).loc main_arg0)
abbrev CS (c : Dev nD) : FVec Ideal S128x1024 .f32 := m ((c.tc : Thread nD τ).loc main_arg1)
abbrev W (c : Dev nD) : FVec Ideal S4x2x1024x3072 .f32 := m ((c.tc : Thread nD τ).loc main_arg2)
abbrev B (c : Dev nD) : FVec Ideal S4x2x3072 .f32 := m ((c.tc : Thread nD τ).loc main_arg3)

/-- The weights and the biases with one axis of sub-layers. -/
def flatW (w : FVec Ideal S4x2x1024x3072 .f32) : FVec Ideal S8x1024x3072 .f32 := shapeCast S8x1024x3072 w shapeCasts_S4x2x1024x3072_S8x1024x3072
def flatB (b : FVec Ideal S4x2x3072 .f32) : FVec Ideal S8x1x3072 .f32 := shapeCast S8x1x3072 b shapeCasts_S4x2x3072_S8x1x3072

theorem flatW_at (w : FVec Ideal S4x2x1024x3072 .f32) (l : Fin 8) (k : Fin 1024) (j : Fin 3072) :
    flatW w (ix3 l k j) = w (ix4 (⟨l / 2, by omega⟩ : Fin 4) (⟨l % 2, by omega⟩ : Fin 2) k j) := by
  pointwise [flatW]

theorem flatB_at (b : FVec Ideal S4x2x3072 .f32) (l : Fin 8) (j : Fin 3072) :
    flatB b (ix3 l 0 j) = b (ix3 (⟨l / 2, by omega⟩ : Fin 4) (⟨l % 2, by omega⟩ : Fin 2) j) := by
  pointwise [flatB]

theorem V_v0 (c : Dev nD) : V m c main_v0 = flatW (W m c) := by
  unfold_abbrev_sides
  after_results
  try rfl

theorem V_v1 (c : Dev nD) : V m c main_v1 = flatB (B m c) := by
  unfold_abbrev_sides
  after_results
  try rfl

/-- The sub-layer of point `t`, and column `j` of its third. -/
def sub (t : Fin cfg0.N) : Fin 8 := ⟨t.val / 3, by have h : t.val < 24 := t.isLt; omega⟩
def col (t : Fin cfg0.N) (j : Fin 1024) : Fin 3072 := ⟨t.val % 3 * 1024 + j, by omega⟩

theorem iblk0_at (c : Dev nD) (t : Fin cfg0.N) (r : Fin 8) (k : Fin 1024) : iblk m c 0 t (ix2 r k) = CP m c (ix2 r k) := by
  refine (congrArg (V m c main_arg0) (?_ : _ = (ix2 r k : S8x1024.Idx))).trans (congrFun (V_main_arg0 m c) _)
  refine funext fun a => Fin.ext ((Pipeline.Window.rect_emb_val (cfg0.win 0) t (ix2 r k) a rfl).trans ?_)
  fin_cases a
  · show 0 * 8 + r.val = r.val; omega
  · show 0 * 1024 + k.val = k.val; omega

theorem iblk1_at (c : Dev nD) (t : Fin cfg0.N) (r : Fin 128) (k : Fin 1024) : iblk m c 1 t (ix2 r k) = CS m c (ix2 r k) := by
  refine (congrArg (V m c main_arg1) (?_ : _ = (ix2 r k : S128x1024.Idx))).trans (congrFun (V_main_arg1 m c) _)
  refine funext fun a => Fin.ext ((Pipeline.Window.rect_emb_val (cfg0.win 1) t (ix2 r k) a rfl).trans ?_)
  fin_cases a
  · show 0 * 128 + r.val = r.val; omega
  · show 0 * 1024 + k.val = k.val; omega

theorem iblk2_at (c : Dev nD) (t : Fin cfg0.N) (k j : Fin 1024) : iblk m c 2 t (ix3 0 k j) = flatW (W m c) (ix3 (sub t) k (col t j)) := by
  refine (congrArg (V m c main_v0) (?_ : _ = (ix3 (sub t) k (col t j) : S8x1024x3072.Idx))).trans (congrFun (V_v0 m c) _)
  refine funext fun a => Fin.ext ((Pipeline.Window.rect_emb_val (cfg0.win 2) t (ix3 0 k j) a rfl).trans ?_)
  fin_cases a
  · show BitVec.toNat (BitVec.ofNat 32 (grid0.coords t 0).val) * 1 + 0 = t.val / 3
    rw [word0]; omega
  · show 0 * 1024 + k.val = k.val; omega
  · show BitVec.toNat (BitVec.ofNat 32 (grid0.coords t 1).val) * 1024 + j.val = t.val % 3 * 1024 + j.val
    rw [word1]

theorem iblk3_at (c : Dev nD) (t : Fin cfg0.N) (j : Fin 1024) : iblk m c 3 t (ix3 0 0 j) = flatB (B m c) (ix3 (sub t) 0 (col t j)) := by
  refine (congrArg (V m c main_v1) (?_ : _ = (ix3 (sub t) 0 (col t j) : S8x1x3072.Idx))).trans (congrFun (V_v1 m c) _)
  refine funext fun a => Fin.ext ((Pipeline.Window.rect_emb_val (cfg0.win 3) t (ix3 0 0 j) a rfl).trans ?_)
  fin_cases a
  · show BitVec.toNat (BitVec.ofNat 32 (grid0.coords t 0).val) * 1 + 0 = t.val / 3
    rw [word0]; omega
  · show 0 * 1 + 0 = 0; omega
  · show BitVec.toNat (BitVec.ofNat 32 (grid0.coords t 1).val) * 1024 + j.val = t.val % 3 * 1024 + j.val
    rw [word1]

theorem idx_4 (t : Fin cfg0.N) (r : Fin 8) (j : Fin 1024) : (((cfg0.win 4).blk t).view.emb (ix3 0 r j) : S8x8x3072.Idx) = ix3 (sub t) r (col t j) := by
  refine funext fun a => Fin.ext ((Pipeline.Window.rect_emb_val (cfg0.win 4) t (ix3 0 r j) a rfl).trans ?_)
  fin_cases a
  · show BitVec.toNat (BitVec.ofNat 32 (grid0.coords t 0).val) * 1 + 0 = t.val / 3
    rw [word0]; omega
  · show 0 * 8 + r.val = r.val; omega
  · show BitVec.toNat (BitVec.ofNat 32 (grid0.coords t 1).val) * 1024 + j.val = t.val % 3 * 1024 + j.val
    rw [word1]

theorem idx_5 (t : Fin cfg0.N) (r : Fin 128) (j : Fin 1024) : (((cfg0.win 5).blk t).view.emb (ix3 0 r j) : S8x128x3072.Idx) = ix3 (sub t) r (col t j) := by
  refine funext fun a => Fin.ext ((Pipeline.Window.rect_emb_val (cfg0.win 5) t (ix3 0 r j) a rfl).trans ?_)
  fin_cases a
  · show BitVec.toNat (BitVec.ofNat 32 (grid0.coords t 0).val) * 1 + 0 = t.val / 3
    rw [word0]; omega
  · show 0 * 128 + r.val = r.val; omega
  · show BitVec.toNat (BitVec.ofNat 32 (grid0.coords t 1).val) * 1024 + j.val = t.val % 3 * 1024 + j.val
    rw [word1]

/-- A block's affine image and the number added to it, from what the block's arrays hold. -/
theorem entry_of (c : Dev nD) (t : Fin cfg0.N) (j : Fin 1024) (v u : Fin 1024 → EReal) (hv : ∀ k, v k = u k) :
    (∑ k : Fin 1024, v k * iblk m c 2 t (ix3 0 k j)) + iblk m c 3 t (ix3 0 0 j) + k0_pay1 (F := Ideal) (grid0.coords t) =
      affine u (W m c) (B m c) (sub t) (col t j) + unitOf ((col t j).val / 1024) := by
  have hc : (col t j).val / 1024 = t.val % 3 := by
    show (t.val % 3 * 1024 + j.val) / 1024 = t.val % 3
    omega
  rw [hc]
  refine congrArg₂ (· + ·) (congrArg₂ (· + ·) (Finset.sum_congr rfl fun k _ => congrArg₂ (fun a b : EReal => a * b) (hv k) ?_) ?_) (unit_at t)
  · exact (iblk2_at m c t k j).trans (flatW_at _ _ _ _)
  · exact (iblk3_at m c t j).trans (flatB_at _ _ _)

theorem block4_at (c : Dev nD) (t : Fin cfg0.N) (r : Fin 8) (j : Fin 1024) :
    out0_4 (grid0.coords t) (iblk m c 0 t) (iblk m c 1 t) (iblk m c 2 t) (iblk m c 3 t) (ix3 0 r j) =
      modP (CP m c) (W m c) (B m c) (ix3 (sub t) r (col t j)) :=
  (congrFun (out4_eq _ (iblk m c 0 t) (iblk m c 1 t) (iblk m c 2 t) (iblk m c 3 t)) _).trans
    ((pay3_at _ (iblk m c 2 t) (iblk m c 0 t) (iblk m c 3 t) r j).trans (entry_of m c t j _ _ fun k => iblk0_at m c t r k))

theorem block5_at (c : Dev nD) (t : Fin cfg0.N) (r : Fin 128) (j : Fin 1024) :
    out0_5 (grid0.coords t) (iblk m c 0 t) (iblk m c 1 t) (iblk m c 2 t) (iblk m c 3 t) (ix3 0 r j) =
      modS (CS m c) (W m c) (B m c) (ix3 (sub t) r (col t j)) :=
  (congrFun (out5_eq _ (iblk m c 0 t) (iblk m c 1 t) (iblk m c 2 t) (iblk m c 3 t)) _).trans
    ((pay4_at _ (iblk m c 2 t) (iblk m c 1 t) (iblk m c 3 t) r j).trans (entry_of m c t j _ _ fun k => iblk1_at m c t r k))

/-- The point that writes column `j` of sub-layer `l`, and the column's place in its third. -/
def pointOf (l : Fin 8) (j : Fin 3072) : Fin cfg0.N := ⟨l.val * 3 + j.val / 1024, show l.val * 3 + j.val / 1024 < 24 by omega⟩

theorem sub_pointOf (l : Fin 8) (j : Fin 3072) : sub (pointOf l j) = l := Fin.ext (by
  show (l.val * 3 + j.val / 1024) / 3 = l.val
  omega)

theorem col_pointOf (l : Fin 8) (j : Fin 3072) : col (pointOf l j) ⟨j % 1024, by omega⟩ = j := Fin.ext (by
  show (l.val * 3 + j.val / 1024) % 3 * 1024 + j.val % 1024 = j.val
  omega)

/-- The two results after the call. -/
theorem final4 (c : Dev nD) : (dats m 0 c).arrAt 4 cfg0.N = modP (CP m c) (W m c) (B m c) := by
  refine (dats m 0 c).arrAt_eq_of_emb 4 _ (fun t _ y => ?_) (fun i => ?_)
  · rw [after0_4]
    refine (cast_eq _ _).trans ?_
    have key : ∀ y : S1x8x1024.Idx, out0_4 (grid0.coords t) (iblk m c 0 t) (iblk m c 1 t) (iblk m c 2 t) (iblk m c 3 t) y =
        (modP (CP m c) (W m c) (B m c)) (((cfg0.win 4).blk t).view.emb y) := by
      intro y
      idx_vars y
      obtain rfl : y0 = 0 := Subsingleton.elim _ _
      exact (block4_at m c t _ _).trans (congrArg (modP (CP m c) (W m c) (B m c)) (idx_4 t _ _)).symm
    exact key y
  · idx_vars i
    refine ⟨pointOf i0 i2, flush0_4 _, Set.mem_of_eq_of_mem ?_ (View.emb_mem_set _ (ix3 0 i1 ⟨i2 % 1024, by omega⟩))⟩
    exact ((idx_4 _ _ _).trans (congrArg₂ (fun a b => ix3 a i1 b) (sub_pointOf i0 i2) (col_pointOf i0 i2))).symm

theorem final5 (c : Dev nD) : (dats m 0 c).arrAt 5 cfg0.N = modS (CS m c) (W m c) (B m c) := by
  refine (dats m 0 c).arrAt_eq_of_emb 5 _ (fun t _ y => ?_) (fun i => ?_)
  · rw [after0_5]
    refine (cast_eq _ _).trans ?_
    have key : ∀ y : S1x128x1024.Idx, out0_5 (grid0.coords t) (iblk m c 0 t) (iblk m c 1 t) (iblk m c 2 t) (iblk m c 3 t) y =
        (modS (CS m c) (W m c) (B m c)) (((cfg0.win 5).blk t).view.emb y) := by
      intro y
      idx_vars y
      obtain rfl : y0 = 0 := Subsingleton.elim _ _
      exact (block5_at m c t _ _).trans (congrArg (modS (CS m c) (W m c) (B m c)) (idx_5 t _ _)).symm
    exact key y
  · idx_vars i
    refine ⟨pointOf i0 i2, flush0_5 _, Set.mem_of_eq_of_mem ?_ (View.emb_mem_set _ (ix3 0 i1 ⟨i2 % 1024, by omega⟩))⟩
    exact ((idx_5 _ _ _).trans (congrArg₂ (fun a b => ix3 a i1 b) (sub_pointOf i0 i2) (col_pointOf i0 i2))).symm

end Cert.AdaIdeal.Mod

/-! The reference's two results. -/

namespace Cert.AdaRefIdeal.Mod

open Cert.AdaRefIdeal Cert.AdaRefIdeal.Gen Cert.AdaRefIdeal.Read Cert.AdaIdeal.Mod Idealize.ShloMosaic

variable (x : FVec Ideal S8x1024 .f32) (xs : FVec Ideal S128x1024 .f32) (w : FVec Ideal S4x2x1024x3072 .f32) (b : FVec Ideal S4x2x3072 .f32)

/-- The three thirds of a row side by side, one added to the second and the third. -/
theorem joined (f : Fin 3072 → EReal) (j : Fin 3072) :
    (if j.val < 1024 then f j
      else if h : j.val - 1024 < 1024 then 1 + f ⟨1024 + (j.val - 1024), by omega⟩ else 1 + f ⟨2048 + (j.val - 1024 - 1024), by omega⟩) =
      f j + unitOf (j.val / 1024) := by
  unfold unitOf
  split_ifs with h1 h2 h3 h4 h5
  · rw [add_zero]
  · omega
  · omega
  · rw [add_comm]
    exact congrArg (fun k => f k + 1) (Fin.ext (by simp only; omega))
  · omega
  · rw [add_comm]
    exact congrArg (fun k => f k + 1) (Fin.ext (by simp only; omega))

/-- The reference's product takes its factors in the other order. -/
def turned (v : Fin 1024 → EReal) (w : FVec Ideal S4x2x1024x3072 .f32) (b : FVec Ideal S4x2x3072 .f32) (l : Fin 8) (j : Fin 3072) : EReal :=
  (∑ k : Fin 1024, w (ix4 (⟨l / 2, by omega⟩ : Fin 4) (⟨l % 2, by omega⟩ : Fin 2) k j) * v k) + b (ix3 (⟨l / 2, by omega⟩ : Fin 4) (⟨l % 2, by omega⟩ : Fin 2) j)

theorem turned_eq (v : Fin 1024 → EReal) (l : Fin 8) (j : Fin 3072) : turned v w b l j = affine v w b l j :=
  congrArg (· + _) (Finset.sum_congr rfl fun _ _ => mul_comm _ _)

theorem prompt_eq : val_main_v13 (F := Ideal) x w b = modP x w b := funext fun i => by
  idx_vars i
  pointwise [val_main_v13, val_main_v12, val_main_v11, val_main_v10, val_main_v9, val_main_v8, val_main_v7, val_main_v6, val_main_v5, val_main_v4, val_main_v3,
    val_main_v2, val_main_v1, val_main_v0, val_main_cst, val_main_cst_0]
  exact (joined (turned (fun k => x (ix2 i1 k)) w b i0) i2).trans (congrArg (· + _) (turned_eq w b _ _ _))

theorem sample_eq : val_main_v27 (F := Ideal) xs w b = modS xs w b := funext fun i => by
  idx_vars i
  pointwise [val_main_v27, val_main_v26, val_main_v25, val_main_v24, val_main_v23, val_main_v22, val_main_v21, val_main_v20, val_main_v19, val_main_v18, val_main_v17,
    val_main_v16, val_main_v15, val_main_v14, val_main_cst_1, val_main_cst_2]
  exact (joined (turned (fun k => xs (ix2 i1 k)) w b i0) i2).trans (congrArg (· + _) (turned_eq w b _ _ _))

end Cert.AdaRefIdeal.Mod

end
-- ==== Proof.MoeRoute.lean ====
/- Choosing the greatest of a few numbers, the earlier of equal ones: by a running greatest and a least position, and by a stable sort. -/
module

public import proofs.«01_k».proof.Proof.LruMath
public import Idealize.ShloMosaic.Lib.SortFacts
public import Idealize.ShloMosaic.Lib.Pointwise

@[expose] public section

noncomputable section

namespace Cert.Route

open Idealize.ShloMosaic

/-- `p` comes before `k`: its number is greater, or equal and `p` is earlier. -/
def Before {n : ℕ} (f : Fin n → EReal) (p k : Fin n) : Prop := f k < f p ∨ (f k = f p ∧ p < k)

/-- `p` is the place of the greatest, the earlier of equal ones. -/
def Lead {n : ℕ} (f : Fin n → EReal) (p : Fin n) : Prop := ∀ k, k ≠ p → Before f p k

/-- `q` is the place of the greatest outside `p`. -/
def Second {n : ℕ} (f : Fin n → EReal) (p q : Fin n) : Prop := q ≠ p ∧ ∀ k, k ≠ p → k ≠ q → Before f q k

theorem Before.le {n : ℕ} {f : Fin n → EReal} {p k : Fin n} (h : Before f p k) : f k ≤ f p := by
  rcases h with h | h
  · exact h.le
  · exact h.1.le

theorem Lead.le {n : ℕ} {f : Fin n → EReal} {p : Fin n} (h : Lead f p) (k : Fin n) : f k ≤ f p := by
  by_cases e : k = p
  · rw [e]
  · exact (h k e).le

theorem Lead.first {n : ℕ} {f : Fin n → EReal} {p : Fin n} (h : Lead f p) (k : Fin n) (e : f k = f p) : p ≤ k := by
  by_cases e' : k = p
  · rw [e']
  · rcases h k e' with h | h
    · exact absurd e h.ne
    · exact h.2.le

theorem fold_max {n : ℕ} (f : Fin n → EReal) (p : Fin n) (h : ∀ k, f k ≤ f p) : Finset.fold max ⊥ f Finset.univ = f p := by
  refine le_antisymm (Finset.fold_max_le _ |>.mpr ⟨bot_le, fun k _ => h k⟩) ?_
  exact Finset.le_fold_max _ |>.mpr (Or.inr ⟨p, Finset.mem_univ p, le_rfl⟩)

theorem fold_min {n : ℕ} (f : Fin n → EReal) (p : Fin n) (h : ∀ k, f p ≤ f k) : Finset.fold min ⊤ f Finset.univ = f p := by
  refine le_antisymm (Finset.fold_min_le _ |>.mpr (Or.inr ⟨p, Finset.mem_univ p, le_rfl⟩)) ?_
  exact Finset.le_fold_min _ |>.mpr ⟨le_top, fun k _ => h k⟩

/-! The stable sort. -/

theorem insert_before {n : ℕ} (f : Fin n → EReal) (R : Fin n → Fin n → Bool) (hR : ∀ a b, R a b = true ↔ f b < f a) (a : Fin n) (l : List (Fin n))
    (hl : l.Pairwise (Before f)) (ha : ∀ b ∈ l, a < b) : (insertBefore R a l).Pairwise (Before f) := by
  induction l with
  | nil => exact List.pairwise_singleton _ _
  | cons b l ih =>
    rw [List.pairwise_cons] at hl
    unfold insertBefore
    split
    · rename_i h
      refine List.pairwise_cons.mpr ⟨fun c hc => ?_, ih hl.2 (fun c hc => ha c (List.mem_cons_of_mem _ hc))⟩
      rcases List.mem_cons.mp ((perm_insertBefore R a l).mem_iff.mp hc) with rfl | hc'
      · exact Or.inl ((hR _ _).mp h)
      · exact hl.1 c hc'
    · rename_i h
      have hba : f b ≤ f a := not_lt.mp fun h' => h ((hR _ _).mpr h')
      refine List.pairwise_cons.mpr ⟨fun c hc => ?_, List.pairwise_cons.mpr hl⟩
      have hca : f c ≤ f a := by
        rcases List.mem_cons.mp hc with rfl | hc'
        · exact hba
        · exact (hl.1 c hc').le.trans hba
      rcases hca.lt_or_eq with h' | h'
      · exact Or.inl h'
      · exact Or.inr ⟨h', ha c hc⟩

theorem sort_before {n : ℕ} (f : Fin n → EReal) (R : Fin n → Fin n → Bool) (hR : ∀ a b, R a b = true ↔ f b < f a) (l : List (Fin n))
    (hl : l.Pairwise (· < ·)) : (stableSort R l).Pairwise (Before f) := by
  induction l with
  | nil => exact List.Pairwise.nil
  | cons a l ih =>
    rw [List.pairwise_cons] at hl
    unfold stableSort
    exact insert_before f R hR a _ (ih hl.2) fun b hb => hl.1 b ((perm_stableSort R l).mem_iff.mp hb)

theorem sorted_before {n : ℕ} (f : Fin n → EReal) (R : Fin n → Fin n → Bool) (hR : ∀ a b, R a b = true ↔ f b < f a) (i j : Fin n) (hij : i < j) :
    Before f (sortedFrom R i) (sortedFrom R j) := by
  have hp : ∀ a b : Fin (sortPositions n R).length, a < b → Before f ((sortPositions n R).get a) ((sortPositions n R).get b) :=
    List.pairwise_iff_get.mp (sort_before f R hR (List.finRange n) (List.pairwise_lt_finRange n))
  unfold sortedFrom
  exact hp _ _ (by simp only [Fin.lt_def, Fin.val_cast]; exact hij)

theorem sorted_lead (f : Fin 4 → EReal) (R : Fin 4 → Fin 4 → Bool) (hR : ∀ a b, R a b = true ↔ f b < f a) : Lead f (sortedFrom R 0) := by
  intro k hk
  obtain ⟨j, rfl⟩ := sortedFrom_surjective R k
  refine sorted_before f R hR 0 j ?_
  rcases Fin.pos_iff_ne_zero.mpr (fun e : j = 0 => hk (by rw [e])) with h
  exact h

theorem sorted_second (f : Fin 4 → EReal) (R : Fin 4 → Fin 4 → Bool) (hR : ∀ a b, R a b = true ↔ f b < f a) : Second f (sortedFrom R 0) (sortedFrom R 1) := by
  refine ⟨fun e => absurd (sortedFrom_injective R e) (by decide), fun k h0 h1 => ?_⟩
  obtain ⟨j, rfl⟩ := sortedFrom_surjective R k
  refine sorted_before f R hR 1 j ?_
  have e0 : j ≠ 0 := fun e => h0 (by rw [e])
  have e1 : j ≠ 1 := fun e => h1 (by rw [e])
  revert e0 e1
  clear h0 h1
  revert j
  decide

/-! Numbers. -/

theorem lit_bot : Ideal.ofBits FTy.f32 4286578688#32 = (⊥ : EReal) := by
  simp [Ideal.ofBits, Ideal.ieee, -EReal.coe_mul]
theorem lit_top : Ideal.ofBits FTy.f32 2139095040#32 = (⊤ : EReal) := by
  simp [Ideal.ofBits, Ideal.ieee, -EReal.coe_mul]
theorem lit_four : Ideal.ofBits FTy.f32 1082130432#32 = ((4 : ℝ) : EReal) := by
  simp [Ideal.ofBits, Ideal.ieee, -EReal.coe_mul]
  try norm_num
theorem lit_eight : Ideal.ofBits FTy.f32 1090519040#32 = ((8 : ℝ) : EReal) := by
  simp [Ideal.ofBits, Ideal.ieee, -EReal.coe_mul]
  try norm_num
theorem lit_sixteen : Ideal.ofBits FTy.f32 1098907648#32 = ((16 : ℝ) : EReal) := by
  simp [Ideal.ofBits, Ideal.ieee, -EReal.coe_mul]
  try norm_num
/-- The number put in the place of what is not to be chosen. -/
def low : EReal := Ideal.ofBits FTy.f32 4048155338#32

theorem low_ne_top : low ≠ ⊤ := by
  unfold low
  simp [Ideal.ofBits, Ideal.ieee, -EReal.coe_mul]
theorem low_ne_bot : low ≠ ⊥ := by
  unfold low
  simp [Ideal.ofBits, Ideal.ieee, -EReal.coe_mul]

/-- A place as a number. -/
def num (k : ℕ) : EReal := ((k : ℝ) : EReal)

theorem num_word (k : ℕ) (h : k < 128) : FloatOps.sitofp (F := Ideal) FTy.f32 (BitVec.ofNat 32 k) = num k := by
  show ((((BitVec.ofNat 32 k).toInt : ℤ) : ℝ) : EReal) = num k
  rw [BitVec.toInt_eq_toNat_of_lt (by rw [BitVec.toNat_ofNat]; omega), BitVec.toNat_ofNat, Nat.mod_eq_of_lt (by omega)]
  simp [num]

theorem num_lt {a b : ℕ} : num a < num b ↔ a < b := by simp [num]
theorem num_le {a b : ℕ} : num a ≤ num b ↔ a ≤ b := by simp [num]
theorem num_inj {a b : ℕ} : num a = num b ↔ a = b := by simp [num]
theorem num_add (a b : ℕ) : num a + num b = num (a + b) := by simp [num]
theorem num_mul (a b : ℕ) : num a * num b = num (a * b) := by simp [num]
theorem four_num : ((4 : ℝ) : EReal) = num 4 := by simp [num]
theorem eight_num : ((8 : ℝ) : EReal) = num 8 := by simp [num]
theorem sixteen_num : ((16 : ℝ) : EReal) = num 16 := by simp [num]

/-- The number is finite, and above what is put in the place of the others. -/
def Fine (x : EReal) : Prop := low < x ∧ x < ⊤

theorem Fine.coe {x : EReal} (h : Fine x) : ∃ r : ℝ, x = r := by
  induction x with
  | bot => exact absurd h.1 (by simp)
  | top => exact absurd h.2 (lt_irrefl _)
  | coe r => exact ⟨r, rfl⟩

/-! The experts' weights of one row: `L` the groups' scores, `E` the experts', `p` the group, `a` and `b` its two experts. -/

def total (L : Fin 4 → EReal) (p : Fin 4) : EReal := ∑ g, Ideal.exp (L g - L p)
def ratio (E : Fin 4 → Fin 4 → EReal) (p a b : Fin 4) : EReal := Ideal.exp (E p b - E p a)
def top (L : Fin 4 → EReal) (E : Fin 4 → Fin 4 → EReal) (p a b : Fin 4) : EReal := Ideal.div (Ideal.div 1 (total L p)) (1 + ratio E p a b)
def weight (L : Fin 4 → EReal) (E : Fin 4 → Fin 4 → EReal) (p a b : Fin 4) (e : Fin 16) : EReal :=
  (if e.val = 4 * p.val + a.val then top L E p a b else 0) + (if e.val = 4 * p.val + b.val then top L E p a b * ratio E p a b else 0)

/-- A group's share by the softmax. -/
def share (L : Fin 4 → EReal) (p g : Fin 4) : EReal := Ideal.div (Ideal.exp (L g - L p)) (total L p)

theorem exp_sub_coe (a b : ℝ) : Ideal.exp ((a : EReal) - (b : EReal)) = ((Real.exp (a - b) : ℝ) : EReal) := by
  rw [← EReal.coe_sub]; rfl

theorem total_coe (L : Fin 4 → EReal) (hL : ∀ g, Fine (L g)) (p : Fin 4) : ∃ S : ℝ, 0 < S ∧ total L p = (S : EReal) := by
  choose l hl using fun g => (hL g).coe
  refine ⟨∑ g, Real.exp (l g - l p), Finset.sum_pos (fun g _ => Real.exp_pos _) Finset.univ_nonempty, ?_⟩
  unfold total
  rw [Fin.sum_univ_four, Fin.sum_univ_four]
  simp only [hl, exp_sub_coe, EReal.coe_add]

theorem share_lt (L : Fin 4 → EReal) (hL : ∀ g, Fine (L g)) (p : Fin 4) (a b : Fin 4) : share L p a < share L p b ↔ L a < L b := by
  obtain ⟨S, hS, e⟩ := total_coe L hL p
  choose l hl using fun g => (hL g).coe
  unfold share
  rw [e, hl a, hl b, hl p, exp_sub_coe, exp_sub_coe, Ideal.div_coe hS.ne', Ideal.div_coe hS.ne', ← EReal.coe_mul, ← EReal.coe_mul, EReal.coe_lt_coe_iff, EReal.coe_lt_coe_iff,
    mul_lt_mul_iff_left₀ (by positivity), Real.exp_lt_exp]
  constructor <;> intro h <;> linarith

theorem lead_of_share (L : Fin 4 → EReal) (hL : ∀ g, Fine (L g)) (p q : Fin 4) (h : Lead (share L p) q) : Lead L q := by
  intro k hk
  rcases h k hk with h | ⟨h, h'⟩
  · exact Or.inl ((share_lt L hL p _ _).mp h)
  · refine Or.inr ⟨le_antisymm ?_ ?_, h'⟩
    · exact not_lt.mp fun c => absurd h ((share_lt L hL p _ _).mpr c).ne'
    · exact not_lt.mp fun c => absurd h ((share_lt L hL p _ _).mpr c).ne

theorem share_self (L : Fin 4 → EReal) (hL : ∀ g, Fine (L g)) (p : Fin 4) : share L p p = Ideal.div 1 (total L p) := by
  obtain ⟨l, hl⟩ := (hL p).coe
  unfold share
  rw [hl, exp_sub_coe, sub_self, Real.exp_zero]; rfl

/-- The two weights as the softmax of the two greatest, times the group's share. -/
theorem top_eq (L : Fin 4 → EReal) (E : Fin 4 → Fin 4 → EReal) (hL : ∀ g, Fine (L g)) (hE : ∀ g k, Fine (E g k)) (p a b : Fin 4) :
    Ideal.div (Ideal.exp (E p a - E p a)) (Ideal.exp (E p a - E p a) + ratio E p a b) * share L p p = top L E p a b := by
  obtain ⟨S, hS, e⟩ := total_coe L hL p
  obtain ⟨x, hx⟩ := (hE p a).coe
  obtain ⟨y, hy⟩ := (hE p b).coe
  have hr : ratio E p a b = ((Real.exp (y - x) : ℝ) : EReal) := by unfold ratio; rw [hx, hy, exp_sub_coe]
  have h1 : (1 : EReal) = ((1 : ℝ) : EReal) := rfl
  have hp : (0 : ℝ) < 1 + Real.exp (y - x) := by positivity
  unfold top
  rw [share_self L hL p, hr, hx, exp_sub_coe, sub_self, Real.exp_zero, e, h1, ← EReal.coe_add, Ideal.div_coe hS.ne', Ideal.div_coe hp.ne', Ideal.div_coe hp.ne']
  simp only [← EReal.coe_mul]
  congr 1
  ring

theorem second_eq (L : Fin 4 → EReal) (E : Fin 4 → Fin 4 → EReal) (hL : ∀ g, Fine (L g)) (hE : ∀ g k, Fine (E g k)) (p a b : Fin 4) :
    Ideal.div (ratio E p a b) (Ideal.exp (E p a - E p a) + ratio E p a b) * share L p p = top L E p a b * ratio E p a b := by
  obtain ⟨S, hS, e⟩ := total_coe L hL p
  obtain ⟨x, hx⟩ := (hE p a).coe
  obtain ⟨y, hy⟩ := (hE p b).coe
  have hr : ratio E p a b = ((Real.exp (y - x) : ℝ) : EReal) := by unfold ratio; rw [hx, hy, exp_sub_coe]
  have h1 : (1 : EReal) = ((1 : ℝ) : EReal) := rfl
  have hp : (0 : ℝ) < 1 + Real.exp (y - x) := by positivity
  unfold top
  rw [share_self L hL p, hr, hx, exp_sub_coe, sub_self, Real.exp_zero, e, h1, ← EReal.coe_add, Ideal.div_coe hS.ne', Ideal.div_coe hp.ne', Ideal.div_coe hp.ne']
  simp only [← EReal.coe_mul]
  congr 1
  ring

/-! The greatest of eight numbers of which four are the groups' scores, and the two greatest of sixteen of which four are the chosen group's. -/

theorem Second.le {n : ℕ} {f : Fin n → EReal} {p q : Fin n} (h : Second f p q) (k : Fin n) (hk : k ≠ p) : f k ≤ f q := by
  by_cases e : k = q
  · rw [e]
  · exact (h.2 k hk e).le

theorem Second.first {n : ℕ} {f : Fin n → EReal} {p q : Fin n} (h : Second f p q) (k : Fin n) (hk : k ≠ p) (e : f k = f q) : q ≤ k := by
  by_cases e' : k = q
  · rw [e']
  · rcases h.2 k hk e' with h | h
    · exact absurd e h.ne
    · exact h.2.le

/-- The group's scores, and the low number behind them. -/
def padded (L : Fin 4 → EReal) (k : Fin 8) : EReal := if h : k.val < 4 then L ⟨k.val, h⟩ else low

theorem padded_at (L : Fin 4 → EReal) (p : Fin 4) : padded L ⟨p.val, by omega⟩ = L p := by
  unfold padded; rw [dif_pos p.isLt]

theorem padded_max (L : Fin 4 → EReal) (hL : ∀ g, Fine (L g)) (p : Fin 4) (h : Lead L p) : Finset.fold max ⊥ (padded L) Finset.univ = L p := by
  rw [fold_max (padded L) ⟨p.val, by omega⟩ fun k => ?_, padded_at]
  rw [padded_at]
  unfold padded
  split
  · exact h.le _
  · exact (hL p).1.le

theorem padded_min (L : Fin 4 → EReal) (p : Fin 4) (h : Lead L p) :
    Finset.fold min ⊤ (fun k : Fin 8 => if padded L k = L p then num k.val else num 8) Finset.univ = num p.val := by
  rw [fold_min _ (⟨p.val, by omega⟩ : Fin 8) fun k => ?_]
  · rw [if_pos (padded_at L p)]
  · rw [if_pos (padded_at L p)]
    split
    · rename_i e
      rw [num_le]
      by_cases hk : k.val < 4
      · unfold padded at e
        rw [dif_pos hk] at e
        exact h.first ⟨k.val, hk⟩ e
      · have := p.isLt
        show p.val ≤ k.val
        omega
    · rw [num_le]
      have := p.isLt
      show p.val ≤ 8
      omega

/-- The place of group `p`'s expert `q`. -/
def at16 (p q : Fin 4) : Fin 16 := ⟨4 * p.val + q.val, by omega⟩

theorem at16_ne {p a b : Fin 4} (h : b ≠ a) : at16 p b ≠ at16 p a := fun e => h (Fin.ext (by have := congrArg Fin.val e; simp only [at16] at this; omega))

theorem in_group (p : Fin 4) (k : Fin 16) : (∃ q, k = at16 p q) ∨ ¬(4 * p.val ≤ k.val ∧ k.val < 4 * p.val + 4) := by
  by_cases h : 4 * p.val ≤ k.val ∧ k.val < 4 * p.val + 4
  · exact Or.inl ⟨⟨k.val - 4 * p.val, by omega⟩, Fin.ext (by show k.val = 4 * p.val + (k.val - 4 * p.val); omega)⟩
  · exact Or.inr h

/-- The chosen group's scores, and the low number at the other places. -/
structure Holds (G : Fin 16 → EReal) (E : Fin 4 → EReal) (p : Fin 4) : Prop where
  inside : ∀ q, G (at16 p q) = E q
  outside : ∀ k : Fin 16, ¬(4 * p.val ≤ k.val ∧ k.val < 4 * p.val + 4) → G k = low

theorem group_max {G : Fin 16 → EReal} {E : Fin 4 → EReal} {p : Fin 4} (hG : Holds G E p) (hE : ∀ q, Fine (E q)) (a : Fin 4) (h : Lead E a) :
    Finset.fold max ⊥ G Finset.univ = E a := by
  rw [fold_max G (at16 p a) fun k => ?_, hG.inside]
  rw [hG.inside]
  rcases in_group p k with ⟨q, rfl⟩ | ho
  · rw [hG.inside]; exact h.le q
  · rw [hG.outside k ho]; exact (hE a).1.le

theorem group_min {G : Fin 16 → EReal} {E : Fin 4 → EReal} {p : Fin 4} (hG : Holds G E p) (hE : ∀ q, Fine (E q)) (a : Fin 4) (h : Lead E a) :
    Finset.fold min ⊤ (fun k : Fin 16 => if G k = E a then num k.val else num 16) Finset.univ = num (4 * p.val + a.val) := by
  rw [fold_min _ (at16 p a) fun k => ?_]
  · rw [if_pos (hG.inside a)]; rfl
  · rw [if_pos (hG.inside a)]
    split
    · rename_i e
      rw [num_le]
      rcases in_group p k with ⟨q, rfl⟩ | ho
      · rw [hG.inside] at e
        have := h.first q e
        rw [Fin.le_def] at this
        simp only [at16]; omega
      · rw [hG.outside k ho] at e
        exact absurd e (hE a).1.ne
    · rw [num_le]; exact (at16 p a).isLt.le

/-- The scores with the greatest's place made low. -/
def without (G : Fin 16 → EReal) (p a : Fin 4) (k : Fin 16) : EReal := if num k.val = num (4 * p.val + a.val) then low else G k

theorem without_at {G : Fin 16 → EReal} {E : Fin 4 → EReal} {p : Fin 4} (hG : Holds G E p) {a q : Fin 4} (h : q ≠ a) : without G p a (at16 p q) = E q := by
  unfold without
  rw [if_neg, hG.inside]
  rw [num_inj]
  intro e
  exact h (Fin.ext (by simp only [at16] at e; omega))

theorem without_self {G : Fin 16 → EReal} {p a : Fin 4} : without G p a (at16 p a) = low := by
  unfold without
  exact if_pos rfl

theorem without_out {G : Fin 16 → EReal} {E : Fin 4 → EReal} {p : Fin 4} (hG : Holds G E p) {a : Fin 4} {k : Fin 16} (h : ¬(4 * p.val ≤ k.val ∧ k.val < 4 * p.val + 4)) :
    without G p a k = low := by
  unfold without
  rw [hG.outside k h, ite_self]

theorem second_max {G : Fin 16 → EReal} {E : Fin 4 → EReal} {p : Fin 4} (hG : Holds G E p) (hE : ∀ q, Fine (E q)) (a b : Fin 4) (h : Second E a b) :
    Finset.fold max ⊥ (without G p a) Finset.univ = E b := by
  rw [fold_max (without G p a) (at16 p b) fun k => ?_, without_at hG h.1]
  rw [without_at hG h.1]
  rcases in_group p k with ⟨q, rfl⟩ | ho
  · by_cases e : q = a
    · rw [e, without_self]; exact (hE b).1.le
    · rw [without_at hG e]; exact h.le q e
  · rw [without_out hG ho]; exact (hE b).1.le

theorem second_min {G : Fin 16 → EReal} {E : Fin 4 → EReal} {p : Fin 4} (hG : Holds G E p) (hE : ∀ q, Fine (E q)) (a b : Fin 4) (h : Second E a b) (c : Fin 16 → EReal)
    (hc : ∀ k, c k = if without G p a k = E b ∧ (4 * p.val ≤ k.val ∧ k.val < 4 * p.val + 4) ∧ num k.val ≠ num (4 * p.val + a.val) then num k.val else num 16) :
    Finset.fold min ⊤ c Finset.univ = num (4 * p.val + b.val) := by
  have hb : c (at16 p b) = num (4 * p.val + b.val) := by
    rw [hc, if_pos]
    · rfl
    · refine ⟨without_at hG h.1, by simp only [at16]; omega, ?_⟩
      rw [Ne, num_inj]
      intro e
      exact h.1 (Fin.ext (by simp only [at16] at e; omega))
  rw [fold_min c (at16 p b) fun k => ?_, hb]
  rw [hb, hc k]
  split
  · rename_i e
    rw [num_le]
    rcases in_group p k with ⟨q, rfl⟩ | ho
    · have hq : q ≠ a := fun e' => e.2.2 (by rw [e']; rfl)
      rw [without_at hG hq] at e
      have := h.first q hq e.1
      rw [Fin.le_def] at this
      simp only [at16]; omega
    · exact absurd e.2.1 ho
  · rw [num_le]; exact (at16 p b).isLt.le

end Cert.Route

end
-- ==== Proof.MoeRefMath.lean ====
/- The reference: its sort, its gather, its running greatest and its sum over experts, each read at a place. -/
module

public import proofs.«01_k».proof.Proof.Gen.MoeRefIdeal.Read
public import proofs.«01_k».proof.Proof.MoeRoute
public import Idealize.ShloMosaic.Lib.TwoAxisContraction
@[expose] public section
set_option maxRecDepth 16384
noncomputable section
namespace Cert.MoeRefIdeal.Mix
open Cert.MoeRefIdeal Cert.MoeRefIdeal.Gen Cert.Route Idealize.ShloMosaic Idealize.ShloMosaic.TcCoe Idealize.SL.Sem

/-- The comparison of the sort along a row. -/
def gtRow (x : FVec Ideal S512x4 .f32) (r : Fin 512) (k k' : Fin 4) : Bool := FloatOps.cmpfTotal (F := Ideal) .gt (x (ix2 r k)) (x (ix2 r k')) == 1#1

theorem gtRow_iff (x : FVec Ideal S512x4 .f32) (r : Fin 512) (k k' : Fin 4) : gtRow x r k k' = true ↔ x (ix2 r k') < x (ix2 r k) := by
  show (BitVec.ofBool (decide (x (ix2 r k') < x (ix2 r k))) == 1#1) = true ↔ _
  by_cases h : x (ix2 r k') < x (ix2 r k) <;> simp [h]

theorem along_row (j : S512x4.Idx) (k : Fin 4) : j.along (1 : Fin 2) k = ix2 (j 0) k := by
  funext a
  match a with
  | ⟨0, _⟩ => rfl
  | ⟨1, _⟩ => rfl

theorem sort_row (x : FVec Ideal S512x4 .f32) (y : IVec S512x4 32) (j : S512x4.Idx) :
    (Host.sort2 S512x4 1 (fun l r => FloatOps.cmpfTotal (F := Ideal) (φ := .f32) .gt l.1 r.1) x y).1 j = x (ix2 (j 0) (sortedFrom (gtRow x (j 0)) (j 1)))
    ∧ (Host.sort2 S512x4 1 (fun l r => FloatOps.cmpfTotal (F := Ideal) (φ := .f32) .gt l.1 r.1) x y).2 j = y (ix2 (j 0) (sortedFrom (gtRow x (j 0)) (j 1))) := by
  have hs : (sortedFrom (fun k k' => FloatOps.cmpfTotal (F := Ideal) (φ := .f32) .gt (x (j.along (1 : Fin 2) k)) (x (j.along (1 : Fin 2) k')) == 1#1) (j 1) : Fin 4)
      = sortedFrom (gtRow x (j 0)) (j 1) := by
    refine congrArg (fun R => sortedFrom R (j 1)) ?_
    funext k k'
    rw [along_row, along_row]
    rfl
  constructor
  · exact (congrArg (fun k => x (j.along (1 : Fin 2) k)) hs).trans (congrArg x (along_row _ _))
  · exact (congrArg (fun k => y (j.along (1 : Fin 2) k)) hs).trans (congrArg y (along_row _ _))

theorem top1 (x : FVec Ideal S512x4 .f32) (h) (r : Fin 512) :
    (Host.topK S512x1 1 (FloatOps.cmpfTotal (F := Ideal) (φ := .f32) .gt) x h).1 (ix2 r 0) = x (ix2 r (sortedFrom (gtRow x r) 0))
    ∧ (Host.topK S512x1 1 (FloatOps.cmpfTotal (F := Ideal) (φ := .f32) .gt) x h).2 (ix2 r 0) = BitVec.ofNat 32 (sortedFrom (gtRow x r) 0).val := by
  have e : (fun a => ⟨0 + ((ix2 r 0 : S512x1.Idx) (a.cast h.1.symm)).val, Nat.lt_of_lt_of_le (Nat.add_lt_add_left ((ix2 r 0 : S512x1.Idx) _).isLt _) (h.2 a)⟩ : S512x4.Idx) = ix2 r 0 := by
    funext a
    match a with
    | ⟨0, _⟩ => exact Fin.ext (Nat.zero_add _)
    | ⟨1, _⟩ => exact Fin.ext (Nat.zero_add _)
  unfold Host.topK extractStridedSlice
  exact ⟨(congrArg (Host.sort2 S512x4 1 (fun l r => FloatOps.cmpfTotal (F := Ideal) (φ := .f32) .gt l.1 r.1) x (fun i => if hd : 1 < S512x4.rank then iotaInDim S512x4 32 ⟨1, hd⟩ i else 0#32)).1 e).trans (sort_row x _ (ix2 r 0)).1,
    (congrArg (Host.sort2 S512x4 1 (fun l r => FloatOps.cmpfTotal (F := Ideal) (φ := .f32) .gt l.1 r.1) x (fun i => if hd : 1 < S512x4.rank then iotaInDim S512x4 32 ⟨1, hd⟩ i else 0#32)).2 e).trans (sort_row x (fun i => if hd : 1 < S512x4.rank then iotaInDim S512x4 32 ⟨1, hd⟩ i else 0#32) (ix2 r 0)).2⟩

theorem top2 (x : FVec Ideal S512x4 .f32) (h) (r : Fin 512) (k : Fin 2) :
    (Host.topK S512x2 1 (FloatOps.cmpfTotal (F := Ideal) (φ := .f32) .gt) x h).1 (ix2 r k) = x (ix2 r (sortedFrom (gtRow x r) ⟨k.val, by omega⟩))
    ∧ (Host.topK S512x2 1 (FloatOps.cmpfTotal (F := Ideal) (φ := .f32) .gt) x h).2 (ix2 r k) = BitVec.ofNat 32 (sortedFrom (gtRow x r) ⟨k.val, by omega⟩).val := by
  have e : (fun a => ⟨0 + ((ix2 r k : S512x2.Idx) (a.cast h.1.symm)).val, Nat.lt_of_lt_of_le (Nat.add_lt_add_left ((ix2 r k : S512x2.Idx) _).isLt _) (h.2 a)⟩ : S512x4.Idx) = ix2 r ⟨k.val, by omega⟩ := by
    funext a
    match a with
    | ⟨0, _⟩ => exact Fin.ext (Nat.zero_add _)
    | ⟨1, _⟩ => exact Fin.ext (Nat.zero_add _)
  unfold Host.topK extractStridedSlice
  exact ⟨(congrArg (Host.sort2 S512x4 1 (fun l r => FloatOps.cmpfTotal (F := Ideal) (φ := .f32) .gt l.1 r.1) x (fun i => if hd : 1 < S512x4.rank then iotaInDim S512x4 32 ⟨1, hd⟩ i else 0#32)).1 e).trans (sort_row x _ (ix2 r ⟨k.val, by omega⟩)).1,
    (congrArg (Host.sort2 S512x4 1 (fun l r => FloatOps.cmpfTotal (F := Ideal) (φ := .f32) .gt l.1 r.1) x (fun i => if hd : 1 < S512x4.rank then iotaInDim S512x4 32 ⟨1, hd⟩ i else 0#32)).2 e).trans (sort_row x (fun i => if hd : 1 < S512x4.rank then iotaInDim S512x4 32 ⟨1, hd⟩ i else 0#32) (ix2 r ⟨k.val, by omega⟩)).2⟩

theorem word_nat (k : ℕ) (h : k < 2 ^ 31) : (BitVec.ofNat 32 k).toInt.toNat = k := by
  rw [BitVec.toInt_eq_toNat_of_lt (by rw [BitVec.toNat_ofNat]; omega), BitVec.toNat_ofNat, Nat.mod_eq_of_lt (by omega)]
  rfl

theorem gather_row (x : FVec Ideal S512x4x4 .f32) (idx : IVec S512x2 32) (r : Fin 512) (q p : Fin 4) (h0 : idx (ix2 r (0 : Fin 2)) = BitVec.ofNat 32 r.val)
    (h1 : idx (ix2 r (1 : Fin 2)) = BitVec.ofNat 32 p.val) :
    Host.gather gather_S512x4x4_S512x2_S512x4_1_01_n_n_01_1_114 x idx (ix2 r q) = x (ix3 r p q) := by
  unfold Host.gather
  refine congrArg x ?_
  have hs : ∀ (k : ℕ) (hk : k < 2), (gather_S512x4x4_S512x2_S512x4_1_01_n_n_01_1_114).siIdx (ix2 r q) ⟨k, hk⟩ = ix2 r ⟨k, hk⟩ := by
    intro k hk
    funext b
    match b with
    | ⟨0, _⟩ => rfl
    | ⟨1, _⟩ => rfl
  funext a
  refine Fin.ext ?_
  show (gather_S512x4x4_S512x2_S512x4_1_01_n_n_01_1_114).start (ix2 r q) idx a + (gather_S512x4x4_S512x2_S512x4_1_01_n_n_01_1_114).batchCoord (ix2 r q) a
      + (gather_S512x4x4_S512x2_S512x4_1_01_n_n_01_1_114).offCoord (ix2 r q) a = _
  rw [GatherDims.batchCoord_eq_zero _ _ _ List.not_mem_nil, Nat.add_zero]
  have h3 : a = (0 : Fin 3) ∨ a = (1 : Fin 3) ∨ a = (2 : Fin 3) := by
    revert a; decide
  rcases h3 with rfl | rfl | rfl
  · rw [GatherDims.offCoord_eq_zero _ _ _ (by decide), Nat.add_zero]
    unfold GatherDims.start
    rw [dif_pos (show (0 : Fin 3) ∈ (gather_S512x4x4_S512x2_S512x4_1_01_n_n_01_1_114).startIndexMap by decide)]
    refine (congrArg (fun i => min (idx i).toInt.toNat 511) (hs 0 (by omega))).trans ?_
    show min (idx (ix2 r (0 : Fin 2))).toInt.toNat 511 = r.val
    rw [h0, word_nat _ (by omega)]
    omega
  · rw [GatherDims.offCoord_eq_zero _ _ _ (by decide), Nat.add_zero]
    unfold GatherDims.start
    rw [dif_pos (show (1 : Fin 3) ∈ (gather_S512x4x4_S512x2_S512x4_1_01_n_n_01_1_114).startIndexMap by decide)]
    refine (congrArg (fun i => min (idx i).toInt.toNat 3) (hs 1 (by omega))).trans ?_
    show min (idx (ix2 r (1 : Fin 2))).toInt.toNat 3 = p.val
    rw [h1, word_nat _ (by omega)]
    omega
  · unfold GatherDims.start
    rw [dif_neg (show (2 : Fin 3) ∉ (gather_S512x4x4_S512x2_S512x4_1_01_n_n_01_1_114).startIndexMap by decide), Nat.zero_add]
    rfl

theorem concat_0 (a b : IVec S512x1 32) (h) (r : Fin 512) : concatenate S512x2 1 [⟨S512x1, a⟩, ⟨S512x1, b⟩] h (ix2 r (0 : Fin 2)) = a (ix2 r 0) := by
  pointwise []
theorem concat_1 (a b : IVec S512x1 32) (h) (r : Fin 512) : concatenate S512x2 1 [⟨S512x1, a⟩, ⟨S512x1, b⟩] h (ix2 r (1 : Fin 2)) = b (ix2 r 0) := by
  pointwise []

theorem u87 (h : FVec Ideal S512x16x512 .f32) (w : FVec Ideal S16x512x1024 .f32) (r : Fin 512) (j : Fin 1024) :
    Host.dotGeneral dot_S512x16x512_S16x512x1024_S512x1024_12_01_0_2_n_n none h w (ix2 r j) = ∑ e : Fin 16, ∑ f : Fin 512, h (ix3 r e f) * w (ix3 e f j) := by
  simp only [Host.dotGeneral]
  rw [Ideal.dotGeneral_apply, ValueIdx.sum_contr2 dot_S512x16x512_S16x512x1024_S512x1024_12_01_0_2_n_n 16 512 rfl rfl rfl]
  refine Finset.sum_congr rfl fun e _ => Finset.sum_congr rfl fun f _ => ?_
  refine congrArg₂ (· * ·) (congrArg h ?_) (congrArg w ?_)
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

theorem max4 (x : FVec Ideal S512x4 .f32) (c : FVec Ideal S_ .f32) (hc : ∀ i, c i = ⊥) (r : Fin 512) :
    Host.reduce FloatOps.maximumf x c reducesTo_S512x4_S512_d1 h_S_ (ix1 r) = Finset.fold max ⊥ (fun k : Fin 4 => x (ix2 r k)) Finset.univ := by
  have h : S512x4.Reduces [1] S512 := by decide
  refine (Host.reduce_eq_fold_single (max : EReal → EReal → EReal) x c reducesTo_S512x4_S512_d1 h h_S_ (ix1 r)).trans ?_
  rw [hc]
  refine Finset.fold_congr fun k _ => congrArg x ?_
  funext a
  match a with
  | ⟨0, _⟩ => rfl
  | ⟨1, _⟩ => rfl
theorem max2 (x : FVec Ideal S512x2 .f32) (c : FVec Ideal S_ .f32) (hc : ∀ i, c i = ⊥) (r : Fin 512) :
    Host.reduce FloatOps.maximumf x c reducesTo_S512x2_S512_d1 h_S_ (ix1 r) = Finset.fold max ⊥ (fun k : Fin 2 => x (ix2 r k)) Finset.univ := by
  have h : S512x2.Reduces [1] S512 := by decide
  refine (Host.reduce_eq_fold_single (max : EReal → EReal → EReal) x c reducesTo_S512x2_S512_d1 h h_S_ (ix1 r)).trans ?_
  rw [hc]
  refine Finset.fold_congr fun k _ => congrArg x ?_
  funext a
  match a with
  | ⟨0, _⟩ => rfl
  | ⟨1, _⟩ => rfl
end Cert.MoeRefIdeal.Mix
-- ==== Proof.MoeRefRoute.lean ====
/- The routing of the reference's expert layer: the weight of one row's expert. -/
module

public import proofs.«01_k».proof.Proof.MoeRefMath

@[expose] public section

set_option maxRecDepth 16384

noncomputable section

namespace Cert.MoeRefIdeal.Mix

open Cert.MoeRefIdeal Cert.MoeRefIdeal.Gen Cert.MoeRefIdeal.Read Cert.Route Idealize.ShloMosaic Idealize.ShloMosaic.TcCoe Idealize.SL.Sem

theorem lead_unique {n : ℕ} {f : Fin n → EReal} {p q : Fin n} (hp : Lead f p) (hq : Lead f q) : p = q := by
  by_contra h
  rcases hp q (Ne.symm h) with h1 | h1 <;> rcases hq p h with h2 | h2
  · exact absurd (h1.trans h2) (lt_irrefl _)
  · exact absurd h2.1 h1.ne'
  · exact absurd h1.1 h2.ne'
  · exact absurd (h1.2.trans h2.2) (lt_irrefl _)

theorem word_expert (p q : Fin 4) (e : Fin 16) : IntOp.cmpi CmpIPredicate.eq (IntOp.addi (IntOp.muli (BitVec.ofNat 32 p.val) 4#32) (BitVec.ofNat 32 q.val)) (BitVec.ofNat 32 e.val)
    = BitVec.ofBool (decide (e.val = 4 * p.val + q.val)) := by
  revert p q e
  decide +kernel

theorem one_of_bit : FloatOps.uitofp (F := Ideal) FTy.f32 (BitVec.ofBool true) = (1 : EReal) := by
  show ((((BitVec.ofBool true).toNat : ℕ) : ℝ) : EReal) = 1
  simp
theorem zero_of_bit : FloatOps.uitofp (F := Ideal) FTy.f32 (BitVec.ofBool false) = (0 : EReal) := by
  show ((((BitVec.ofBool false).toNat : ℕ) : ℝ) : EReal) = 0
  simp

variable (x0 : FVec Ideal S512x1024 .f32) (x1 : FVec Ideal S8x128x3072 .f32) (x2 : FVec Ideal S4x1024x4 .f32) (x3 : FVec Ideal S4x4 .f32)
  (x4 : FVec Ideal S4x1024x4x4 .f32) (x5 : FVec Ideal S4x4x4 .f32) (r : Fin 512)

/-- The row's scores. -/
def L (g : Fin 4) : EReal := val_main_v29 (F := Ideal) x0 x1 x2 x3 (ix2 r g)
def E (p q : Fin 4) : EReal := val_main_v44 (F := Ideal) x0 x1 x4 x5 (ix3 r p q)

/-- The group, and its two experts. -/
def group : Fin 4 := sortedFrom (gtRow (val_main_v29 (F := Ideal) x0 x1 x2 x3) r) 0
def row60 : FVec Ideal S512x4 .f32 := fun i => val_main_v44 (F := Ideal) x0 x1 x4 x5 (ix3 (i 0) (group x0 x1 x2 x3 (i 0)) (i 1))
def expert (k : Fin 4) : Fin 4 := sortedFrom (gtRow (row60 x0 x1 x2 x3 x4 x5) r) k

theorem group_lead : Lead (L x0 x1 x2 x3 r) (group x0 x1 x2 x3 r) := sorted_lead (L x0 x1 x2 x3 r) _ fun a b => gtRow_iff _ r a b
theorem expert_lead : Lead (E x0 x1 x4 x5 r (group x0 x1 x2 x3 r)) (expert x0 x1 x2 x3 x4 x5 r 0) :=
  sorted_lead (E x0 x1 x4 x5 r (group x0 x1 x2 x3 r)) _ fun a b => gtRow_iff _ r a b
theorem expert_second : Second (E x0 x1 x4 x5 r (group x0 x1 x2 x3 r)) (expert x0 x1 x2 x3 x4 x5 r 0) (expert x0 x1 x2 x3 x4 x5 r 1) :=
  sorted_second (E x0 x1 x4 x5 r (group x0 x1 x2 x3 r)) _ fun a b => gtRow_iff _ r a b

theorem v32_at : val_main_v32 (F := Ideal) x0 x1 x2 x3 (ix1 r) = L x0 x1 x2 x3 r (group x0 x1 x2 x3 r) := by
  have h : val_main_v30 (F := Ideal) x0 x1 x2 x3 (ix1 r) = L x0 x1 x2 x3 r (group x0 x1 x2 x3 r) := by
    unfold val_main_v30
    refine (max4 _ (val_main_cst (F := Ideal)) (fun i => (val_main_cst_apply i).trans lit_bot) r).trans ?_
    exact fold_max (L x0 x1 x2 x3 r) _ (group_lead x0 x1 x2 x3 r).le
  pointwise [val_main_v32, val_main_v31, val_main_cst_0]
  rw [h, lit_bot]
  exact max_eq_right bot_le

theorem v36_at (g : Fin 4) : val_main_v36 (F := Ideal) x0 x1 x2 x3 (ix2 r g) = Ideal.exp (L x0 x1 x2 x3 r g - L x0 x1 x2 x3 r (group x0 x1 x2 x3 r)) := by
  pointwise [val_main_v36, val_main_v35, val_main_v34, val_main_v33]
  rw [v32_at]
  rfl

theorem v40_at (g : Fin 4) : val_main_v40 (F := Ideal) x0 x1 x2 x3 (ix2 r g) = share (L x0 x1 x2 x3 r) (group x0 x1 x2 x3 r) g := by
  pointwise [val_main_v40, val_main_v39, val_main_v38, val_main_v37, val_main_cst_1]
  simp only [v36_at]
  rfl

theorem v57_at : val_main_v57 (F := Ideal) (ix2 r 0) = BitVec.ofNat 32 r.val := by
  pointwise [val_main_v57, val_main_v51, val_main_v48, val_main_v45, val_main_v47, val_main_c, val_main_v50, val_main_v49, val_main_c_2]
  revert r
  decide +kernel

variable (hL : ∀ g, Fine (L x0 x1 x2 x3 r g))
include hL

theorem sorted_group : sortedFrom (gtRow (val_main_v40 (F := Ideal) x0 x1 x2 x3) r) 0 = group x0 x1 x2 x3 r := by
  refine lead_unique (lead_of_share (L x0 x1 x2 x3 r) hL (group x0 x1 x2 x3 r) _ (sorted_lead _ _ fun a b => ?_)) (group_lead x0 x1 x2 x3 r)
  rw [gtRow_iff, v40_at, v40_at]

theorem values_at : val_main_values (F := Ideal) x0 x1 x2 x3 (ix2 r 0) = share (L x0 x1 x2 x3 r) (group x0 x1 x2 x3 r) (group x0 x1 x2 x3 r) := by
  unfold val_main_values
  rw [(top1 _ _ r).1, sorted_group x0 x1 x2 x3 r hL, v40_at]

theorem indices_at : val_main_indices (F := Ideal) x0 x1 x2 x3 (ix2 r 0) = BitVec.ofNat 32 (group x0 x1 x2 x3 r).val := by
  unfold val_main_indices
  rw [(top1 _ _ r).2, sorted_group x0 x1 x2 x3 r hL]

theorem v58_at : val_main_v58 (F := Ideal) x0 x1 x2 x3 (ix2 r 0) = BitVec.ofNat 32 (group x0 x1 x2 x3 r).val := by
  pointwise [val_main_v58, val_main_v56, val_main_v53, val_main_v46, val_main_v52, val_main_c_3, val_main_v55, val_main_v54, val_main_c_4]
  rw [indices_at x0 x1 x2 x3 r hL]
  generalize group x0 x1 x2 x3 r = p
  revert p
  decide

theorem v60_at (q : Fin 4) : val_main_v60 (F := Ideal) x0 x1 x2 x3 x4 x5 (ix2 r q) = E x0 x1 x4 x5 r (group x0 x1 x2 x3 r) q := by
  unfold val_main_v60
  refine gather_row _ _ r q (group x0 x1 x2 x3 r) ?_ ?_
  · unfold val_main_v59
    rw [concat_0, v57_at r]
  · unfold val_main_v59
    rw [concat_1, v58_at x0 x1 x2 x3 r hL]

theorem sorted_expert : gtRow (val_main_v60 (F := Ideal) x0 x1 x2 x3 x4 x5) r = gtRow (row60 x0 x1 x2 x3 x4 x5) r := by
  funext k k'
  unfold gtRow
  rw [v60_at x0 x1 x2 x3 x4 x5 r hL, v60_at x0 x1 x2 x3 x4 x5 r hL]
  rfl

theorem values_5_at (k : Fin 2) : val_main_values_5 (F := Ideal) x0 x1 x2 x3 x4 x5 (ix2 r k)
    = E x0 x1 x4 x5 r (group x0 x1 x2 x3 r) (expert x0 x1 x2 x3 x4 x5 r ⟨k.val, by omega⟩) := by
  unfold val_main_values_5
  rw [(top2 _ _ r k).1, sorted_expert x0 x1 x2 x3 x4 x5 r hL, v60_at x0 x1 x2 x3 x4 x5 r hL]
  rfl

theorem indices_6_at (k : Fin 2) : val_main_indices_6 (F := Ideal) x0 x1 x2 x3 x4 x5 (ix2 r k) = BitVec.ofNat 32 (expert x0 x1 x2 x3 x4 x5 r ⟨k.val, by omega⟩).val := by
  unfold val_main_indices_6
  rw [(top2 _ _ r k).2, sorted_expert x0 x1 x2 x3 x4 x5 r hL]
  rfl

theorem v63_at : val_main_v63 (F := Ideal) x0 x1 x2 x3 x4 x5 (ix1 r) = E x0 x1 x4 x5 r (group x0 x1 x2 x3 r) (expert x0 x1 x2 x3 x4 x5 r 0) := by
  have h : val_main_v61 (F := Ideal) x0 x1 x2 x3 x4 x5 (ix1 r) = E x0 x1 x4 x5 r (group x0 x1 x2 x3 r) (expert x0 x1 x2 x3 x4 x5 r 0) := by
    unfold val_main_v61
    refine (max2 _ (val_main_cst_7 (F := Ideal)) (fun i => (val_main_cst_7_apply i).trans lit_bot) r).trans ?_
    simp only [values_5_at x0 x1 x2 x3 x4 x5 r hL]
    exact fold_max (fun k : Fin 2 => E x0 x1 x4 x5 r (group x0 x1 x2 x3 r) (expert x0 x1 x2 x3 x4 x5 r ⟨k.val, by omega⟩)) 0 fun k => (expert_lead x0 x1 x2 x3 x4 x5 r).le _
  pointwise [val_main_v63, val_main_v62, val_main_cst_8]
  rw [h, lit_bot]
  exact max_eq_right bot_le

theorem v67_at (k : Fin 2) : val_main_v67 (F := Ideal) x0 x1 x2 x3 x4 x5 (ix2 r k)
    = Ideal.exp (E x0 x1 x4 x5 r (group x0 x1 x2 x3 r) (expert x0 x1 x2 x3 x4 x5 r ⟨k.val, by omega⟩) - E x0 x1 x4 x5 r (group x0 x1 x2 x3 r) (expert x0 x1 x2 x3 x4 x5 r 0)) := by
  pointwise [val_main_v67, val_main_v66, val_main_v65, val_main_v64]
  rw [v63_at x0 x1 x2 x3 x4 x5 r hL, values_5_at x0 x1 x2 x3 x4 x5 r hL]

theorem v73_at (k : Fin 2) : val_main_v73 (F := Ideal) x0 x1 x2 x3 x4 x5 (ix2 r k)
    = Ideal.div (Ideal.exp (E x0 x1 x4 x5 r (group x0 x1 x2 x3 r) (expert x0 x1 x2 x3 x4 x5 r ⟨k.val, by omega⟩) - E x0 x1 x4 x5 r (group x0 x1 x2 x3 r) (expert x0 x1 x2 x3 x4 x5 r 0)))
      (Ideal.exp (E x0 x1 x4 x5 r (group x0 x1 x2 x3 r) (expert x0 x1 x2 x3 x4 x5 r 0) - E x0 x1 x4 x5 r (group x0 x1 x2 x3 r) (expert x0 x1 x2 x3 x4 x5 r 0))
        + ratio (E x0 x1 x4 x5 r) (group x0 x1 x2 x3 r) (expert x0 x1 x2 x3 x4 x5 r 0) (expert x0 x1 x2 x3 x4 x5 r 1))
      * share (L x0 x1 x2 x3 r) (group x0 x1 x2 x3 r) (group x0 x1 x2 x3 r) := by
  pointwise [val_main_v73, val_main_v71, val_main_v70, val_main_v69, val_main_v68, val_main_cst_9, val_main_v72]
  rw [values_at x0 x1 x2 x3 r hL]
  simp only [v67_at x0 x1 x2 x3 x4 x5 r hL]
  rw [Fin.sum_univ_two]
  rfl

theorem v78_at (k : Fin 2) (e : Fin 16) : val_main_v78 (F := Ideal) x0 x1 x2 x3 x4 x5 (ix3 r k e)
    = if e.val = 4 * (group x0 x1 x2 x3 r).val + (expert x0 x1 x2 x3 x4 x5 r ⟨k.val, by omega⟩).val then 1 else 0 := by
  pointwise [val_main_v78, val_main_call0_v4, val_main_call0_v3, val_main_call0_v2, val_main_call0_v1, val_main_call0_v0, val_main_v77, val_main_v76, val_main_v75, val_main_v74, val_main_c_10]
  rw [indices_at x0 x1 x2 x3 r hL, indices_6_at x0 x1 x2 x3 x4 x5 r hL]
  rw [word_expert]
  by_cases h : e.val = 4 * (group x0 x1 x2 x3 r).val + (expert x0 x1 x2 x3 x4 x5 r ⟨k.val, by omega⟩).val
  · rw [if_pos h, decide_eq_true h]; exact one_of_bit
  · rw [if_neg h, decide_eq_false h]; exact zero_of_bit

/-- The weight of the row's expert `e`. -/
theorem v79_at (hE : ∀ p q, Fine (E x0 x1 x4 x5 r p q)) (e : Fin 16) : val_main_v79 (F := Ideal) x0 x1 x2 x3 x4 x5 (ix2 r e)
    = weight (L x0 x1 x2 x3 r) (E x0 x1 x4 x5 r) (group x0 x1 x2 x3 r) (expert x0 x1 x2 x3 x4 x5 r 0) (expert x0 x1 x2 x3 x4 x5 r 1) e := by
  have h : val_main_v79 (F := Ideal) x0 x1 x2 x3 x4 x5 (ix2 r e)
      = ∑ k : Fin 2, val_main_v73 (F := Ideal) x0 x1 x2 x3 x4 x5 (ix2 r k) * val_main_v78 (F := Ideal) x0 x1 x2 x3 x4 x5 (ix3 r k e) := by
    rw [val_main_v79_apply]
    refine Finset.sum_congr rfl fun k _ => congrArg₂ (· * ·) (congrArg _ ?_) (congrArg _ ?_)
    · funext a
      match a with
      | ⟨0, _⟩ => rfl
      | ⟨1, _⟩ => rfl
    · funext a
      match a with
      | ⟨0, _⟩ => rfl
      | ⟨1, _⟩ => rfl
      | ⟨2, _⟩ => rfl
  rw [h, Fin.sum_univ_two, v73_at x0 x1 x2 x3 x4 x5 r hL, v73_at x0 x1 x2 x3 x4 x5 r hL, v78_at x0 x1 x2 x3 x4 x5 r hL, v78_at x0 x1 x2 x3 x4 x5 r hL]
  have e0 := top_eq (L x0 x1 x2 x3 r) (E x0 x1 x4 x5 r) hL hE (group x0 x1 x2 x3 r) (expert x0 x1 x2 x3 x4 x5 r 0) (expert x0 x1 x2 x3 x4 x5 r 1)
  have e1 := second_eq (L x0 x1 x2 x3 r) (E x0 x1 x4 x5 r) hL hE (group x0 x1 x2 x3 r) (expert x0 x1 x2 x3 x4 x5 r 0) (expert x0 x1 x2 x3 x4 x5 r 1)
  unfold weight
  refine congrArg₂ (· + ·) ?_ ?_
  · rw [mul_ite, mul_one, mul_zero]
    refine if_congr Iff.rfl e0 rfl
  · rw [mul_ite, mul_one, mul_zero]
    refine if_congr Iff.rfl e1 rfl

end Cert.MoeRefIdeal.Mix

end
-- ==== Proof.MoeRefValue.lean ====
/- The reference's expert layer, entry by entry. -/
module

public import proofs.«01_k».proof.Proof.MoeRefRoute

@[expose] public section

set_option maxRecDepth 16384

noncomputable section

namespace Cert.MoeRefIdeal.Mix

open Cert.MoeRefIdeal Cert.MoeRefIdeal.Gen Cert.MoeRefIdeal.Read Cert.Route Idealize.ShloMosaic Idealize.ShloMosaic.TcCoe Idealize.SL.Sem

/-- A row `z` normalized, at entry `j`. -/
def normed (z : Fin 1024 → EReal) (g b : EReal) (j : Fin 1024) : EReal :=
  (z j - Ideal.div (∑ x, z x) (Ideal.ofBits FTy.f32 1149239296#32)) *
    Ideal.rsqrt (Ideal.div (∑ x, (z x - Ideal.div (∑ x, z x) (Ideal.ofBits FTy.f32 1149239296#32)) * (z x - Ideal.div (∑ x, z x) (Ideal.ofBits FTy.f32 1149239296#32)))
      (Ideal.ofBits FTy.f32 1149239296#32) + Ideal.ofBits FTy.f32 925353388#32) * g + b

/-- What one expert, with weight `wt`, adds to an entry of a row `u`; `w1`, `w3` and `w2` are its weights, the last at the entry's column. -/
def given (u : Fin 1024 → EReal) (w1 w3 : Fin 1024 → Fin 512 → EReal) (w2 : Fin 512 → EReal) (wt : EReal) : EReal :=
  ∑ f, (((∑ k, u k * w1 k f) * Ideal.logistic (∑ k, u k * w1 k f) * ∑ k, u k * w3 k f) * wt) * w2 f

variable (x0 : FVec Ideal S512x1024 .f32) (x1 : FVec Ideal S8x128x3072 .f32) (x2 : FVec Ideal S4x1024x4 .f32) (x3 : FVec Ideal S4x4 .f32)
  (x4 : FVec Ideal S4x1024x4x4 .f32) (x5 : FVec Ideal S4x4x4 .f32) (x6 x7 : FVec Ideal S4x16x1024x512 .f32) (x8 : FVec Ideal S4x16x512x1024 .f32)
  (x9 x10 : FVec Ideal S4x2x1024 .f32) (r : Fin 512)

theorem v25_at (k : Fin 1024) : val_main_v25 (F := Ideal) x0 x1 (ix2 r k)
    = x0 (ix2 r k) * x1 (ix3 7 ⟨r.val % 128, by omega⟩ ⟨1024 + k.val, by omega⟩) + x1 (ix3 7 ⟨r.val % 128, by omega⟩ ⟨k.val, by omega⟩) := by
  pointwise [val_main_v25, val_main_v24, val_main_v23, val_main_v22, val_main_v21, val_main_v20, val_main_v18, val_main_v17, val_main_v16, val_main_v15, val_main_v14]

theorem L_at (g : Fin 4) : L x0 x1 x2 x3 r g = ∑ x, val_main_v25 (F := Ideal) x0 x1 (ix2 r x) * x2 (ix3 3 x g) + x3 (ix2 3 g) := by
  pointwise [L, val_main_v29, val_main_v28, val_main_v27, val_main_v26, val_main_v3, val_main_v2, val_main_v1, val_main_v0]

theorem E_at (p q : Fin 4) : E x0 x1 x4 x5 r p q = ∑ x, val_main_v25 (F := Ideal) x0 x1 (ix2 r x) * x4 (ix4 3 x p q) + x5 (ix3 3 p q) := by
  pointwise [E, val_main_v44, val_main_v43, val_main_v42, val_main_v41, val_main_v7, val_main_v6, val_main_v5, val_main_v4]

theorem v86_at (e : Fin 16) (f : Fin 512) : val_main_v86 (F := Ideal) x0 x1 x2 x3 x4 x5 x6 x7 (ix3 r e f)
    = ((∑ x, val_main_v25 (F := Ideal) x0 x1 (ix2 r x) * x6 (ix4 3 e x f)) * Ideal.logistic (∑ x, val_main_v25 (F := Ideal) x0 x1 (ix2 r x) * x6 (ix4 3 e x f)) *
        ∑ x, val_main_v25 (F := Ideal) x0 x1 (ix2 r x) * x7 (ix4 3 e x f)) * val_main_v79 (F := Ideal) x0 x1 x2 x3 x4 x5 (ix2 r e) := by
  pointwise [val_main_v86, val_main_v85, val_main_v84, val_main_v83, val_main_v82, val_main_v81, val_main_v80, val_main_call1_v5, val_main_call1_v4, val_main_call1_v3, val_main_call1_v2, val_main_call1_v1, val_main_call1_v0, val_main_v9, val_main_v8, val_main_v10, val_main_v11, val_main_call1_cst, val_main_call1_cst_0]
  rfl

theorem v87_at (j : Fin 1024) : val_main_v87 (F := Ideal) x0 x1 x2 x3 x4 x5 x6 x7 x8 (ix2 r j)
    = ∑ e : Fin 16, given (fun k => val_main_v25 (F := Ideal) x0 x1 (ix2 r k)) (fun k f => x6 (ix4 3 e k f)) (fun k f => x7 (ix4 3 e k f)) (fun f => x8 (ix4 3 e f j))
        (val_main_v79 (F := Ideal) x0 x1 x2 x3 x4 x5 (ix2 r e)) := by
  unfold val_main_v87
  rw [u87]
  refine Finset.sum_congr rfl fun e _ => ?_
  unfold given
  refine Finset.sum_congr rfl fun f _ => congrArg₂ (· * ·) (v86_at x0 x1 x2 x3 x4 x5 x6 x7 r e f) ?_
  pointwise [val_main_v13, val_main_v12]

theorem v120_at (j : Fin 1024) : val_main_v120 (F := Ideal) x0 x1 x2 x3 x4 x5 x6 x7 x8 x9 x10 (ix2 r j)
    = normed (fun j => Ideal.ofBits FTy.f32 1071072509#32 * x0 (ix2 r j) + x1 (ix3 7 ⟨r.val % 128, by omega⟩ ⟨2048 + j.val, by omega⟩) * val_main_v87 (F := Ideal) x0 x1 x2 x3 x4 x5 x6 x7 x8 (ix2 r j))
        (x9 (ix3 3 1 j)) (x10 (ix3 3 1 j)) j := by
  pointwise [val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_cst_11, val_main_cst_12, val_main_cst_13, val_main_cst_14, val_main_cst_15, val_main_cst_16, val_main_v20, val_main_v19, val_main_v16, val_main_v15, val_main_v14]
  rfl

theorem v121_at (e : Fin 16) (k : Fin 1024) (f : Fin 512) : val_main_v121 (F := Ideal) x6 (ix3 e k f) = x6 (ix4 3 e k f) := by
  pointwise [val_main_v121, val_main_v9, val_main_v8]
theorem v122_at (e : Fin 16) (k : Fin 1024) (f : Fin 512) : val_main_v122 (F := Ideal) x7 (ix3 e k f) = x7 (ix4 3 e k f) := by
  pointwise [val_main_v122, val_main_v11, val_main_v10]
theorem v123_at (e : Fin 16) (f : Fin 512) (j : Fin 1024) : val_main_v123 (F := Ideal) x8 (ix3 e f j) = x8 (ix4 3 e f j) := by
  pointwise [val_main_v123, val_main_v13, val_main_v12]

end Cert.MoeRefIdeal.Mix

end
-- ==== Proof.MoePre.lean ====
/- What the precondition says of the routing scores. -/
module

public import proofs.«01_k».proof.Proof.MoeRefValue
public import proofs.«01_k».proof.Pre_routable
public import Idealize.ShloMosaic.Lib.ReduceAll
public import Idealize.ShloMosaic.Lib.StableHlo.Predicate

@[expose] public section

set_option maxRecDepth 16384

noncomputable section

namespace Cert.MoeRefIdeal.Mix

open Cert.MoeRefIdeal Cert.MoeRefIdeal.Gen Cert.MoeRefIdeal.Read Cert.Route Idealize.ShloMosaic Idealize.ShloMosaic.TcCoe Idealize.SL.Sem

theorem both_bits {x y : BitVec 1} (h : IntOp.andi x y = 1#1) : x = 1#1 ∧ y = 1#1 := by
  revert x y; decide

theorem fine_of_bits {x : EReal} (h : IntOp.andi (FloatOps.cmpf (F := Ideal) (φ := .f32) .ogt x (FloatOps.ofBits (F := Ideal) FTy.f32 0xF149F2CA#32))
    (FloatOps.cmpf (F := Ideal) (φ := .f32) .olt x (FloatOps.ofBits (F := Ideal) FTy.f32 0x7F800000#32)) = 1#1) : Fine x := by
  obtain ⟨h0, h1⟩ := both_bits h
  have h0' : BitVec.ofBool (decide (low < x)) = 1#1 := h0
  have h1' : BitVec.ofBool (decide (x < Ideal.ofBits FTy.f32 2139095040#32)) = 1#1 := h1
  rw [StableHlo.Predicate.ofBool_eq_one_iff, decide_eq_true_eq] at h0' h1'
  rw [lit_top] at h1'
  exact ⟨h0', h1'⟩

/-- The precondition, read at the scores. -/
theorem fine_of [Cert.Pre_routable.Facts] (x0 : FVec Ideal S512x1024 .f32) (x1 : FVec Ideal S8x128x3072 .f32) (x2 : FVec Ideal S4x1024x4 .f32) (x3 : FVec Ideal S4x4 .f32)
    (x4 : FVec Ideal S4x1024x4x4 .f32) (x5 : FVec Ideal S4x4x4 .f32) (x6 x7 x8 x9 x10)
    (h : Cert.Pre_routable.fn (F := Ideal) x0 x1 x2 x3 x4 x5 x6 x7 x8 x9 x10 = fun _ => 1#1) :
    (∀ r g, Fine (L x0 x1 x2 x3 r g)) ∧ ∀ r p q, Fine (E x0 x1 x4 x5 r p q) := by
  haveI : Subsingleton Cert.Pre_routable.S_.Idx := ⟨fun p q => funext fun k => k.elim0⟩
  obtain ⟨hg, he⟩ := both_bits (congrFun h fun k => k.elim0)
  exact ⟨fun r g => fine_of_bits (Host.reduce_andi_all _ _ _ _ _ hg (ix2 r g)), fun r p q => fine_of_bits (Host.reduce_andi_all _ _ _ _ _ he (ix3 r p q))⟩

end Cert.MoeRefIdeal.Mix

end
-- ==== Proof.MoeSteps.lean ====
/- The dense expert layer of the sample: what its three scratch arrays and its four results hold after each point, in the body's own terms. -/
module

public import proofs.«01_k».proof.Proof.Gen.MoeIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MoeIdeal.Mix

open Cert.MoeIdeal Cert.MoeIdeal.Gen Idealize.ShloMosaic Idealize.ShloMosaic.TcCoe Idealize.SL.Sem
open Idealize.ShloMosaic.Pipeline (Dat)

/-! What the point's scratch holds. -/

variable (m : (ℓ : Loc nD τ sig) → Buf (Elt Ideal) ℓ)

/-- The bias column's block. -/
def biasCol (x3 : Vec Ideal S1x32x128 .f32) : Vec Ideal S1x32x1 .f32 := View.ld (Val := Elt Ideal) (e' := .f32) x3 (Rect.unit (s := S1x32x128) ![0, 0, 0] ![1, 32, 1] inb_S1x32x128_S1x32x1_0_0_0)

/-- The routing scores of a point's blocks, and the table of the experts' weights made from them. -/
def scores (x1 : FVec Ideal S1x128x3072 .f32) (x0 : FVec Ideal S512x1024 .f32) (x2 : FVec Ideal S1x32x1024 .bf16) (x3 : FVec Ideal S1x32x128 .f32) : FVec Ideal S32x512 .f32 :=
  k0_pay5 (F := Ideal) x1 x0 x2 (biasCol x3)
def table (x1 : FVec Ideal S1x128x3072 .f32) (x0 : FVec Ideal S512x1024 .f32) (x2 : FVec Ideal S1x32x1024 .bf16) (x3 : FVec Ideal S1x32x128 .f32) : FVec Ideal S512x128 .f32 :=
  k0_pay25 (F := Ideal) (k0_pay12 (F := Ideal))
    (k0_pay16 (F := Ideal) (scores x1 x0 x2 x3) (k0_pay10 (F := Ideal) x1 x0 x2 (biasCol x3)))
    (k0_pay19 (F := Ideal) (scores x1 x0 x2 x3) (k0_pay10 (F := Ideal) x1 x0 x2 (biasCol x3)))
    (k0_pay20 (F := Ideal) (scores x1 x0 x2 x3) (k0_pay10 (F := Ideal) x1 x0 x2 (biasCol x3)))
    (k0_pay21 (F := Ideal) (scores x1 x0 x2 x3) (k0_pay10 (F := Ideal) x1 x0 x2 (biasCol x3)) (k0_pay11 (F := Ideal) x1 x0 x2 (biasCol x3)))

/-- One expert's share added to the sum `a`. -/
def addShare (i : grid0.Coords) (u : FVec Ideal S512x1024 .bf16) (tb : FVec Ideal S512x128 .f32) (a : FVec Ideal S512x1024 .f32)
    (x4 x5 : FVec Ideal S1x1x1024x512 .f32) (x6 : FVec Ideal S1x1x512x1024 .f32) : FVec Ideal S512x1024 .f32 :=
  k0_pay1 (F := Ideal) u (k0_pay27 i) tb (FloatOps.ofBits (F := Ideal) FTy.f32 0#32) (k0_pay22 (F := Ideal) x4) (k0_pay23 (F := Ideal) x5) a (k0_pay24 (F := Ideal) x6)

theorem first_u (c : Dev nD) (t : Fin cfg0.N) (h0 : t.val % 16 = 0) (h1 : ¬t.val % 16 = 15) :
    (outsAt0 m c t.val t.isLt).2.2.2.2.1 = k0_pay4 (F := Ideal) (iblk m c 1 t) (iblk m c 0 t) := by
  rw [outsAt0_A m c t h0 h1]
  dsimp only
  frame_out

theorem first_table (c : Dev nD) (t : Fin cfg0.N) (h0 : t.val % 16 = 0) (h1 : ¬t.val % 16 = 15) :
    (outsAt0 m c t.val t.isLt).2.2.2.2.2.1 = table (iblk m c 1 t) (iblk m c 0 t) (iblk m c 2 t) (iblk m c 3 t) := by
  rw [outsAt0_A m c t h0 h1]
  dsimp only
  frame_out
  unfold table scores biasCol
  rfl

theorem first_sum (c : Dev nD) (t : Fin cfg0.N) (h0 : t.val % 16 = 0) (h1 : ¬t.val % 16 = 15) :
    (outsAt0 m c t.val t.isLt).2.2.2.2.2.2 = addShare (grid0.coords t) (k0_pay4 (F := Ideal) (iblk m c 1 t) (iblk m c 0 t))
      (table (iblk m c 1 t) (iblk m c 0 t) (iblk m c 2 t) (iblk m c 3 t)) (k0_pay26 (F := Ideal)) (iblk m c 4 t) (iblk m c 5 t) (iblk m c 6 t) := by
  rw [outsAt0_A m c t h0 h1]
  dsimp only
  frame_out
  unfold addShare table scores biasCol
  rfl

/-- What the point before left. -/
abbrev prev (c : Dev nD) (t : Fin cfg0.N) := outsAt0 m c (t.val - 1) (Nat.lt_of_le_of_lt (Nat.sub_le _ _) t.isLt)

theorem mid_u (c : Dev nD) (t : Fin cfg0.N) (h0 : ¬t.val % 16 = 0) : (outsAt0 m c t.val t.isLt).2.2.2.2.1 = (prev m c t).2.2.2.2.1 := by
  by_cases h1 : t.val % 16 = 15
  · rw [outsAt0_C m c t h0 h1]
    rfl
  · rw [outsAt0_B m c t h0 h1]
    rfl

theorem mid_table (c : Dev nD) (t : Fin cfg0.N) (h0 : ¬t.val % 16 = 0) : (outsAt0 m c t.val t.isLt).2.2.2.2.2.1 = (prev m c t).2.2.2.2.2.1 := by
  by_cases h1 : t.val % 16 = 15
  · rw [outsAt0_C m c t h0 h1]
    rfl
  · rw [outsAt0_B m c t h0 h1]
    rfl

theorem mid_sum (c : Dev nD) (t : Fin cfg0.N) (h0 : ¬t.val % 16 = 0) : (outsAt0 m c t.val t.isLt).2.2.2.2.2.2
    = addShare (grid0.coords t) (prev m c t).2.2.2.2.1 (prev m c t).2.2.2.2.2.1 (prev m c t).2.2.2.2.2.2 (iblk m c 4 t) (iblk m c 5 t) (iblk m c 6 t) := by
  by_cases h1 : t.val % 16 = 15
  · rw [outsAt0_C m c t h0 h1]
    dsimp only
    frame_out
    simp only [read_unread_whole]
    rfl
  · rw [outsAt0_B m c t h0 h1]
    dsimp only
    frame_out
    simp only [read_unread_whole]
    rfl

theorem last_out (c : Dev nD) (t : Fin cfg0.N) (h1 : t.val % 16 = 15) : (outsAt0 m c t.val t.isLt).1
    = k0_pay2 (F := Ideal) (iblk m c 1 t) (iblk m c 0 t) (outsAt0 m c t.val t.isLt).2.2.2.2.2.2 (iblk m c 7 t) (iblk m c 8 t) := by
  rw [mid_sum m c t (by omega), outsAt0_C m c t (by omega) h1]
  dsimp only
  frame_out
  simp only [read_unread_whole]
  rfl

theorem out_w1 (c : Dev nD) (t : Fin cfg0.N) : (outsAt0 m c t.val t.isLt).2.1 = k0_pay22 (F := Ideal) (iblk m c 4 t) := by
  by_cases h0 : t.val % 16 = 0
  · rw [outsAt0_A m c t h0 (by omega)]
    dsimp only
    frame_out
  · by_cases h1 : t.val % 16 = 15
    · rw [outsAt0_C m c t h0 h1]
      dsimp only
      frame_out
    · rw [outsAt0_B m c t h0 h1]
      dsimp only
      frame_out

theorem out_w3 (c : Dev nD) (t : Fin cfg0.N) : (outsAt0 m c t.val t.isLt).2.2.1 = k0_pay23 (F := Ideal) (iblk m c 5 t) := by
  by_cases h0 : t.val % 16 = 0
  · rw [outsAt0_A m c t h0 (by omega)]
    dsimp only
    frame_out
  · by_cases h1 : t.val % 16 = 15
    · rw [outsAt0_C m c t h0 h1]
      dsimp only
      frame_out
    · rw [outsAt0_B m c t h0 h1]
      dsimp only
      frame_out

theorem out_w2 (c : Dev nD) (t : Fin cfg0.N) : (outsAt0 m c t.val t.isLt).2.2.2.1 = k0_pay24 (F := Ideal) (iblk m c 6 t) := by
  by_cases h0 : t.val % 16 = 0
  · rw [outsAt0_A m c t h0 (by omega)]
    dsimp only
    frame_out
  · by_cases h1 : t.val % 16 = 15
    · rw [outsAt0_C m c t h0 h1]
      dsimp only
      frame_out
    · rw [outsAt0_B m c t h0 h1]
      dsimp only
      frame_out

end Cert.MoeIdeal.Mix

end
-- ==== Proof.MoeTable.lean ====
/- The routing of the sample's expert layer as the kernel works it out: the table of the experts' weights of one row. -/
module

public import proofs.«01_k».proof.Proof.MoeSteps
public import proofs.«01_k».proof.Proof.MoeRoute

@[expose] public section

set_option maxRecDepth 16384

noncomputable section

namespace Cert.MoeIdeal.Mix

open Cert.MoeIdeal Cert.MoeIdeal.Gen Cert.Route Idealize.ShloMosaic Idealize.ShloMosaic.TcCoe Idealize.SL.Sem

theorem ofBool_and (a b : Bool) : IntOp.andi (BitVec.ofBool a) (BitVec.ofBool b) = BitVec.ofBool (a && b) := by
  revert a b; decide

theorem select_bool (a : Bool) (x y : EReal) : Scalar.select (BitVec.ofBool a) x y = if a = true then x else y := by
  cases a <;> rfl

section
variable (x1 : FVec Ideal S1x128x3072 .f32) (x0 : FVec Ideal S512x1024 .f32) (x2 : FVec Ideal S1x32x1024 .bf16) (x3 : FVec Ideal S1x32x1 .f32) (r : Fin 512)

/-- The groups' scores of the row. -/
def L (g : Fin 4) : EReal := k0_pay5 (F := Ideal) x1 x0 x2 x3 (ix2 ⟨g.val, by omega⟩ r)

theorem pay8_at (e : Fin 8) : k0_pay8 (F := Ideal) x1 x0 x2 x3 (ix2 e r) = padded (L x1 x0 x2 x3 r) e := by
  pointwise [k0_pay8, k0_pay7, k0_pay6]
  rw [num_word e.val (by omega), lit_four, four_num]
  unfold padded
  simp only [num_lt]
  split <;> rfl

variable (hL : ∀ g, Fine (L x1 x0 x2 x3 r g)) (p : Fin 4) (h : Lead (L x1 x0 x2 x3 r) p)
include hL h

theorem pay9_at : k0_pay9 (F := Ideal) x1 x0 x2 x3 (ix2 0 r) = L x1 x0 x2 x3 r p := by
  pointwise [k0_pay9]
  rw [lit_bot]
  simp only [pay8_at]
  exact padded_max _ hL p h

theorem pay10_at : k0_pay10 (F := Ideal) x1 x0 x2 x3 (ix2 0 r) = num p.val := by
  pointwise [k0_pay10, k0_pay6]
  rw [lit_top, lit_eight, eight_num]
  simp only [pay9_at x1 x0 x2 x3 r hL p h, pay8_at]
  have e : ∀ k : Fin 8, FloatOps.sitofp (F := Ideal) FTy.f32 (BitVec.ofNat 32 k.val) = num k.val := fun k => num_word k.val (by omega)
  simp only [e]
  exact padded_min _ p h

theorem pay11_at (e : Fin 8) : k0_pay11 (F := Ideal) x1 x0 x2 x3 (ix2 e r) = if h : e.val < 4 then Ideal.exp (L x1 x0 x2 x3 r ⟨e.val, h⟩ - L x1 x0 x2 x3 r p) else 0 := by
  pointwise [k0_pay11, k0_pay7, k0_pay6]
  rw [num_word e.val (by omega), lit_four, four_num, pay9_at x1 x0 x2 x3 r hL p h, pay8_at]
  simp only [num_lt, padded]
  split
  · rfl
  · rfl

theorem pay11_sum : ∑ e : Fin 8, k0_pay11 (F := Ideal) x1 x0 x2 x3 (ix2 e r) = total (L x1 x0 x2 x3 r) p := by
  simp only [pay11_at x1 x0 x2 x3 r hL p h]
  rw [Fin.sum_univ_eight]
  unfold total
  rw [Fin.sum_univ_four]
  simp

end

section
variable (s : FVec Ideal S32x512 .f32) (g : FVec Ideal S1x512 .f32) (r : Fin 512)

/-- The experts' scores of the row. -/
def E (p q : Fin 4) : EReal := s (ix2 ⟨8 + (at16 p q).val, by omega⟩ r)

variable (p : Fin 4) (hg : g (ix2 0 r) = num p.val)
include hg

theorem pay13_at (e : Fin 16) : k0_pay13 (F := Ideal) g (ix2 e r) = BitVec.ofBool (decide (4 * p.val ≤ e.val ∧ e.val < 4 * p.val + 4)) := by
  pointwise [k0_pay13, k0_pay12]
  rw [num_word e.val (by omega), lit_four, four_num, hg, num_mul, num_add]
  simp only [num_lt, num_le, ofBool_and, Nat.mul_comm p.val 4]
  exact congrArg BitVec.ofBool (Bool.decide_and _ _).symm

theorem pay14_at (e : Fin 16) : k0_pay14 (F := Ideal) s g (ix2 e r) = if 4 * p.val ≤ e.val ∧ e.val < 4 * p.val + 4 then s (ix2 ⟨8 + e.val, by omega⟩ r) else low := by
  pointwise [k0_pay14]
  rw [pay13_at g r p hg, select_bool]
  simp only [decide_eq_true_eq]
  rfl

theorem holds : Holds (fun e => k0_pay14 (F := Ideal) s g (ix2 e r)) (E s r p) p where
  inside q := by
    show k0_pay14 (F := Ideal) s g (ix2 (at16 p q) r) = _
    rw [pay14_at s g r p hg, if_pos (by simp only [at16]; omega)]
    rfl
  outside k hk := by
    show k0_pay14 (F := Ideal) s g (ix2 k r) = _
    rw [pay14_at s g r p hg, if_neg hk]

variable (hE : ∀ q, Fine (E s r p q)) (a b : Fin 4) (h : Lead (E s r p) a) (h2 : Second (E s r p) a b)
include hE h

theorem pay15_at : k0_pay15 (F := Ideal) s g (ix2 0 r) = E s r p a := by
  pointwise [k0_pay15]
  rw [lit_bot]
  exact group_max (holds s g r p hg) hE a h

theorem pay16_at : k0_pay16 (F := Ideal) s g (ix2 0 r) = num (4 * p.val + a.val) := by
  pointwise [k0_pay16, k0_pay12]
  rw [lit_top, lit_sixteen, sixteen_num]
  simp only [pay15_at s g r p hg hE a h]
  have e : ∀ k : Fin 16, FloatOps.sitofp (F := Ideal) FTy.f32 (BitVec.ofNat 32 k.val) = num k.val := fun k => num_word k.val (by omega)
  simp only [e]
  exact group_min (holds s g r p hg) hE a h

theorem pay17_at (e : Fin 16) : k0_pay17 (F := Ideal) s g (ix2 e r) = without (fun e => k0_pay14 (F := Ideal) s g (ix2 e r)) p a e := by
  pointwise [k0_pay17, k0_pay12]
  rw [num_word e.val (by omega), pay16_at s g r p hg hE a h]
  rfl

include h2

theorem pay18_at : k0_pay18 (F := Ideal) s g (ix2 0 r) = E s r p b := by
  pointwise [k0_pay18]
  rw [lit_bot]
  simp only [pay17_at s g r p hg hE a h]
  exact second_max (holds s g r p hg) hE a b h2

theorem pay19_at : k0_pay19 (F := Ideal) s g (ix2 0 r) = num (4 * p.val + b.val) := by
  pointwise [k0_pay19, k0_pay12]
  rw [lit_top, lit_sixteen, sixteen_num]
  refine second_min (holds s g r p hg) hE a b h2 _ fun k => ?_
  simp only [pay17_at s g r p hg hE a h, pay18_at s g r p hg hE a b h h2, pay16_at s g r p hg hE a h, pay13_at g r p hg, num_word k.val (by omega), ofBool_and, select_bool,
    Bool.and_eq_true, decide_eq_true_eq, and_assoc]

theorem pay20_at : k0_pay20 (F := Ideal) s g (ix2 0 r) = ratio (E s r) p a b := by
  pointwise [k0_pay20]
  rw [pay18_at s g r p hg hE a b h h2, pay15_at s g r p hg hE a h]
  rfl

end

/-- The table's weight of expert `e`. -/
theorem table_at (x1 : FVec Ideal S1x128x3072 .f32) (x0 : FVec Ideal S512x1024 .f32) (x2 : FVec Ideal S1x32x1024 .bf16) (x3 : FVec Ideal S1x32x128 .f32) (r : Fin 512)
    (hL : ∀ g, Fine (L x1 x0 x2 (biasCol x3) r g)) (hE : ∀ p q, Fine (E (scores x1 x0 x2 x3) r p q)) (p a b : Fin 4) (h : Lead (L x1 x0 x2 (biasCol x3) r) p)
    (ha : Lead (E (scores x1 x0 x2 x3) r p) a) (hb : Second (E (scores x1 x0 x2 x3) r p) a b) (e : Fin 16) :
    table x1 x0 x2 x3 (ix2 r ⟨e.val, by omega⟩) = weight (L x1 x0 x2 (biasCol x3) r) (E (scores x1 x0 x2 x3) r) p a b e := by
  have hg := pay10_at x1 x0 x2 (biasCol x3) r hL p h
  have e16 := pay16_at (scores x1 x0 x2 x3) _ r p hg (hE p) a ha
  have e19 := pay19_at (scores x1 x0 x2 x3) _ r p hg (hE p) a b ha hb
  have e20 := pay20_at (scores x1 x0 x2 x3) _ r p hg (hE p) a b ha hb
  have e21 : k0_pay21 (F := Ideal) (scores x1 x0 x2 x3) (k0_pay10 (F := Ideal) x1 x0 x2 (biasCol x3)) (k0_pay11 (F := Ideal) x1 x0 x2 (biasCol x3)) (ix2 0 r)
      = top (L x1 x0 x2 (biasCol x3) r) (E (scores x1 x0 x2 x3) r) p a b := by
    pointwise [k0_pay21]
    rw [e20, pay11_sum x1 x0 x2 (biasCol x3) r hL p h]
    rfl
  unfold table
  pointwise [k0_pay25, k0_pay12]
  rw [e16, e19, e20, e21, num_word e.val (by omega)]
  simp only [num_inj]
  rfl

end Cert.MoeIdeal.Mix

end
-- ==== Proof.MoeBody.lean ====
/- The expert layer's body, entry by entry. -/
module

public import proofs.«01_k».proof.Proof.MoeTable
public import proofs.«01_k».proof.Proof.MoeRefValue

@[expose] public section

set_option maxRecDepth 16384

noncomputable section

namespace Cert.MoeIdeal.Mix

open Cert.MoeIdeal Cert.MoeIdeal.Gen Cert.Route Idealize.ShloMosaic Idealize.ShloMosaic.TcCoe Idealize.SL.Sem
open Cert.MoeRefIdeal.Mix (normed given)

/-- Four copies of the modulation, one under the other: row `r` is row `r % 128`. -/
def copies (x1 : FVec Ideal S1x128x3072 .f32) (r : Fin 512) (k : Fin 3072) : EReal :=
  if h : r.val < 128 then x1 (ix3 0 ⟨r.val, h⟩ k) else if h : r.val - 128 < 128 then x1 (ix3 0 ⟨r.val - 128, h⟩ k)
    else if h : r.val - 128 - 128 < 128 then x1 (ix3 0 ⟨r.val - 128 - 128, h⟩ k) else x1 (ix3 0 ⟨r.val - 128 - 128 - 128, by omega⟩ k)

theorem copies_at (x1 : FVec Ideal S1x128x3072 .f32) (r : Fin 512) (k : Fin 3072) : copies x1 r k = x1 (ix3 0 ⟨r.val % 128, by omega⟩ k) := by
  unfold copies
  split_ifs
  all_goals exact congrArg (fun a : Fin 128 => x1 (ix3 0 a k)) (Fin.ext (by simp only; omega))

theorem pay3_at (x1 : FVec Ideal S1x128x3072 .f32) (x0 : FVec Ideal S512x1024 .f32) (r : Fin 512) (k : Fin 1024) :
    k0_pay3 (F := Ideal) x1 x0 (ix2 r k) = x0 (ix2 r k) * x1 (ix3 0 ⟨r.val % 128, by omega⟩ ⟨1024 + k.val, by omega⟩) + x1 (ix3 0 ⟨r.val % 128, by omega⟩ ⟨k.val, by omega⟩) := by
  pointwise [k0_pay3]
  exact congrArg₂ (fun a b : EReal => x0 (ix2 r k) * a + b) (copies_at x1 r ⟨1024 + k.val, by omega⟩) (copies_at x1 r ⟨k.val, by omega⟩)

theorem pay4_at (x1 : FVec Ideal S1x128x3072 .f32) (x0 : FVec Ideal S512x1024 .f32) (r : Fin 512) (k : Fin 1024) :
    k0_pay4 (F := Ideal) x1 x0 (ix2 r k) = k0_pay3 (F := Ideal) x1 x0 (ix2 r k) := by
  pointwise [k0_pay4]

theorem pay5_at (x1 : FVec Ideal S1x128x3072 .f32) (x0 : FVec Ideal S512x1024 .f32) (x2 : FVec Ideal S1x32x1024 .bf16) (x3 : FVec Ideal S1x32x1 .f32) (e : Fin 32) (r : Fin 512) :
    k0_pay5 (F := Ideal) x1 x0 x2 x3 (ix2 e r) = ∑ x, x2 (ix3 0 e x) * k0_pay3 (F := Ideal) x1 x0 (ix2 r x) + x3 (ix3 0 e 0) := by
  pointwise [k0_pay5]

theorem biasCol_at (x3 : Vec Ideal S1x32x128 .f32) (e : Fin 32) : biasCol x3 (ix3 0 e 0) = x3 (ix3 0 e 0) := by
  unfold biasCol
  refine congrArg x3 ?_
  funext a
  match a with
  | ⟨0, _⟩ => rfl
  | ⟨1, _⟩ =>
    refine Fin.ext ?_
    show 0 + 1 * e.val = e.val
    omega
  | ⟨2, _⟩ => rfl

theorem word_column (x : Fin 128) (n : Fin 16) : IntOp.cmpi CmpIPredicate.eq (BitVec.ofNat 32 x.val) (BitVec.ofNat 32 n.val) = BitVec.ofBool (decide (x.val = n.val)) := by
  revert x n
  decide +kernel

/-- Masking every column but one and adding the row leaves that column's entry. -/
theorem column (tb : Fin 128 → EReal) (n : Fin 16) :
    ∑ x : Fin 128, Scalar.select (IntOp.cmpi CmpIPredicate.eq (BitVec.ofNat 32 x.val) (BitVec.ofNat 32 n.val)) (tb x) 0 = tb ⟨n.val, by omega⟩ := by
  have h : ∀ x : Fin 128, Scalar.select (IntOp.cmpi CmpIPredicate.eq (BitVec.ofNat 32 x.val) (BitVec.ofNat 32 n.val)) (tb x) 0
      = if x = ⟨n.val, by omega⟩ then tb x else 0 := by
    intro x
    rw [word_column]
    by_cases e : x.val = n.val
    · rw [decide_eq_true e, if_pos (Fin.ext e)]; rfl
    · rw [decide_eq_false e, if_neg fun h => e (congrArg Fin.val h)]; rfl
  rw [Finset.sum_congr rfl fun x _ => h x, Finset.sum_ite_eq' Finset.univ, if_pos (Finset.mem_univ _)]

theorem share_at (i : grid0.Coords) (u : FVec Ideal S512x1024 .bf16) (tb : FVec Ideal S512x128 .f32) (a : FVec Ideal S512x1024 .f32)
    (x4 x5 : FVec Ideal S1x1x1024x512 .f32) (x6 : FVec Ideal S1x1x512x1024 .f32) (r : Fin 512) (j : Fin 1024) (n : Fin 16) (hn : (i 1).val = n.val) :
    addShare i u tb a x4 x5 x6 (ix2 r j) = a (ix2 r j) + given (fun k => u (ix2 r k)) (fun k f => x4 (ix4 0 0 k f)) (fun k f => x5 (ix4 0 0 k f)) (fun f => x6 (ix4 0 0 f j))
      (tb (ix2 r ⟨n.val, by omega⟩)) := by
  pointwise [addShare, k0_pay1, k0_pay22, k0_pay23, k0_pay24, k0_pay27]
  rw [hn, column (fun x => tb (ix2 r x)) n]
  rfl

theorem pay2_at (x1 : FVec Ideal S1x128x3072 .f32) (x0 : FVec Ideal S512x1024 .f32) (y : FVec Ideal S512x1024 .f32) (g b : FVec Ideal S1x1x1024 .f32) (r : Fin 512) (j : Fin 1024) :
    k0_pay2 (F := Ideal) x1 x0 y g b (ix2 r j) = normed (fun j => Ideal.ofBits FTy.f32 1071072509#32 * x0 (ix2 r j) + x1 (ix3 0 ⟨r.val % 128, by omega⟩ ⟨2048 + j.val, by omega⟩) * y (ix2 r j))
      (g (ix3 0 0 j)) (b (ix3 0 0 j)) j := by
  pointwise [k0_pay2]
  refine Eq.trans (b := normed (fun j => Ideal.ofBits FTy.f32 1071072509#32 * x0 (ix2 r j) + copies x1 r ⟨2048 + j.val, by omega⟩ * y (ix2 r j)) (g (ix3 0 0 j)) (b (ix3 0 0 j)) j) rfl ?_
  simp only [copies_at]

theorem pay26_at (r : Fin 512) (j : Fin 1024) : k0_pay26 (F := Ideal) (ix2 r j) = 0 := by
  pointwise [k0_pay26]

theorem pay22_at (x4 : FVec Ideal S1x1x1024x512 .f32) (k : Fin 1024) (f : Fin 512) : k0_pay22 (F := Ideal) x4 (ix3 0 k f) = x4 (ix4 0 0 k f) := by
  pointwise [k0_pay22]
theorem pay23_at (x5 : FVec Ideal S1x1x1024x512 .f32) (k : Fin 1024) (f : Fin 512) : k0_pay23 (F := Ideal) x5 (ix3 0 k f) = x5 (ix4 0 0 k f) := by
  pointwise [k0_pay23]
theorem pay24_at (x6 : FVec Ideal S1x1x512x1024 .f32) (f : Fin 512) (j : Fin 1024) : k0_pay24 (F := Ideal) x6 (ix3 0 f j) = x6 (ix4 0 0 f j) := by
  pointwise [k0_pay24]

end Cert.MoeIdeal.Mix

end
-- ==== Proof.MoeValue.lean ====
/- The expert layer of the sample: its blocks from its arguments, the sum over the experts, and the four results after the call. -/
module

public import proofs.«01_k».proof.Proof.MoeBody

@[expose] public section

set_option maxRecDepth 16384

noncomputable section

namespace Cert.MoeIdeal.Mix

open Cert.MoeIdeal Cert.MoeIdeal.Gen Cert.Route Idealize.ShloMosaic Idealize.ShloMosaic.TcCoe Idealize.SL.Sem
open Idealize.ShloMosaic.Pipeline (Dat)
open Cert.MoeRefIdeal.Mix (normed given)
open Cert.MoeRefIdeal.Read (val_main_v25 val_main_v79 val_main_v87 val_main_v120 val_main_v121 val_main_v122 val_main_v123)

variable (m : (ℓ : Loc nD τ sig) → Buf (Elt Ideal) ℓ)

/-! The arguments, and the arrays the host code makes of them. -/

abbrev X (c : Dev nD) : FVec Ideal S512x1024 .f32 := m ((c.tc : Thread nD τ).loc main_arg0)
abbrev M (c : Dev nD) : FVec Ideal S8x128x3072 .f32 := m ((c.tc : Thread nD τ).loc main_arg1)
abbrev WG (c : Dev nD) : FVec Ideal S4x1024x4 .f32 := m ((c.tc : Thread nD τ).loc main_arg2)
abbrev BG (c : Dev nD) : FVec Ideal S4x4 .f32 := m ((c.tc : Thread nD τ).loc main_arg3)
abbrev WR (c : Dev nD) : FVec Ideal S4x1024x4x4 .f32 := m ((c.tc : Thread nD τ).loc main_arg4)
abbrev BR (c : Dev nD) : FVec Ideal S4x4x4 .f32 := m ((c.tc : Thread nD τ).loc main_arg5)
abbrev W1 (c : Dev nD) : FVec Ideal S4x16x1024x512 .f32 := m ((c.tc : Thread nD τ).loc main_arg6)
abbrev W3 (c : Dev nD) : FVec Ideal S4x16x1024x512 .f32 := m ((c.tc : Thread nD τ).loc main_arg7)
abbrev W2 (c : Dev nD) : FVec Ideal S4x16x512x1024 .f32 := m ((c.tc : Thread nD τ).loc main_arg8)
abbrev G (c : Dev nD) : FVec Ideal S4x2x1024 .f32 := m ((c.tc : Thread nD τ).loc main_arg9)
abbrev B (c : Dev nD) : FVec Ideal S4x2x1024 .f32 := m ((c.tc : Thread nD τ).loc main_arg10)

def normOf (a : FVec Ideal S4x2x1024 .f32) : FVec Ideal S8x1x1024 .f32 := shapeCast S8x1x1024 a shapeCasts_S4x2x1024_S8x1x1024
/-- The groups' and the experts' routing weights, one under the other, and their biases; the rows between hold zero. -/
def weightsOf (wg : FVec Ideal S4x1024x4 .f32) (wr : FVec Ideal S4x1024x4x4 .f32) : FVec Ideal S4x32x1024 .bf16 :=
  truncf .bf16 (concatenate S4x32x1024 1 [⟨S4x4x1024, transpose S4x4x1024 [0, 2, 1] wg transposes_S4x1024x4_S4x4x1024_0_2_1⟩,
    ⟨S4x4x1024, broadcastInDim S4x4x1024 ![] bcast_S_S4x4x1024 (constant (F := Ideal) S_ .f32 0x00000000#32)⟩,
    ⟨S4x16x1024, transpose S4x16x1024 [0, 2, 1] (shapeCast S4x1024x16 wr shapeCasts_S4x1024x4x4_S4x1024x16) transposes_S4x1024x16_S4x16x1024_0_2_1⟩,
    ⟨S4x8x1024, broadcastInDim S4x8x1024 ![] bcast_S_S4x8x1024 (constant (F := Ideal) S_ .f32 0x00000000#32)⟩]
    concatenates_S4x4x1024_S4x4x1024_S4x16x1024_S4x8x1024_S4x32x1024_d1) bitsLt_bf16_f32
def biasesOf (bg : FVec Ideal S4x4 .f32) (br : FVec Ideal S4x4x4 .f32) : FVec Ideal S4x32x128 .f32 :=
  broadcastInDim S4x32x128 ![0, 1, 2] bcast_S4x32x1_S4x32x128_0_1_2 (broadcastInDim S4x32x1 ![0, 1] bcast_S4x32_S4x32x1_0_1
    (concatenate S4x32 1 [⟨S4x4, bg⟩, ⟨S4x4, broadcastInDim S4x4 ![] bcast_S_S4x4 (constant (F := Ideal) S_ .f32 0x00000000#32)⟩,
      ⟨S4x16, shapeCast S4x16 br shapeCasts_S4x4x4_S4x16⟩, ⟨S4x8, broadcastInDim S4x8 ![] bcast_S_S4x8 (constant (F := Ideal) S_ .f32 0x00000000#32)⟩]
      concatenates_S4x4_S4x4_S4x16_S4x8_S4x32_d1))

theorem normOf_at (a : FVec Ideal S4x2x1024 .f32) (j : Fin 1024) : normOf a (ix3 7 0 j) = a (ix3 3 1 j) := by
  pointwise [normOf]

theorem weightsOf_group (wg : FVec Ideal S4x1024x4 .f32) (wr : FVec Ideal S4x1024x4x4 .f32) (g : Fin 4) (k : Fin 1024) :
    weightsOf wg wr (ix3 3 ⟨g.val, by omega⟩ k) = wg (ix3 3 k g) := by
  pointwise [weightsOf]

theorem biasesOf_group (bg : FVec Ideal S4x4 .f32) (br : FVec Ideal S4x4x4 .f32) (g : Fin 4) (k : Fin 128) :
    biasesOf bg br (ix3 3 ⟨g.val, by omega⟩ k) = bg (ix2 3 g) := by
  pointwise [biasesOf]

theorem weightsOf_expert (wg : FVec Ideal S4x1024x4 .f32) (wr : FVec Ideal S4x1024x4x4 .f32) (p q : Fin 4) (k : Fin 1024) :
    weightsOf wg wr (ix3 3 ⟨8 + (at16 p q).val, by omega⟩ k) = wr (ix4 3 k p q) := by
  have e : (at16 p q).val = 4 * p.val + q.val := rfl
  pointwise [weightsOf]
  refine (dif_neg (by omega)).trans ((dif_neg (by omega)).trans ((dif_pos (by omega)).trans ?_))
  exact congrArg₂ (fun a b => wr (ix4 3 k a b)) (Fin.ext (by show (8 + (at16 p q).val - 4 - 4) / 4 = p.val; omega)) (Fin.ext (by show (8 + (at16 p q).val - 4 - 4) % 4 = q.val; omega))

theorem biasesOf_expert (bg : FVec Ideal S4x4 .f32) (br : FVec Ideal S4x4x4 .f32) (p q : Fin 4) (k : Fin 128) :
    biasesOf bg br (ix3 3 ⟨8 + (at16 p q).val, by omega⟩ k) = br (ix3 3 p q) := by
  have e : (at16 p q).val = 4 * p.val + q.val := rfl
  pointwise [biasesOf]
  refine (dif_neg (by omega)).trans ((dif_neg (by omega)).trans ((dif_pos (by omega)).trans ?_))
  exact congrArg₂ (fun a b => br (ix3 3 a b)) (Fin.ext (by show (8 + (at16 p q).val - 4 - 4) / 4 = p.val; omega)) (Fin.ext (by show (8 + (at16 p q).val - 4 - 4) % 4 = q.val; omega))

theorem V_v0 (c : Dev nD) : V m c main_v0 = normOf (G m c) := by
  unfold_abbrev_sides
  after_results
  try rfl

theorem V_v1 (c : Dev nD) : V m c main_v1 = normOf (B m c) := by
  unfold_abbrev_sides
  after_results
  try rfl

theorem V_v8 (c : Dev nD) : V m c main_v8 = weightsOf (WG m c) (WR m c) := by
  unfold_abbrev_sides
  after_results
  try rfl

theorem V_v14 (c : Dev nD) : V m c main_v14 = biasesOf (BG m c) (BR m c) := by
  unfold_abbrev_sides
  after_results
  try rfl

/-! Each window's block. -/

theorem point1 : ∀ t : Fin grid0.N, (grid0.coords t 1).val = t.val := by decide +kernel
theorem word1 (t : Fin cfg0.N) : BitVec.toNat (BitVec.ofNat 32 (grid0.coords t 1).val) = t.val := by
  have h : t.val < 16 := t.isLt
  rw [BitVec.toNat_ofNat, point1 t]; omega

/-- The expert of point `t`. -/
def ex (t : Fin cfg0.N) : Fin 16 := ⟨t.val, t.isLt⟩

theorem iblk0_at (c : Dev nD) (t : Fin cfg0.N) (r : Fin 512) (k : Fin 1024) : iblk m c 0 t (ix2 r k) = X m c (ix2 r k) := by
  refine (congrArg (V m c main_arg0) (?_ : _ = (ix2 r k : S512x1024.Idx))).trans (congrFun (V_main_arg0 m c) _)
  refine funext fun a => Fin.ext ((Pipeline.Window.rect_emb_val (cfg0.win 0) t (ix2 r k) a rfl).trans ?_)
  fin_cases a
  · show 0 * 512 + r.val = r.val; omega
  · show 0 * 1024 + k.val = k.val; omega

theorem iblk1_at (c : Dev nD) (t : Fin cfg0.N) (r : Fin 128) (k : Fin 3072) : iblk m c 1 t (ix3 0 r k) = M m c (ix3 7 r k) := by
  refine (congrArg (V m c main_arg1) (?_ : _ = (ix3 7 r k : S8x128x3072.Idx))).trans (congrFun (V_main_arg1 m c) _)
  refine funext fun a => Fin.ext ((Pipeline.Window.rect_emb_val (cfg0.win 1) t (ix3 0 r k) a rfl).trans ?_)
  fin_cases a
  · rfl
  · show 0 * 128 + r.val = r.val; omega
  · show 0 * 3072 + k.val = k.val; omega

theorem iblk2_at (c : Dev nD) (t : Fin cfg0.N) (e : Fin 32) (k : Fin 1024) : iblk m c 2 t (ix3 0 e k) = weightsOf (WG m c) (WR m c) (ix3 3 e k) := by
  refine (congrArg (V m c main_v8) (?_ : _ = (ix3 3 e k : S4x32x1024.Idx))).trans (congrFun (V_v8 m c) _)
  refine funext fun a => Fin.ext ((Pipeline.Window.rect_emb_val (cfg0.win 2) t (ix3 0 e k) a rfl).trans ?_)
  fin_cases a
  · rfl
  · show 0 * 32 + e.val = e.val; omega
  · show 0 * 1024 + k.val = k.val; omega

theorem iblk3_at (c : Dev nD) (t : Fin cfg0.N) (e : Fin 32) (k : Fin 128) : iblk m c 3 t (ix3 0 e k) = biasesOf (BG m c) (BR m c) (ix3 3 e k) := by
  refine (congrArg (V m c main_v14) (?_ : _ = (ix3 3 e k : S4x32x128.Idx))).trans (congrFun (V_v14 m c) _)
  refine funext fun a => Fin.ext ((Pipeline.Window.rect_emb_val (cfg0.win 3) t (ix3 0 e k) a rfl).trans ?_)
  fin_cases a
  · rfl
  · show 0 * 32 + e.val = e.val; omega
  · show 0 * 128 + k.val = k.val; omega

theorem iblk4_at (c : Dev nD) (t : Fin cfg0.N) (k : Fin 1024) (f : Fin 512) : iblk m c 4 t (ix4 0 0 k f) = W1 m c (ix4 3 (ex t) k f) := by
  refine (congrArg (V m c main_arg6) (?_ : _ = (ix4 3 (ex t) k f : S4x16x1024x512.Idx))).trans (congrFun (V_main_arg6 m c) _)
  refine funext fun a => Fin.ext ((Pipeline.Window.rect_emb_val (cfg0.win 4) t (ix4 0 0 k f) a rfl).trans ?_)
  fin_cases a
  · rfl
  · show BitVec.toNat (BitVec.ofNat 32 (grid0.coords t 1).val) * 1 + 0 = t.val
    rw [word1]; omega
  · show 0 * 1024 + k.val = k.val; omega
  · show 0 * 512 + f.val = f.val; omega

theorem iblk5_at (c : Dev nD) (t : Fin cfg0.N) (k : Fin 1024) (f : Fin 512) : iblk m c 5 t (ix4 0 0 k f) = W3 m c (ix4 3 (ex t) k f) := by
  refine (congrArg (V m c main_arg7) (?_ : _ = (ix4 3 (ex t) k f : S4x16x1024x512.Idx))).trans (congrFun (V_main_arg7 m c) _)
  refine funext fun a => Fin.ext ((Pipeline.Window.rect_emb_val (cfg0.win 5) t (ix4 0 0 k f) a rfl).trans ?_)
  fin_cases a
  · rfl
  · show BitVec.toNat (BitVec.ofNat 32 (grid0.coords t 1).val) * 1 + 0 = t.val
    rw [word1]; omega
  · show 0 * 1024 + k.val = k.val; omega
  · show 0 * 512 + f.val = f.val; omega

theorem iblk6_at (c : Dev nD) (t : Fin cfg0.N) (f : Fin 512) (j : Fin 1024) : iblk m c 6 t (ix4 0 0 f j) = W2 m c (ix4 3 (ex t) f j) := by
  refine (congrArg (V m c main_arg8) (?_ : _ = (ix4 3 (ex t) f j : S4x16x512x1024.Idx))).trans (congrFun (V_main_arg8 m c) _)
  refine funext fun a => Fin.ext ((Pipeline.Window.rect_emb_val (cfg0.win 6) t (ix4 0 0 f j) a rfl).trans ?_)
  fin_cases a
  · rfl
  · show BitVec.toNat (BitVec.ofNat 32 (grid0.coords t 1).val) * 1 + 0 = t.val
    rw [word1]; omega
  · show 0 * 512 + f.val = f.val; omega
  · show 0 * 1024 + j.val = j.val; omega

theorem iblk7_at (c : Dev nD) (t : Fin cfg0.N) (j : Fin 1024) : iblk m c 7 t (ix3 0 0 j) = G m c (ix3 3 1 j) := by
  refine (congrArg (V m c main_v0) (?_ : _ = (ix3 7 0 j : S8x1x1024.Idx))).trans ((congrFun (V_v0 m c) _).trans (normOf_at _ j))
  refine funext fun a => Fin.ext ((Pipeline.Window.rect_emb_val (cfg0.win 7) t (ix3 0 0 j) a rfl).trans ?_)
  fin_cases a
  · rfl
  · rfl
  · show 0 * 1024 + j.val = j.val; omega

theorem iblk8_at (c : Dev nD) (t : Fin cfg0.N) (j : Fin 1024) : iblk m c 8 t (ix3 0 0 j) = B m c (ix3 3 1 j) := by
  refine (congrArg (V m c main_v1) (?_ : _ = (ix3 7 0 j : S8x1x1024.Idx))).trans ((congrFun (V_v1 m c) _).trans (normOf_at _ j))
  refine funext fun a => Fin.ext ((Pipeline.Window.rect_emb_val (cfg0.win 8) t (ix3 0 0 j) a rfl).trans ?_)
  fin_cases a
  · rfl
  · rfl
  · show 0 * 1024 + j.val = j.val; omega

theorem idx_9 (t : Fin cfg0.N) (r : Fin 512) (j : Fin 1024) : (((cfg0.win 9).blk t).view.emb (ix2 r j) : S512x1024.Idx) = ix2 r j := by
  refine funext fun a => Fin.ext ((Pipeline.Window.rect_emb_val (cfg0.win 9) t (ix2 r j) a rfl).trans ?_)
  fin_cases a
  · show 0 * 512 + r.val = r.val; omega
  · show 0 * 1024 + j.val = j.val; omega

theorem idx_10 (t : Fin cfg0.N) (k : Fin 1024) (f : Fin 512) : (((cfg0.win 10).blk t).view.emb (ix3 0 k f) : S16x1024x512.Idx) = ix3 (ex t) k f := by
  refine funext fun a => Fin.ext ((Pipeline.Window.rect_emb_val (cfg0.win 10) t (ix3 0 k f) a rfl).trans ?_)
  fin_cases a
  · show BitVec.toNat (BitVec.ofNat 32 (grid0.coords t 1).val) * 1 + 0 = t.val
    rw [word1]; omega
  · show 0 * 1024 + k.val = k.val; omega
  · show 0 * 512 + f.val = f.val; omega

theorem idx_11 (t : Fin cfg0.N) (k : Fin 1024) (f : Fin 512) : (((cfg0.win 11).blk t).view.emb (ix3 0 k f) : S16x1024x512.Idx) = ix3 (ex t) k f := by
  refine funext fun a => Fin.ext ((Pipeline.Window.rect_emb_val (cfg0.win 11) t (ix3 0 k f) a rfl).trans ?_)
  fin_cases a
  · show BitVec.toNat (BitVec.ofNat 32 (grid0.coords t 1).val) * 1 + 0 = t.val
    rw [word1]; omega
  · show 0 * 1024 + k.val = k.val; omega
  · show 0 * 512 + f.val = f.val; omega

theorem idx_12 (t : Fin cfg0.N) (f : Fin 512) (j : Fin 1024) : (((cfg0.win 12).blk t).view.emb (ix3 0 f j) : S16x512x1024.Idx) = ix3 (ex t) f j := by
  refine funext fun a => Fin.ext ((Pipeline.Window.rect_emb_val (cfg0.win 12) t (ix3 0 f j) a rfl).trans ?_)
  fin_cases a
  · show BitVec.toNat (BitVec.ofNat 32 (grid0.coords t 1).val) * 1 + 0 = t.val
    rw [word1]; omega
  · show 0 * 512 + f.val = f.val; omega
  · show 0 * 1024 + j.val = j.val; omega

/-! The modulated rows, the scores and the table, which are the reference's. -/

theorem u_at (c : Dev nD) (t : Fin cfg0.N) (r : Fin 512) (k : Fin 1024) :
    k0_pay3 (F := Ideal) (iblk m c 1 t) (iblk m c 0 t) (ix2 r k) = val_main_v25 (F := Ideal) (X m c) (M m c) (ix2 r k) :=
  (pay3_at (iblk m c 1 t) (iblk m c 0 t) r k).trans (Eq.trans
    (congrArg₂ (fun a b : EReal => a + b) (congrArg₂ (fun a b : EReal => a * b) (iblk0_at m c t r k) (iblk1_at m c t _ _)) (iblk1_at m c t _ _))
    (Cert.MoeRefIdeal.Mix.v25_at (X m c) (M m c) r k).symm)

theorem L_eq (c : Dev nD) (t : Fin cfg0.N) (r : Fin 512) :
    L (iblk m c 1 t) (iblk m c 0 t) (iblk m c 2 t) (biasCol (iblk m c 3 t)) r = Cert.MoeRefIdeal.Mix.L (X m c) (M m c) (WG m c) (BG m c) r := funext fun g => by
  unfold L
  rw [Cert.MoeRefIdeal.Mix.L_at, pay5_at]
  refine congrArg₂ (fun a b : EReal => a + b) (Finset.sum_congr rfl fun k _ => ?_) ?_
  · exact (mul_comm _ _).trans (congrArg₂ (fun a b : EReal => a * b) (u_at m c t r k) ((iblk2_at m c t _ k).trans (weightsOf_group _ _ g k)))
  · exact (biasCol_at (iblk m c 3 t) _).trans ((iblk3_at m c t _ 0).trans (biasesOf_group _ _ g 0))

theorem E_eq (c : Dev nD) (t : Fin cfg0.N) (r : Fin 512) :
    E (scores (iblk m c 1 t) (iblk m c 0 t) (iblk m c 2 t) (iblk m c 3 t)) r = Cert.MoeRefIdeal.Mix.E (X m c) (M m c) (WR m c) (BR m c) r := funext fun p => funext fun q => by
  unfold E scores
  rw [Cert.MoeRefIdeal.Mix.E_at, pay5_at]
  refine congrArg₂ (fun a b : EReal => a + b) (Finset.sum_congr rfl fun k _ => ?_) ?_
  · exact (mul_comm _ _).trans (congrArg₂ (fun a b : EReal => a * b) (u_at m c t r k) ((iblk2_at m c t _ k).trans (weightsOf_expert _ _ p q k)))
  · exact (biasCol_at (iblk m c 3 t) _).trans ((iblk3_at m c t _ 0).trans (biasesOf_expert _ _ p q 0))

/-- Every routing score is a number above the kernel's padding. -/
def AllFine (c : Dev nD) : Prop := (∀ r g, Fine (Cert.MoeRefIdeal.Mix.L (X m c) (M m c) (WG m c) (BG m c) r g)) ∧ ∀ r p q, Fine (Cert.MoeRefIdeal.Mix.E (X m c) (M m c) (WR m c) (BR m c) r p q)

abbrev weights (c : Dev nD) : FVec Ideal Cert.MoeRefIdeal.S512x16 .f32 := val_main_v79 (F := Ideal) (X m c) (M m c) (WG m c) (BG m c) (WR m c) (BR m c)

theorem table_eq (c : Dev nD) (h : AllFine m c) (t : Fin cfg0.N) (r : Fin 512) (e : Fin 16) :
    table (iblk m c 1 t) (iblk m c 0 t) (iblk m c 2 t) (iblk m c 3 t) (ix2 r ⟨e.val, by omega⟩) = weights m c (ix2 r e) := by
  refine Eq.trans ?_ (Cert.MoeRefIdeal.Mix.v79_at (X m c) (M m c) (WG m c) (BG m c) (WR m c) (BR m c) r (h.1 r) (h.2 r) e).symm
  have k := table_at (iblk m c 1 t) (iblk m c 0 t) (iblk m c 2 t) (iblk m c 3 t) r
  rw [L_eq m c t r, E_eq m c t r] at k
  exact k (h.1 r) (h.2 r) _ _ _ (Cert.MoeRefIdeal.Mix.group_lead _ _ _ _ r) (Cert.MoeRefIdeal.Mix.expert_lead _ _ _ _ _ _ r) (Cert.MoeRefIdeal.Mix.expert_second _ _ _ _ _ _ r) e

/-! The sum over the experts. -/

/-- What expert `e` adds to the entry. -/
def part (c : Dev nD) (r : Fin 512) (j : Fin 1024) (e : Fin 16) : EReal :=
  given (fun k => val_main_v25 (F := Ideal) (X m c) (M m c) (ix2 r k)) (fun k f => W1 m c (ix4 3 e k f)) (fun k f => W3 m c (ix4 3 e k f)) (fun f => W2 m c (ix4 3 e f j)) (weights m c (ix2 r e))

def partAt (c : Dev nD) (r : Fin 512) (j : Fin 1024) (e : ℕ) : EReal := if h : e < 16 then part m c r j ⟨e, h⟩ else 0

theorem added (c : Dev nD) (t : Fin cfg0.N) (u : FVec Ideal S512x1024 .bf16) (tb : FVec Ideal S512x128 .f32) (a : FVec Ideal S512x1024 .f32)
    (hu : ∀ r k, u (ix2 r k) = val_main_v25 (F := Ideal) (X m c) (M m c) (ix2 r k)) (ht : ∀ r (e : Fin 16), tb (ix2 r ⟨e.val, by omega⟩) = weights m c (ix2 r e))
    (r : Fin 512) (j : Fin 1024) : addShare (grid0.coords t) u tb a (iblk m c 4 t) (iblk m c 5 t) (iblk m c 6 t) (ix2 r j) = a (ix2 r j) + partAt m c r j t.val := by
  refine (share_at (grid0.coords t) u tb a (iblk m c 4 t) (iblk m c 5 t) (iblk m c 6 t) r j (ex t) (point1 t)).trans (congrArg (a (ix2 r j) + ·) ?_)
  have h4 : (fun (k : Fin 1024) (f : Fin 512) => iblk m c 4 t (ix4 0 0 k f)) = fun k f => W1 m c (ix4 3 (ex t) k f) := funext fun k => funext fun f => iblk4_at m c t k f
  have h5 : (fun (k : Fin 1024) (f : Fin 512) => iblk m c 5 t (ix4 0 0 k f)) = fun k f => W3 m c (ix4 3 (ex t) k f) := funext fun k => funext fun f => iblk5_at m c t k f
  have h6 : (fun (f : Fin 512) => iblk m c 6 t (ix4 0 0 f j)) = fun f => W2 m c (ix4 3 (ex t) f j) := funext fun f => iblk6_at m c t f j
  have hl : t.val < 16 := t.isLt
  unfold partAt part
  rw [dif_pos hl]
  have hu' : (fun k => u (ix2 r k)) = fun k => val_main_v25 (F := Ideal) (X m c) (M m c) (ix2 r k) := funext fun k => hu r k
  rw [hu', ht r (ex t)]
  exact congrArg₂ (fun a b => given _ a b _ _) h4 h5 |>.trans (congrArg (fun a => given _ _ _ a _) h6)

theorem state (c : Dev nD) (h : AllFine m c) : ∀ (n : ℕ) (hn : n < cfg0.N),
    (∀ r k, (outsAt0 m c n hn).2.2.2.2.1 (ix2 r k) = val_main_v25 (F := Ideal) (X m c) (M m c) (ix2 r k)) ∧
    (∀ r (e : Fin 16), (outsAt0 m c n hn).2.2.2.2.2.1 (ix2 r ⟨e.val, by omega⟩) = weights m c (ix2 r e)) ∧
    ∀ r j, (outsAt0 m c n hn).2.2.2.2.2.2 (ix2 r j) = ∑ e ∈ Finset.range (n + 1), partAt m c r j e
  | 0, hn => by
    have hu : ∀ r k, k0_pay4 (F := Ideal) (iblk m c 1 ⟨0, hn⟩) (iblk m c 0 ⟨0, hn⟩) (ix2 r k) = val_main_v25 (F := Ideal) (X m c) (M m c) (ix2 r k) :=
      fun r k => (pay4_at _ _ r k).trans (u_at m c ⟨0, hn⟩ r k)
    refine ⟨fun r k => ?_, fun r e => ?_, fun r j => ?_⟩
    · exact (congrFun (first_u m c ⟨0, hn⟩ rfl (by show ¬0 % 16 = 15; decide)) _).trans (hu r k)
    · exact (congrFun (first_table m c ⟨0, hn⟩ rfl (by show ¬0 % 16 = 15; decide)) _).trans (table_eq m c h ⟨0, hn⟩ r e)
    · refine (congrFun (first_sum m c ⟨0, hn⟩ rfl (by show ¬0 % 16 = 15; decide)) _).trans ((added m c ⟨0, hn⟩ _ _ _ hu (table_eq m c h ⟨0, hn⟩) r j).trans ?_)
      rw [pay26_at, zero_add, Finset.sum_range_one]
  | n + 1, hn => by
    have hl : n + 1 < 16 := hn
    obtain ⟨hu, ht, hs⟩ := state c h n (by omega)
    have h0 : ¬(⟨n + 1, hn⟩ : Fin cfg0.N).val % 16 = 0 := by show ¬(n + 1) % 16 = 0; omega
    refine ⟨fun r k => ?_, fun r e => ?_, fun r j => ?_⟩
    · exact (congrFun (mid_u m c ⟨n + 1, hn⟩ h0) _).trans (hu r k)
    · exact (congrFun (mid_table m c ⟨n + 1, hn⟩ h0) _).trans (ht r e)
    · refine (congrFun (mid_sum m c ⟨n + 1, hn⟩ h0) _).trans ((added m c ⟨n + 1, hn⟩ _ _ _ hu ht r j).trans ?_)
      rw [Finset.sum_range_succ]
      exact congrArg (fun a : EReal => a + partAt m c r j (n + 1)) (hs r j)

/-- After the last point the sum is the reference's mixture. -/
theorem whole_sum (c : Dev nD) (h : AllFine m c) (t : Fin cfg0.N) (ht : t.val % 16 = 15) (r : Fin 512) (j : Fin 1024) :
    (outsAt0 m c t.val t.isLt).2.2.2.2.2.2 (ix2 r j)
      = val_main_v87 (F := Ideal) (X m c) (M m c) (WG m c) (BG m c) (WR m c) (BR m c) (W1 m c) (W3 m c) (W2 m c) (ix2 r j) := by
  have hl : t.val < 16 := t.isLt
  have e : t.val + 1 = 16 := by omega
  refine ((state m c h t.val t.isLt).2.2 r j).trans ?_
  rw [e, Finset.sum_range, Cert.MoeRefIdeal.Mix.v87_at]
  refine Finset.sum_congr rfl fun e _ => ?_
  unfold partAt part
  rw [dif_pos e.isLt]

theorem block9_at (c : Dev nD) (h : AllFine m c) (t : Fin cfg0.N) (ht : t.val % 16 = 15) (r : Fin 512) (j : Fin 1024) : (outsAt0 m c t.val t.isLt).1 (ix2 r j)
    = val_main_v120 (F := Ideal) (X m c) (M m c) (WG m c) (BG m c) (WR m c) (BR m c) (W1 m c) (W3 m c) (W2 m c) (G m c) (B m c) (ix2 r j) := by
  refine (congrFun (last_out m c t ht) _).trans ((pay2_at (iblk m c 1 t) (iblk m c 0 t) _ (iblk m c 7 t) (iblk m c 8 t) r j).trans ?_)
  rw [Cert.MoeRefIdeal.Mix.v120_at]
  have hz : (fun j : Fin 1024 => Ideal.ofBits FTy.f32 1071072509#32 * (show EReal from iblk m c 0 t (ix2 r j)) + (show EReal from iblk m c 1 t (ix3 0 ⟨r.val % 128, by omega⟩ ⟨2048 + j.val, by omega⟩))
        * (show EReal from (outsAt0 m c t.val t.isLt).2.2.2.2.2.2 (ix2 r j)))
      = fun j => Ideal.ofBits FTy.f32 1071072509#32 * X m c (ix2 r j) + M m c (ix3 7 ⟨r.val % 128, by omega⟩ ⟨2048 + j.val, by omega⟩)
        * val_main_v87 (F := Ideal) (X m c) (M m c) (WG m c) (BG m c) (WR m c) (BR m c) (W1 m c) (W3 m c) (W2 m c) (ix2 r j) := funext fun j =>
    congrArg₂ (fun a b : EReal => a + b) (congrArg (fun a : EReal => Ideal.ofBits FTy.f32 1071072509#32 * a) (iblk0_at m c t r j))
      (congrArg₂ (fun a b : EReal => a * b) (iblk1_at m c t _ _) (whole_sum m c h t ht r j))
  exact (congrArg₂ (fun a b => normed _ a b j) (iblk7_at m c t j) (iblk8_at m c t j)).trans (congrArg (fun z => normed z _ _ j) hz)

/-! The four results after the call. -/

/-- The reference's first result from equal arguments. -/
theorem mixed_read {x0 a0 : FVec Ideal S512x1024 .f32} {x1 a1 : FVec Ideal S8x128x3072 .f32} {x2 a2 : FVec Ideal S4x1024x4 .f32} {x3 a3 : FVec Ideal S4x4 .f32} {x4 a4 : FVec Ideal S4x1024x4x4 .f32} {x5 a5 : FVec Ideal S4x4x4 .f32} {x6 a6 : FVec Ideal S4x16x1024x512 .f32} {x7 a7 : FVec Ideal S4x16x1024x512 .f32} {x8 a8 : FVec Ideal S4x16x512x1024 .f32} {x9 a9 : FVec Ideal S4x2x1024 .f32} {x10 a10 : FVec Ideal S4x2x1024 .f32}
    (e0 : x0 = a0) (e1 : x1 = a1) (e2 : x2 = a2) (e3 : x3 = a3) (e4 : x4 = a4) (e5 : x5 = a5) (e6 : x6 = a6) (e7 : x7 = a7) (e8 : x8 = a8) (e9 : x9 = a9) (e10 : x10 = a10) :
    val_main_v120 (F := Ideal) x0 x1 x2 x3 x4 x5 x6 x7 x8 x9 x10 = val_main_v120 (F := Ideal) a0 a1 a2 a3 a4 a5 a6 a7 a8 a9 a10 := by
  subst e0 e1 e2 e3 e4 e5 e6 e7 e8 e9 e10
  rfl

theorem final9 (c : Dev nD) (h : AllFine m c) : (dats m 0 c).arrAt 9 cfg0.N
    = val_main_v120 (F := Ideal) (X m c) (M m c) (WG m c) (BG m c) (WR m c) (BR m c) (W1 m c) (W3 m c) (W2 m c) (G m c) (B m c) := by
  refine (dats m 0 c).arrAt_eq_of_emb 9 _ (fun t hf y => ?_) (fun i => ?_)
  · rw [after0_9]
    refine (cast_eq _ _).trans ?_
    have key : ∀ y : S512x1024.Idx, (outsAt0 m c t.val t.isLt).1 y
        = val_main_v120 (F := Ideal) (X m c) (M m c) (WG m c) (BG m c) (WR m c) (BR m c) (W1 m c) (W3 m c) (W2 m c) (G m c) (B m c) (((cfg0.win 9).blk t).view.emb y) := by
      intro y
      idx_vars y
      exact (block9_at m c h t ((flush0_9 t).mp hf) _ _).trans (congrArg _ (idx_9 t _ _)).symm
    exact key y
  · idx_vars i
    have ht : (15 : ℕ) < cfg0.N := by decide
    refine ⟨⟨15, ht⟩, (flush0_9 ⟨15, ht⟩).mpr rfl, ?_⟩
    exact Eq.mp (congrArg (fun z => z ∈ ((cfg0.win 9).blk ⟨15, ht⟩).view.set) (idx_9 ⟨15, ht⟩ i0 i1)) (View.emb_mem_set ((cfg0.win 9).blk ⟨15, ht⟩).view (ix2 i0 i1))

theorem final10 (c : Dev nD) : (dats m 0 c).arrAt 10 cfg0.N = val_main_v121 (F := Ideal) (W1 m c) := by
  refine (dats m 0 c).arrAt_eq_of_emb 10 _ (fun t _ y => ?_) (fun i => ?_)
  · rw [after0_10]
    refine (cast_eq _ _).trans ?_
    have key : ∀ y : S1x1024x512.Idx, (outsAt0 m c t.val t.isLt).2.1 y = val_main_v121 (F := Ideal) (W1 m c) (((cfg0.win 10).blk t).view.emb y) := by
      intro y
      idx_vars y
      obtain rfl : y0 = 0 := Subsingleton.elim _ _
      exact (congrFun (out_w1 m c t) _).trans ((pay22_at _ _ _).trans ((iblk4_at m c t _ _).trans
        ((Cert.MoeRefIdeal.Mix.v121_at (W1 m c) _ _ _).symm.trans (congrArg _ (idx_10 t _ _)).symm)))
    exact key y
  · idx_vars i
    refine ⟨⟨i0.val, i0.isLt⟩, flush0_10 _, Set.mem_of_eq_of_mem ?_ (View.emb_mem_set _ (ix3 0 i1 i2))⟩
    exact (idx_10 _ _ _).symm

theorem final11 (c : Dev nD) : (dats m 0 c).arrAt 11 cfg0.N = val_main_v122 (F := Ideal) (W3 m c) := by
  refine (dats m 0 c).arrAt_eq_of_emb 11 _ (fun t _ y => ?_) (fun i => ?_)
  · rw [after0_11]
    refine (cast_eq _ _).trans ?_
    have key : ∀ y : S1x1024x512.Idx, (outsAt0 m c t.val t.isLt).2.2.1 y = val_main_v122 (F := Ideal) (W3 m c) (((cfg0.win 11).blk t).view.emb y) := by
      intro y
      idx_vars y
      obtain rfl : y0 = 0 := Subsingleton.elim _ _
      exact (congrFun (out_w3 m c t) _).trans ((pay23_at _ _ _).trans ((iblk5_at m c t _ _).trans
        ((Cert.MoeRefIdeal.Mix.v122_at (W3 m c) _ _ _).symm.trans (congrArg _ (idx_11 t _ _)).symm)))
    exact key y
  · idx_vars i
    refine ⟨⟨i0.val, i0.isLt⟩, flush0_11 _, Set.mem_of_eq_of_mem ?_ (View.emb_mem_set _ (ix3 0 i1 i2))⟩
    exact (idx_11 _ _ _).symm

theorem final12 (c : Dev nD) : (dats m 0 c).arrAt 12 cfg0.N = val_main_v123 (F := Ideal) (W2 m c) := by
  refine (dats m 0 c).arrAt_eq_of_emb 12 _ (fun t _ y => ?_) (fun i => ?_)
  · rw [after0_12]
    refine (cast_eq _ _).trans ?_
    have key : ∀ y : S1x512x1024.Idx, (outsAt0 m c t.val t.isLt).2.2.2.1 y = val_main_v123 (F := Ideal) (W2 m c) (((cfg0.win 12).blk t).view.emb y) := by
      intro y
      idx_vars y
      obtain rfl : y0 = 0 := Subsingleton.elim _ _
      exact (congrFun (out_w2 m c t) _).trans ((pay24_at _ _ _).trans ((iblk6_at m c t _ _).trans
        ((Cert.MoeRefIdeal.Mix.v123_at (W2 m c) _ _ _).symm.trans (congrArg _ (idx_12 t _ _)).symm)))
    exact key y
  · idx_vars i
    refine ⟨⟨i0.val, i0.isLt⟩, flush0_12 _, Set.mem_of_eq_of_mem ?_ (View.emb_mem_set _ (ix3 0 i1 i2))⟩
    exact (idx_12 _ _ _).symm

end Cert.MoeIdeal.Mix

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Flash
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Flash
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Lru
public import proofs.«01_k».proof.Proof.Gen.Lru.Skeleton
public import proofs.«01_k».proof.Proof.Gen.Lru.Launch
public import proofs.«01_k».proof.Proof.Gen.Lru.Points
public import proofs.«01_k».proof.Proof.Gen.Lru.Frame
public import proofs.«01_k».proof.Proof.Gen.LruIdeal
public import proofs.«01_k».proof.Proof.Gen.LruIdeal.Skeleton
public import proofs.«01_k».proof.Proof.Gen.LruIdeal.Launch
public import proofs.«01_k».proof.Proof.Gen.LruIdeal.Points
public import proofs.«01_k».proof.Proof.Gen.LruIdeal.Frame
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.LruIdeal.Value
public import proofs.«01_k».proof.Proof.Gen.KvIdeal.Value
public import proofs.«01_k».proof.Proof.Gen.LruRefIdeal
public import proofs.«01_k».proof.Proof.Gen.LruRefIdeal.Run
public import proofs.«01_k».proof.Proof.Gen.LruRefIdeal.Read
public import proofs.«01_k».proof.Proof.Gen.KvRefIdeal
public import proofs.«01_k».proof.Proof.Gen.KvRefIdeal.Run
public import proofs.«01_k».proof.Proof.Gen.KvRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeIdeal.Value
public import proofs.«01_k».proof.Proof.Gen.MoeRefIdeal
public import proofs.«01_k».proof.Proof.Gen.MoeRefIdeal.Run
public import proofs.«01_k».proof.Proof.Gen.MoeRefIdeal.Read
public import proofs.«01_k».proof.Proof.FfnFrame
public import proofs.«01_k».proof.Proof.FfnBitsFrame
public import proofs.«01_k».proof.Proof.FfnRef
public import proofs.«01_k».proof.Proof.LruValue
public import proofs.«01_k».proof.Proof.KvValue
public import proofs.«01_k».proof.Proof.AdaValue
public import proofs.«01_k».proof.Proof.MoePre
public import proofs.«01_k».proof.Proof.MoeValue
public import Idealize.ShloMosaic.Lib.Claim
public import Idealize.ShloMosaic.Lib.Quiescent
public import proofs.«01_k».proof.Proof.Gen.Pre_routed
public import proofs.«01_k».proof.Proof.Gen.Pre_routable
public import Idealize.ShloMosaic.Adequacy
public import Idealize.ShloMosaic.Init

@[expose] public section

noncomputable section

namespace Cert.Proof

open Idealize.ShloMosaic Idealize.SL.Sem Cert.Ffn

/-- The call's frame as printed. -/
theorem frame_kernel : Cert.quiescent_Ffn := fun m ρ h =>
  (θ_run Cert.Ffn.defs _ _).mono (fun _ q => ⟨fun c => (q.1 c).2, q.2⟩)
    (Cert.Ffn.Moe.run_kept (F := Bits) m ρ (Cert.Ffn.Moe.ok_of m (Cert.Ffn.Moe.routed_of _ _ _ _ _ _ _ (h 0))))

/-- The call's frame over the extended reals. -/
theorem frame_ideal : Cert.quiescent_FfnIdeal := fun m ρ h =>
  (θ_run Cert.FfnIdeal.defs _ _).mono (fun _ q => ⟨fun c => (q.1 c).2, q.2⟩)
    (Cert.FfnIdeal.Moe.run_kept (F := Ideal) m ρ (Cert.FfnIdeal.Moe.ok_of m (Cert.FfnIdeal.Moe.routed_of _ _ _ _ _ _ _ (h 0))))

/-- The reference's frame. -/
theorem frame_reference : Cert.quiescent_FfnRefIdeal := fun m g _ =>
  (θ_run Cert.FfnRefIdeal.defs _ _).mono (fun r q => ⟨fun c => (q c).2, sem_eq_zero_of_no_sems rfl r.2⟩) (Cert.FfnRefIdeal.Value.run m g)

/-- Over the extended reals the call and the reference leave the same result. -/
theorem algebraic : Cert.algebraic_FfnIdeal_FfnRefIdeal := fun m g m' g' h hargs => by
  have hR : Cert.FfnIdeal.Moe.Routed (Cert.FfnIdeal.Moe.tbl m 0) (Cert.FfnIdeal.Moe.tbl m 1) := Cert.FfnIdeal.Moe.routed_of _ _ _ _ _ _ _ (h 0)
  have hO := Cert.FfnIdeal.Moe.ok_of m hR
  refine ⟨fun c => (Cert.FfnIdeal.Moe.dats m hO 0 c).arrAt 7 (Cert.FfnIdeal.Moe.cfgM m hO).N,
    (θ_run Cert.FfnIdeal.defs _ _).mono (fun _ q => q.1) (Cert.FfnIdeal.Moe.run_kept (F := Ideal) m g hO),
    (θ_run Cert.FfnRefIdeal.defs _ _).mono (fun r q c => ⟨(q c).1.trans ?_, (q c).2⟩) (Cert.FfnRefIdeal.Value.run m' g')⟩
  obtain rfl : c = 0 := Subsingleton.elim _ _
  obtain ⟨e0, e1, e2, e3, e4, e5, e6⟩ := hargs 0
  rw [Cert.FfnRefIdeal.Read.val_main_v43_eq, e0, e1, e2, e3, e4, e5, e6]
  exact (Cert.FfnRefIdeal.Moe.out_eq _ _ hR _ _ _ _ _).trans (Cert.FfnIdeal.Moe.final m hO hR 0).symm

/-- The recurrent layer's call: its frame as printed, its frame over the extended reals, its reference's frame. -/
theorem frame_lru : Cert.quiescent_Lru := fun m ρ _ => Cert.Lru.Gen.frame m ρ
theorem frame_lru_ideal : Cert.quiescent_LruIdeal := fun m ρ _ => Cert.LruIdeal.Gen.frame m ρ
theorem frame_lru_reference : Cert.quiescent_LruRefIdeal := fun m g _ =>
  (θ_run Cert.LruRefIdeal.defs _ _).mono (fun r q => ⟨fun c => (q c).2.2.2, sem_eq_zero_of_no_sems rfl r.2⟩) (Cert.LruRefIdeal.Value.run m g)

/-- The key and value projections' call: the same three. -/
theorem frame_kv : Cert.quiescent_Kv := fun m ρ _ => Cert.Kv.Gen.frame m ρ
theorem frame_kv_ideal : Cert.quiescent_KvIdeal := fun m ρ _ => Cert.KvIdeal.Gen.frame m ρ
theorem frame_kv_reference : Cert.quiescent_KvRefIdeal := fun m g _ =>
  (θ_run Cert.KvRefIdeal.defs _ _).mono (fun r q => ⟨fun c => (q c).2.2.2.2, sem_eq_zero_of_no_sems rfl r.2⟩) (Cert.KvRefIdeal.Value.run m g)

/-- Over the extended reals the recurrent layer's call and its reference leave the same three results. -/
theorem algebraic_lru : Cert.algebraic_LruIdeal_LruRefIdeal := fun m g m' g' _ hargs => by
  refine ⟨fun c => (Cert.LruIdeal.Gen.dats m 0 c).arrAt 15 Cert.LruIdeal.cfg0.N, fun c => (Cert.LruIdeal.Gen.dats m 0 c).arrAt 16 Cert.LruIdeal.cfg0.N,
    fun c => (Cert.LruIdeal.Gen.dats m 0 c).arrAt 17 Cert.LruIdeal.cfg0.N, Cert.LruIdeal.Value.run_blocks (F := Ideal) m g,
    (θ_run Cert.LruRefIdeal.defs _ _).mono (fun r q c => ⟨(q c).1.trans ?_, (q c).2.1.trans ?_, (q c).2.2.1.trans ?_, (q c).2.2.2⟩)
      (Cert.LruRefIdeal.Value.run m' g')⟩
  all_goals
    obtain rfl : c = 0 := Subsingleton.elim _ _
    obtain ⟨e0, e1, e2, e3, e4, e5, e6, e7, e8, e9, e10, e11, e12, e13, e14⟩ := hargs 0
  · exact (Cert.LruRefIdeal.Read.val_main_v209_eq _).trans
      ((Cert.LruRefIdeal.Rec.normed_read e0 e1 e2 e3 e4 e5 e6 e7 e8 e9 e10 e11 e12 e13 e14).trans (Cert.LruIdeal.Rec.final15 m 0).symm)
  · exact (Cert.LruRefIdeal.Read.val_main_v211_eq _).trans ((Cert.LruRefIdeal.Rec.last_read e0 e1 e2 e3 e4 e5 e6 e7 e8 e9 e10 e11).trans (Cert.LruIdeal.Rec.final16 m 0).symm)
  · exact (Cert.LruRefIdeal.Read.val_main_v214_eq _).trans ((Cert.LruRefIdeal.Rec.tail_read e0 e1 e3 e4).trans (Cert.LruIdeal.Rec.final17 m 0).symm)

/-- Over the extended reals the projections' call and its reference leave the same four results. -/
theorem algebraic_kv : Cert.algebraic_KvIdeal_KvRefIdeal := fun m g m' g' _ hargs => by
  refine ⟨fun c => (Cert.KvIdeal.Gen.dats m 0 c).arrAt 3 Cert.KvIdeal.cfg0.N, fun c => (Cert.KvIdeal.Gen.dats m 0 c).arrAt 4 Cert.KvIdeal.cfg0.N,
    fun c => (Cert.KvIdeal.Gen.dats m 0 c).arrAt 5 Cert.KvIdeal.cfg0.N, fun c => (Cert.KvIdeal.Gen.dats m 0 c).arrAt 6 Cert.KvIdeal.cfg0.N,
    Cert.KvIdeal.Value.run_blocks (F := Ideal) m g,
    (θ_run Cert.KvRefIdeal.defs _ _).mono (fun r q c => ⟨(q c).1.trans ?_, (q c).2.1.trans ?_, (q c).2.2.1.trans ?_, (q c).2.2.2.1.trans ?_, (q c).2.2.2.2⟩)
      (Cert.KvRefIdeal.Value.run m' g')⟩
  all_goals
    obtain rfl : c = 0 := Subsingleton.elim _ _
    obtain ⟨e0, e1⟩ := hargs 0
    rw [e0, e1]
  · exact (Cert.KvRefIdeal.Proj.k_eq _ _).trans (Cert.KvIdeal.Proj.final3 m 0).symm
  · exact (Cert.KvRefIdeal.Proj.v_eq _ _).trans (Cert.KvIdeal.Proj.final4 m 0).symm
  · exact (Cert.KvRefIdeal.Proj.kb_eq _ _).trans (Cert.KvIdeal.Proj.final5 m 0).symm
  · exact (Cert.KvRefIdeal.Proj.vt_eq _ _).trans (Cert.KvIdeal.Proj.final6 m 0).symm

/-- The adaptive layer norms' call: the same three. -/
theorem frame_ada : Cert.quiescent_Ada := fun m ρ _ => Cert.Ada.Gen.frame m ρ
theorem frame_ada_ideal : Cert.quiescent_AdaIdeal := fun m ρ _ => Cert.AdaIdeal.Gen.frame m ρ
theorem frame_ada_reference : Cert.quiescent_AdaRefIdeal := fun m g _ =>
  (θ_run Cert.AdaRefIdeal.defs _ _).mono (fun r q => ⟨fun c => (q c).2.2, sem_eq_zero_of_no_sems rfl r.2⟩) (Cert.AdaRefIdeal.Value.run m g)

/-- Over the extended reals that call and its reference leave the same two results. -/
theorem algebraic_ada : Cert.algebraic_AdaIdeal_AdaRefIdeal := fun m g m' g' _ hargs => by
  refine ⟨fun c => (Cert.AdaIdeal.Gen.dats m 0 c).arrAt 4 Cert.AdaIdeal.cfg0.N, fun c => (Cert.AdaIdeal.Gen.dats m 0 c).arrAt 5 Cert.AdaIdeal.cfg0.N,
    Cert.AdaIdeal.Value.run_blocks (F := Ideal) m g,
    (θ_run Cert.AdaRefIdeal.defs _ _).mono (fun r q c => ⟨(q c).1.trans ?_, (q c).2.1.trans ?_, (q c).2.2⟩) (Cert.AdaRefIdeal.Value.run m' g')⟩
  all_goals
    obtain rfl : c = 0 := Subsingleton.elim _ _
    obtain ⟨e0, e1, e2, e3⟩ := hargs 0
  · rw [Cert.AdaRefIdeal.Read.val_main_v13_eq, e0, e2, e3]
    exact (Cert.AdaRefIdeal.Mod.prompt_eq _ _ _).trans (Cert.AdaIdeal.Mod.final4 m 0).symm
  · rw [Cert.AdaRefIdeal.Read.val_main_v27_eq, e1, e2, e3]
    exact (Cert.AdaRefIdeal.Mod.sample_eq _ _ _).trans (Cert.AdaIdeal.Mod.final5 m 0).symm

/-- The expert layer's call: the same three. -/
theorem frame_moe : Cert.quiescent_Moe := fun m ρ _ => Cert.Moe.Gen.frame m ρ
theorem frame_moe_ideal : Cert.quiescent_MoeIdeal := fun m ρ _ => Cert.MoeIdeal.Gen.frame m ρ
theorem frame_moe_reference : Cert.quiescent_MoeRefIdeal := fun m g _ =>
  (θ_run Cert.MoeRefIdeal.defs _ _).mono (fun r q => ⟨fun c => (q c).2.2.2.2, sem_eq_zero_of_no_sems rfl r.2⟩) (Cert.MoeRefIdeal.Value.run m g)

/-- Over the extended reals, where every routing score is a number above the kernel's padding, that call and its reference leave the same four results. -/
theorem algebraic_moe : Cert.algebraic_MoeIdeal_MoeRefIdeal_pre_routable := fun m g m' g' h hargs => by
  have hfine : Cert.MoeIdeal.Mix.AllFine m 0 := Cert.MoeRefIdeal.Mix.fine_of _ _ _ _ _ _ _ _ _ _ _ (h 0)
  refine ⟨fun c => (Cert.MoeIdeal.Gen.dats m 0 c).arrAt 9 Cert.MoeIdeal.cfg0.N, fun c => (Cert.MoeIdeal.Gen.dats m 0 c).arrAt 10 Cert.MoeIdeal.cfg0.N,
    fun c => (Cert.MoeIdeal.Gen.dats m 0 c).arrAt 11 Cert.MoeIdeal.cfg0.N, fun c => (Cert.MoeIdeal.Gen.dats m 0 c).arrAt 12 Cert.MoeIdeal.cfg0.N,
    Cert.MoeIdeal.Value.run_blocks (F := Ideal) m g,
    (θ_run Cert.MoeRefIdeal.defs _ _).mono (fun r q c => ⟨(q c).1.trans ?_, (q c).2.1.trans ?_, (q c).2.2.1.trans ?_, (q c).2.2.2.1.trans ?_, (q c).2.2.2.2⟩)
      (Cert.MoeRefIdeal.Value.run m' g')⟩
  all_goals
    obtain rfl : c = 0 := Subsingleton.elim _ _
    obtain ⟨e0, e1, e2, e3, e4, e5, e6, e7, e8, e9, e10⟩ := hargs 0
  · exact (Cert.MoeRefIdeal.Read.val_main_v120_eq _).trans
      ((Cert.MoeIdeal.Mix.mixed_read e0 e1 e2 e3 e4 e5 e6 e7 e8 e9 e10).trans (Cert.MoeIdeal.Mix.final9 m 0 hfine).symm)
  · exact (Cert.MoeRefIdeal.Read.val_main_v121_eq _).trans ((congrArg _ e6).trans (Cert.MoeIdeal.Mix.final10 m 0).symm)
  · exact (Cert.MoeRefIdeal.Read.val_main_v122_eq _).trans ((congrArg _ e7).trans (Cert.MoeIdeal.Mix.final11 m 0).symm)
  · exact (Cert.MoeRefIdeal.Read.val_main_v123_eq _).trans ((congrArg _ e8).trans (Cert.MoeIdeal.Mix.final12 m 0).symm)

theorem claim : Cert.Claim := ⟨Cert.Ffn.Gen.facts, Cert.FfnIdeal.Gen.facts, Cert.FfnRefIdeal.Gen.facts, Cert.Lru.Gen.facts, Cert.LruIdeal.Gen.facts,
  Cert.LruRefIdeal.Gen.facts, Cert.Kv.Gen.facts, Cert.KvIdeal.Gen.facts, Cert.KvRefIdeal.Gen.facts,
  Cert.Ada.Gen.facts, Cert.AdaIdeal.Gen.facts, Cert.AdaRefIdeal.Gen.facts,
  Cert.Moe.Gen.facts, Cert.MoeIdeal.Gen.facts, Cert.MoeRefIdeal.Gen.facts, Cert.Pre_routed.Gen.facts, Cert.Pre_routable.Gen.facts,
  frame_kernel, frame_ideal, frame_reference, fun m g _ => frame_reference m g trivial, frame_lru, frame_lru_ideal, frame_lru_reference,
  frame_kv, frame_kv_ideal, frame_kv_reference, frame_ada, frame_ada_ideal, frame_ada_reference,
  frame_moe, frame_moe_ideal, fun m g _ => frame_moe_ideal m g trivial, frame_moe_reference, fun m g _ => frame_moe_reference m g trivial,
  trivial, algebraic, trivial, algebraic_lru, trivial, algebraic_kv, trivial, algebraic_ada, trivial, algebraic_moe⟩

end Cert.Proof

end
